-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inputs_finite [hPre_inputs_finite : Cert.Pre_inputs_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inputs_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).1 = (fun _ => 1#1)
    ∧ (Cert.Pre_inputs_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))).2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inputs_finite [hPre_inputs_finite : Cert.Pre_inputs_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inputs_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).1 = (fun _ => 1#1)
    ∧ (Cert.Pre_inputs_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))).2 = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleRefIdeal (m : (ℓ : Loc Cert.AttnSampleRefIdeal.nD Cert.AttnSampleRefIdeal.τ Cert.AttnSampleRefIdeal.sig) → Buf (Elt Ideal) ℓ) : Prop :=
  True

def Pre_SsdSample (m : (ℓ : Loc Cert.SsdSample.nD Cert.SsdSample.τ Cert.SsdSample.sig) → Buf (Elt Bits) ℓ) : Prop :=
  True

def Pre_SsdSampleIdeal (m : (ℓ : Loc Cert.SsdSampleIdeal.nD Cert.SsdSampleIdeal.τ Cert.SsdSampleIdeal.sig) → Buf (Elt Ideal) ℓ) : Prop :=
  True

def Pre_SsdSampleRefIdeal (m : (ℓ : Loc Cert.SsdSampleRefIdeal.nD Cert.SsdSampleRefIdeal.τ Cert.SsdSampleRefIdeal.sig) → Buf (Elt Ideal) ℓ) : Prop :=
  True

def Pre_MoeSample (m : (ℓ : Loc Cert.MoeSample.nD Cert.MoeSample.τ Cert.MoeSample.sig) → Buf (Elt Bits) ℓ) : Prop :=
  True

def Pre_MoeSampleIdeal (m : (ℓ : Loc Cert.MoeSampleIdeal.nD Cert.MoeSampleIdeal.τ Cert.MoeSampleIdeal.sig) → Buf (Elt Ideal) ℓ) : Prop :=
  True

def Pre_MoeSampleRefIdeal (m : (ℓ : Loc Cert.MoeSampleRefIdeal.nD Cert.MoeSampleRefIdeal.τ Cert.MoeSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_inputs_finite [hInprojIdeal : Cert.InprojIdeal.Facts] [hPre_inputs_finite : Cert.Pre_inputs_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inputs_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_inputs_finite [hInprojRefIdeal : Cert.InprojRefIdeal.Facts] [hPre_inputs_finite : Cert.Pre_inputs_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inputs_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3)
      ∧ r.2.mem ((c.tc : Thread Cert.AttnSample.nD Cert.AttnSample.τ).loc Cert.AttnSample.main_arg4) = m ((c.tc : Thread Cert.AttnSample.nD Cert.AttnSample.τ).loc Cert.AttnSample.main_arg4)
      ∧ r.2.mem ((c.tc : Thread Cert.AttnSample.nD Cert.AttnSample.τ).loc Cert.AttnSample.main_arg5) = m ((c.tc : Thread Cert.AttnSample.nD Cert.AttnSample.τ).loc Cert.AttnSample.main_arg5))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4)
      ∧ r.2.mem ((c.tc : Thread Cert.AttnSampleRefIdeal.nD Cert.AttnSampleRefIdeal.τ).loc Cert.AttnSampleRefIdeal.main_arg5) = m ((c.tc : Thread Cert.AttnSampleRefIdeal.nD Cert.AttnSampleRefIdeal.τ).loc Cert.AttnSampleRefIdeal.main_arg5))
      ∧ r.2.sem = fun _ => 0)

def quiescent_SsdSample [hSsdSample : Cert.SsdSample.Facts] : Prop :=
  ∀ (m : (ℓ : Loc Cert.SsdSample.nD Cert.SsdSample.τ Cert.SsdSample.sig) → Buf (Elt Bits) ℓ) (g : Dev Cert.SsdSample.nD → PrngReg), Pre_SsdSample m →
    θ_run (Cert.SsdSample.defs (F := Bits)) (onTc (τ := Cert.SsdSample.τ) (Cert.SsdSample.main (F := Bits))) ⟨m, fun _ => 0, g⟩ (fun r => (∀ c : Dev Cert.SsdSample.nD,
      r.2.mem ((c.tc : Thread Cert.SsdSample.nD Cert.SsdSample.τ).loc Cert.SsdSample.main_arg0) = m ((c.tc : Thread Cert.SsdSample.nD Cert.SsdSample.τ).loc Cert.SsdSample.main_arg0)
      ∧ r.2.mem ((c.tc : Thread Cert.SsdSample.nD Cert.SsdSample.τ).loc Cert.SsdSample.main_arg1) = m ((c.tc : Thread Cert.SsdSample.nD Cert.SsdSample.τ).loc Cert.SsdSample.main_arg1)
      ∧ r.2.mem ((c.tc : Thread Cert.SsdSample.nD Cert.SsdSample.τ).loc Cert.SsdSample.main_arg2) = m ((c.tc : Thread Cert.SsdSample.nD Cert.SsdSample.τ).loc Cert.SsdSample.main_arg2)
      ∧ r.2.mem ((c.tc : Thread Cert.SsdSample.nD Cert.SsdSample.τ).loc Cert.SsdSample.main_arg3) = m ((c.tc : Thread Cert.SsdSample.nD Cert.SsdSample.τ).loc Cert.SsdSample.main_arg3)
      ∧ r.2.mem ((c.tc : Thread Cert.SsdSample.nD Cert.SsdSample.τ).loc Cert.SsdSample.main_arg4) = m ((c.tc : Thread Cert.SsdSample.nD Cert.SsdSample.τ).loc Cert.SsdSample.main_arg4)
      ∧ r.2.mem ((c.tc : Thread Cert.SsdSample.nD Cert.SsdSample.τ).loc Cert.SsdSample.main_arg5) = m ((c.tc : Thread Cert.SsdSample.nD Cert.SsdSample.τ).loc Cert.SsdSample.main_arg5)
      ∧ r.2.mem ((c.tc : Thread Cert.SsdSample.nD Cert.SsdSample.τ).loc Cert.SsdSample.main_arg6) = m ((c.tc : Thread Cert.SsdSample.nD Cert.SsdSample.τ).loc Cert.SsdSample.main_arg6)
      ∧ r.2.mem ((c.tc : Thread Cert.SsdSample.nD Cert.SsdSample.τ).loc Cert.SsdSample.main_arg7) = m ((c.tc : Thread Cert.SsdSample.nD Cert.SsdSample.τ).loc Cert.SsdSample.main_arg7)
      ∧ r.2.mem ((c.tc : Thread Cert.SsdSample.nD Cert.SsdSample.τ).loc Cert.SsdSample.main_arg8) = m ((c.tc : Thread Cert.SsdSample.nD Cert.SsdSample.τ).loc Cert.SsdSample.main_arg8)
      ∧ r.2.mem ((c.tc : Thread Cert.SsdSample.nD Cert.SsdSample.τ).loc Cert.SsdSample.main_arg9) = m ((c.tc : Thread Cert.SsdSample.nD Cert.SsdSample.τ).loc Cert.SsdSample.main_arg9)
      ∧ r.2.mem ((c.tc : Thread Cert.SsdSample.nD Cert.SsdSample.τ).loc Cert.SsdSample.main_arg10) = m ((c.tc : Thread Cert.SsdSample.nD Cert.SsdSample.τ).loc Cert.SsdSample.main_arg10))
      ∧ r.2.sem = fun _ => 0)

def quiescent_SsdSampleIdeal [hSsdSampleIdeal : Cert.SsdSampleIdeal.Facts] : Prop :=
  ∀ (m : (ℓ : Loc Cert.SsdSampleIdeal.nD Cert.SsdSampleIdeal.τ Cert.SsdSampleIdeal.sig) → Buf (Elt Ideal) ℓ) (g : Dev Cert.SsdSampleIdeal.nD → PrngReg), Pre_SsdSampleIdeal m →
    θ_run (Cert.SsdSampleIdeal.defs (F := Ideal)) (onTc (τ := Cert.SsdSampleIdeal.τ) (Cert.SsdSampleIdeal.main (F := Ideal))) ⟨m, fun _ => 0, g⟩ (fun r => (∀ c : Dev Cert.SsdSampleIdeal.nD,
      r.2.mem ((c.tc : Thread Cert.SsdSampleIdeal.nD Cert.SsdSampleIdeal.τ).loc Cert.SsdSampleIdeal.main_arg0) = m ((c.tc : Thread Cert.SsdSampleIdeal.nD Cert.SsdSampleIdeal.τ).loc Cert.SsdSampleIdeal.main_arg0)
      ∧ r.2.mem ((c.tc : Thread Cert.SsdSampleIdeal.nD Cert.SsdSampleIdeal.τ).loc Cert.SsdSampleIdeal.main_arg1) = m ((c.tc : Thread Cert.SsdSampleIdeal.nD Cert.SsdSampleIdeal.τ).loc Cert.SsdSampleIdeal.main_arg1)
      ∧ r.2.mem ((c.tc : Thread Cert.SsdSampleIdeal.nD Cert.SsdSampleIdeal.τ).loc Cert.SsdSampleIdeal.main_arg2) = m ((c.tc : Thread Cert.SsdSampleIdeal.nD Cert.SsdSampleIdeal.τ).loc Cert.SsdSampleIdeal.main_arg2)
      ∧ r.2.mem ((c.tc : Thread Cert.SsdSampleIdeal.nD Cert.SsdSampleIdeal.τ).loc Cert.SsdSampleIdeal.main_arg3) = m ((c.tc : Thread Cert.SsdSampleIdeal.nD Cert.SsdSampleIdeal.τ).loc Cert.SsdSampleIdeal.main_arg3)
      ∧ r.2.mem ((c.tc : Thread Cert.SsdSampleIdeal.nD Cert.SsdSampleIdeal.τ).loc Cert.SsdSampleIdeal.main_arg4) = m ((c.tc : Thread Cert.SsdSampleIdeal.nD Cert.SsdSampleIdeal.τ).loc Cert.SsdSampleIdeal.main_arg4)
      ∧ r.2.mem ((c.tc : Thread Cert.SsdSampleIdeal.nD Cert.SsdSampleIdeal.τ).loc Cert.SsdSampleIdeal.main_arg5) = m ((c.tc : Thread Cert.SsdSampleIdeal.nD Cert.SsdSampleIdeal.τ).loc Cert.SsdSampleIdeal.main_arg5)
      ∧ r.2.mem ((c.tc : Thread Cert.SsdSampleIdeal.nD Cert.SsdSampleIdeal.τ).loc Cert.SsdSampleIdeal.main_arg6) = m ((c.tc : Thread Cert.SsdSampleIdeal.nD Cert.SsdSampleIdeal.τ).loc Cert.SsdSampleIdeal.main_arg6)
      ∧ r.2.mem ((c.tc : Thread Cert.SsdSampleIdeal.nD Cert.SsdSampleIdeal.τ).loc Cert.SsdSampleIdeal.main_arg7) = m ((c.tc : Thread Cert.SsdSampleIdeal.nD Cert.SsdSampleIdeal.τ).loc Cert.SsdSampleIdeal.main_arg7)
      ∧ r.2.mem ((c.tc : Thread Cert.SsdSampleIdeal.nD Cert.SsdSampleIdeal.τ).loc Cert.SsdSampleIdeal.main_arg8) = m ((c.tc : Thread Cert.SsdSampleIdeal.nD Cert.SsdSampleIdeal.τ).loc Cert.SsdSampleIdeal.main_arg8)
      ∧ r.2.mem ((c.tc : Thread Cert.SsdSampleIdeal.nD Cert.SsdSampleIdeal.τ).loc Cert.SsdSampleIdeal.main_arg9) = m ((c.tc : Thread Cert.SsdSampleIdeal.nD Cert.SsdSampleIdeal.τ).loc Cert.SsdSampleIdeal.main_arg9)
      ∧ r.2.mem ((c.tc : Thread Cert.SsdSampleIdeal.nD Cert.SsdSampleIdeal.τ).loc Cert.SsdSampleIdeal.main_arg10) = m ((c.tc : Thread Cert.SsdSampleIdeal.nD Cert.SsdSampleIdeal.τ).loc Cert.SsdSampleIdeal.main_arg10))
      ∧ r.2.sem = fun _ => 0)

def quiescent_SsdSampleRefIdeal [hSsdSampleRefIdeal : Cert.SsdSampleRefIdeal.Facts] : Prop :=
  ∀ (m : (ℓ : Loc Cert.SsdSampleRefIdeal.nD Cert.SsdSampleRefIdeal.τ Cert.SsdSampleRefIdeal.sig) → Buf (Elt Ideal) ℓ) (g : Dev Cert.SsdSampleRefIdeal.nD → PrngReg), Pre_SsdSampleRefIdeal m →
    θ_run (Cert.SsdSampleRefIdeal.defs (F := Ideal)) (onTc (τ := Cert.SsdSampleRefIdeal.τ) (Cert.SsdSampleRefIdeal.main (F := Ideal))) ⟨m, fun _ => 0, g⟩ (fun r => (∀ c : Dev Cert.SsdSampleRefIdeal.nD,
      r.2.mem ((c.tc : Thread Cert.SsdSampleRefIdeal.nD Cert.SsdSampleRefIdeal.τ).loc Cert.SsdSampleRefIdeal.main_arg0) = m ((c.tc : Thread Cert.SsdSampleRefIdeal.nD Cert.SsdSampleRefIdeal.τ).loc Cert.SsdSampleRefIdeal.main_arg0)
      ∧ r.2.mem ((c.tc : Thread Cert.SsdSampleRefIdeal.nD Cert.SsdSampleRefIdeal.τ).loc Cert.SsdSampleRefIdeal.main_arg1) = m ((c.tc : Thread Cert.SsdSampleRefIdeal.nD Cert.SsdSampleRefIdeal.τ).loc Cert.SsdSampleRefIdeal.main_arg1)
      ∧ r.2.mem ((c.tc : Thread Cert.SsdSampleRefIdeal.nD Cert.SsdSampleRefIdeal.τ).loc Cert.SsdSampleRefIdeal.main_arg2) = m ((c.tc : Thread Cert.SsdSampleRefIdeal.nD Cert.SsdSampleRefIdeal.τ).loc Cert.SsdSampleRefIdeal.main_arg2)
      ∧ r.2.mem ((c.tc : Thread Cert.SsdSampleRefIdeal.nD Cert.SsdSampleRefIdeal.τ).loc Cert.SsdSampleRefIdeal.main_arg3) = m ((c.tc : Thread Cert.SsdSampleRefIdeal.nD Cert.SsdSampleRefIdeal.τ).loc Cert.SsdSampleRefIdeal.main_arg3)
      ∧ r.2.mem ((c.tc : Thread Cert.SsdSampleRefIdeal.nD Cert.SsdSampleRefIdeal.τ).loc Cert.SsdSampleRefIdeal.main_arg4) = m ((c.tc : Thread Cert.SsdSampleRefIdeal.nD Cert.SsdSampleRefIdeal.τ).loc Cert.SsdSampleRefIdeal.main_arg4)
      ∧ r.2.mem ((c.tc : Thread Cert.SsdSampleRefIdeal.nD Cert.SsdSampleRefIdeal.τ).loc Cert.SsdSampleRefIdeal.main_arg5) = m ((c.tc : Thread Cert.SsdSampleRefIdeal.nD Cert.SsdSampleRefIdeal.τ).loc Cert.SsdSampleRefIdeal.main_arg5)
      ∧ r.2.mem ((c.tc : Thread Cert.SsdSampleRefIdeal.nD Cert.SsdSampleRefIdeal.τ).loc Cert.SsdSampleRefIdeal.main_arg6) = m ((c.tc : Thread Cert.SsdSampleRefIdeal.nD Cert.SsdSampleRefIdeal.τ).loc Cert.SsdSampleRefIdeal.main_arg6)
      ∧ r.2.mem ((c.tc : Thread Cert.SsdSampleRefIdeal.nD Cert.SsdSampleRefIdeal.τ).loc Cert.SsdSampleRefIdeal.main_arg7) = m ((c.tc : Thread Cert.SsdSampleRefIdeal.nD Cert.SsdSampleRefIdeal.τ).loc Cert.SsdSampleRefIdeal.main_arg7)
      ∧ r.2.mem ((c.tc : Thread Cert.SsdSampleRefIdeal.nD Cert.SsdSampleRefIdeal.τ).loc Cert.SsdSampleRefIdeal.main_arg8) = m ((c.tc : Thread Cert.SsdSampleRefIdeal.nD Cert.SsdSampleRefIdeal.τ).loc Cert.SsdSampleRefIdeal.main_arg8)
      ∧ r.2.mem ((c.tc : Thread Cert.SsdSampleRefIdeal.nD Cert.SsdSampleRefIdeal.τ).loc Cert.SsdSampleRefIdeal.main_arg9) = m ((c.tc : Thread Cert.SsdSampleRefIdeal.nD Cert.SsdSampleRefIdeal.τ).loc Cert.SsdSampleRefIdeal.main_arg9)
      ∧ r.2.mem ((c.tc : Thread Cert.SsdSampleRefIdeal.nD Cert.SsdSampleRefIdeal.τ).loc Cert.SsdSampleRefIdeal.main_arg10) = m ((c.tc : Thread Cert.SsdSampleRefIdeal.nD Cert.SsdSampleRefIdeal.τ).loc Cert.SsdSampleRefIdeal.main_arg10))
      ∧ r.2.sem = fun _ => 0)

def quiescent_MoeSample [hMoeSample : Cert.MoeSample.Facts] : Prop :=
  ∀ (m : (ℓ : Loc Cert.MoeSample.nD Cert.MoeSample.τ Cert.MoeSample.sig) → Buf (Elt Bits) ℓ) (g : Dev Cert.MoeSample.nD → PrngReg), Pre_MoeSample m →
    θ_run (Cert.MoeSample.defs (F := Bits)) (onTc (τ := Cert.MoeSample.τ) (Cert.MoeSample.main (F := Bits))) ⟨m, fun _ => 0, g⟩ (fun r => (∀ c : Dev Cert.MoeSample.nD,
      r.2.mem ((c.tc : Thread Cert.MoeSample.nD Cert.MoeSample.τ).loc Cert.MoeSample.main_arg0) = m ((c.tc : Thread Cert.MoeSample.nD Cert.MoeSample.τ).loc Cert.MoeSample.main_arg0)
      ∧ r.2.mem ((c.tc : Thread Cert.MoeSample.nD Cert.MoeSample.τ).loc Cert.MoeSample.main_arg1) = m ((c.tc : Thread Cert.MoeSample.nD Cert.MoeSample.τ).loc Cert.MoeSample.main_arg1)
      ∧ r.2.mem ((c.tc : Thread Cert.MoeSample.nD Cert.MoeSample.τ).loc Cert.MoeSample.main_arg2) = m ((c.tc : Thread Cert.MoeSample.nD Cert.MoeSample.τ).loc Cert.MoeSample.main_arg2)
      ∧ r.2.mem ((c.tc : Thread Cert.MoeSample.nD Cert.MoeSample.τ).loc Cert.MoeSample.main_arg3) = m ((c.tc : Thread Cert.MoeSample.nD Cert.MoeSample.τ).loc Cert.MoeSample.main_arg3)
      ∧ r.2.mem ((c.tc : Thread Cert.MoeSample.nD Cert.MoeSample.τ).loc Cert.MoeSample.main_arg4) = m ((c.tc : Thread Cert.MoeSample.nD Cert.MoeSample.τ).loc Cert.MoeSample.main_arg4)
      ∧ r.2.mem ((c.tc : Thread Cert.MoeSample.nD Cert.MoeSample.τ).loc Cert.MoeSample.main_arg5) = m ((c.tc : Thread Cert.MoeSample.nD Cert.MoeSample.τ).loc Cert.MoeSample.main_arg5))
      ∧ r.2.sem = fun _ => 0)

def quiescent_MoeSampleIdeal [hMoeSampleIdeal : Cert.MoeSampleIdeal.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg), Pre_MoeSampleIdeal m →
    θ_run (Cert.MoeSampleIdeal.defs (F := Ideal)) (onTc (τ := Cert.MoeSampleIdeal.τ) (Cert.MoeSampleIdeal.main (F := Ideal))) ⟨m, fun _ => 0, g⟩ (fun r => (∀ c : Dev Cert.MoeSampleIdeal.nD,
      r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
      ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
      ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
      ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
      ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
      ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5))
      ∧ r.2.sem = fun _ => 0)

def quiescent_MoeSampleRefIdeal [hMoeSampleRefIdeal : Cert.MoeSampleRefIdeal.Facts] : Prop :=
  ∀ (m : (ℓ : Loc Cert.MoeSampleRefIdeal.nD Cert.MoeSampleRefIdeal.τ Cert.MoeSampleRefIdeal.sig) → Buf (Elt Ideal) ℓ) (g : Dev Cert.MoeSampleRefIdeal.nD → PrngReg), Pre_MoeSampleRefIdeal m →
    θ_run (Cert.MoeSampleRefIdeal.defs (F := Ideal)) (onTc (τ := Cert.MoeSampleRefIdeal.τ) (Cert.MoeSampleRefIdeal.main (F := Ideal))) ⟨m, fun _ => 0, g⟩ (fun r => (∀ c : Dev Cert.MoeSampleRefIdeal.nD,
      r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
      ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
      ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
      ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
      ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
      ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v14)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v14) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v10) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Inproj_InprojIdeal : Prop :=
  True

def algebraic_InprojIdeal_InprojRefIdeal_pre_inputs_finite [hInprojIdeal : Cert.InprojIdeal.Facts] [hInprojRefIdeal : Cert.InprojRefIdeal.Facts] [hPre_inputs_finite : Cert.Pre_inputs_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inputs_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v65_0)) (v1 : (c : Dev Cert.InprojIdeal.nD) → Buf (Elt Ideal) ((c.tc : Thread Cert.InprojIdeal.nD Cert.InprojIdeal.τ).loc Cert.InprojIdeal.main_v65_1)) (v2 : (c : Dev Cert.InprojIdeal.nD) → Buf (Elt Ideal) ((c.tc : Thread Cert.InprojIdeal.nD Cert.InprojIdeal.τ).loc Cert.InprojIdeal.main_v65_2)) (v3 : (c : Dev Cert.InprojIdeal.nD) → Buf (Elt Ideal) ((c.tc : Thread Cert.InprojIdeal.nD Cert.InprojIdeal.τ).loc Cert.InprojIdeal.main_v65_3)) (v4 : (c : Dev Cert.InprojIdeal.nD) → Buf (Elt Ideal) ((c.tc : Thread Cert.InprojIdeal.nD Cert.InprojIdeal.τ).loc Cert.InprojIdeal.main_v65_4)) (v5 : (c : Dev Cert.InprojIdeal.nD) → Buf (Elt Ideal) ((c.tc : Thread Cert.InprojIdeal.nD Cert.InprojIdeal.τ).loc Cert.InprojIdeal.main_v65_5)) (v6 : (c : Dev Cert.InprojIdeal.nD) → Buf (Elt Ideal) ((c.tc : Thread Cert.InprojIdeal.nD Cert.InprojIdeal.τ).loc Cert.InprojIdeal.main_v69)) (v7 : (c : Dev Cert.InprojIdeal.nD) → Buf (Elt Ideal) ((c.tc : Thread Cert.InprojIdeal.nD Cert.InprojIdeal.τ).loc Cert.InprojIdeal.main_v71)) (v8 : (c : Dev Cert.InprojIdeal.nD) → Buf (Elt Ideal) ((c.tc : Thread Cert.InprojIdeal.nD Cert.InprojIdeal.τ).loc Cert.InprojIdeal.main_v74)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v65_0) = v0 c
          ∧ r.2.mem ((c.tc : Thread Cert.InprojIdeal.nD Cert.InprojIdeal.τ).loc Cert.InprojIdeal.main_v65_1) = v1 c
          ∧ r.2.mem ((c.tc : Thread Cert.InprojIdeal.nD Cert.InprojIdeal.τ).loc Cert.InprojIdeal.main_v65_2) = v2 c
          ∧ r.2.mem ((c.tc : Thread Cert.InprojIdeal.nD Cert.InprojIdeal.τ).loc Cert.InprojIdeal.main_v65_3) = v3 c
          ∧ r.2.mem ((c.tc : Thread Cert.InprojIdeal.nD Cert.InprojIdeal.τ).loc Cert.InprojIdeal.main_v65_4) = v4 c
          ∧ r.2.mem ((c.tc : Thread Cert.InprojIdeal.nD Cert.InprojIdeal.τ).loc Cert.InprojIdeal.main_v65_5) = v5 c
          ∧ r.2.mem ((c.tc : Thread Cert.InprojIdeal.nD Cert.InprojIdeal.τ).loc Cert.InprojIdeal.main_v69) = v6 c
          ∧ r.2.mem ((c.tc : Thread Cert.InprojIdeal.nD Cert.InprojIdeal.τ).loc Cert.InprojIdeal.main_v71) = v7 c
          ∧ r.2.mem ((c.tc : Thread Cert.InprojIdeal.nD Cert.InprojIdeal.τ).loc Cert.InprojIdeal.main_v74) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v137) = v0 c
          ∧ r.2.mem ((c.tc : Thread Cert.InprojRefIdeal.nD Cert.InprojRefIdeal.τ).loc Cert.InprojRefIdeal.main_v138) = v1 c
          ∧ r.2.mem ((c.tc : Thread Cert.InprojRefIdeal.nD Cert.InprojRefIdeal.τ).loc Cert.InprojRefIdeal.main_v139) = v2 c
          ∧ r.2.mem ((c.tc : Thread Cert.InprojRefIdeal.nD Cert.InprojRefIdeal.τ).loc Cert.InprojRefIdeal.main_v140) = v3 c
          ∧ r.2.mem ((c.tc : Thread Cert.InprojRefIdeal.nD Cert.InprojRefIdeal.τ).loc Cert.InprojRefIdeal.main_v141) = v4 c
          ∧ r.2.mem ((c.tc : Thread Cert.InprojRefIdeal.nD Cert.InprojRefIdeal.τ).loc Cert.InprojRefIdeal.main_v142) = v5 c
          ∧ r.2.mem ((c.tc : Thread Cert.InprojRefIdeal.nD Cert.InprojRefIdeal.τ).loc Cert.InprojRefIdeal.main_v143) = v6 c
          ∧ r.2.mem ((c.tc : Thread Cert.InprojRefIdeal.nD Cert.InprojRefIdeal.τ).loc Cert.InprojRefIdeal.main_v144) = v7 c
          ∧ r.2.mem ((c.tc : Thread Cert.InprojRefIdeal.nD Cert.InprojRefIdeal.τ).loc Cert.InprojRefIdeal.main_v145) = v8 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)) →
    ∃ (v0 : (c : Dev Cert.OutprojIdeal.nD) → Buf (Elt Ideal) ((c.tc : Thread Cert.OutprojIdeal.nD Cert.OutprojIdeal.τ).loc Cert.OutprojIdeal.main_v23_0)) (v1 : (c : Dev Cert.OutprojIdeal.nD) → Buf (Elt Ideal) ((c.tc : Thread Cert.OutprojIdeal.nD Cert.OutprojIdeal.τ).loc Cert.OutprojIdeal.main_v23_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v23_0) = v0 c
          ∧ r.2.mem ((c.tc : Thread Cert.OutprojIdeal.nD Cert.OutprojIdeal.τ).loc Cert.OutprojIdeal.main_v23_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v4) = v0 c
          ∧ r.2.mem ((c.tc : Thread Cert.OutprojRefIdeal.nD Cert.OutprojRefIdeal.τ).loc Cert.OutprojRefIdeal.main_v18) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8))

def preserves_AttnSample_AttnSampleIdeal : Prop :=
  True

def algebraic_AttnSampleIdeal_AttnSampleRefIdeal [hAttnSampleIdeal : Cert.AttnSampleIdeal.Facts] [hAttnSampleRefIdeal : Cert.AttnSampleRefIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleRefIdeal.nD Cert.AttnSampleRefIdeal.τ Cert.AttnSampleRefIdeal.sig) → Buf (Elt Ideal) ℓ) (g' : Dev Cert.AttnSampleRefIdeal.nD → PrngReg), Pre_AttnSampleIdeal m →
    (∀ c : Dev Cert.AttnSampleIdeal.nD,
      m' ((c.tc : Thread Cert.AttnSampleRefIdeal.nD Cert.AttnSampleRefIdeal.τ).loc Cert.AttnSampleRefIdeal.main_arg0) = m ((c.tc : Thread Cert.AttnSampleIdeal.nD Cert.AttnSampleIdeal.τ).loc Cert.AttnSampleIdeal.main_arg0)
      ∧ m' ((c.tc : Thread Cert.AttnSampleRefIdeal.nD Cert.AttnSampleRefIdeal.τ).loc Cert.AttnSampleRefIdeal.main_arg1) = m ((c.tc : Thread Cert.AttnSampleIdeal.nD Cert.AttnSampleIdeal.τ).loc Cert.AttnSampleIdeal.main_arg1)
      ∧ m' ((c.tc : Thread Cert.AttnSampleRefIdeal.nD Cert.AttnSampleRefIdeal.τ).loc Cert.AttnSampleRefIdeal.main_arg2) = m ((c.tc : Thread Cert.AttnSampleIdeal.nD Cert.AttnSampleIdeal.τ).loc Cert.AttnSampleIdeal.main_arg2)
      ∧ m' ((c.tc : Thread Cert.AttnSampleRefIdeal.nD Cert.AttnSampleRefIdeal.τ).loc Cert.AttnSampleRefIdeal.main_arg3) = m ((c.tc : Thread Cert.AttnSampleIdeal.nD Cert.AttnSampleIdeal.τ).loc Cert.AttnSampleIdeal.main_arg3)
      ∧ m' ((c.tc : Thread Cert.AttnSampleRefIdeal.nD Cert.AttnSampleRefIdeal.τ).loc Cert.AttnSampleRefIdeal.main_arg4) = m ((c.tc : Thread Cert.AttnSampleIdeal.nD Cert.AttnSampleIdeal.τ).loc Cert.AttnSampleIdeal.main_arg4)
      ∧ m' ((c.tc : Thread Cert.AttnSampleRefIdeal.nD Cert.AttnSampleRefIdeal.τ).loc Cert.AttnSampleRefIdeal.main_arg5) = m ((c.tc : Thread Cert.AttnSampleIdeal.nD Cert.AttnSampleIdeal.τ).loc Cert.AttnSampleIdeal.main_arg5)) →
    ∃ (v0 : (c : Dev Cert.AttnSampleIdeal.nD) → Buf (Elt Ideal) ((c.tc : Thread Cert.AttnSampleIdeal.nD Cert.AttnSampleIdeal.τ).loc Cert.AttnSampleIdeal.main_v25_0)) (v1 : (c : Dev Cert.AttnSampleIdeal.nD) → Buf (Elt Ideal) ((c.tc : Thread Cert.AttnSampleIdeal.nD Cert.AttnSampleIdeal.τ).loc Cert.AttnSampleIdeal.main_v25_1)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v25_0) = v0 c
          ∧ r.2.mem ((c.tc : Thread Cert.AttnSampleIdeal.nD Cert.AttnSampleIdeal.τ).loc Cert.AttnSampleIdeal.main_v25_1) = v1 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
          ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
          ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ θ_run (Cert.AttnSampleRefIdeal.defs (F := Ideal)) (onTc (τ := Cert.AttnSampleRefIdeal.τ) (Cert.AttnSampleRefIdeal.main (F := Ideal))) ⟨m', fun _ => 0, g'⟩ (fun r => ∀ c : Dev Cert.AttnSampleRefIdeal.nD,
          r.2.mem ((c.tc : Thread Cert.AttnSampleRefIdeal.nD Cert.AttnSampleRefIdeal.τ).loc Cert.AttnSampleRefIdeal.main_v7) = v0 c
          ∧ r.2.mem ((c.tc : Thread Cert.AttnSampleRefIdeal.nD Cert.AttnSampleRefIdeal.τ).loc Cert.AttnSampleRefIdeal.main_v9) = v1 c
          ∧ r.2.mem ((c.tc : Thread Cert.AttnSampleRefIdeal.nD Cert.AttnSampleRefIdeal.τ).loc Cert.AttnSampleRefIdeal.main_arg0) = m' ((c.tc : Thread Cert.AttnSampleRefIdeal.nD Cert.AttnSampleRefIdeal.τ).loc Cert.AttnSampleRefIdeal.main_arg0)
          ∧ r.2.mem ((c.tc : Thread Cert.AttnSampleRefIdeal.nD Cert.AttnSampleRefIdeal.τ).loc Cert.AttnSampleRefIdeal.main_arg1) = m' ((c.tc : Thread Cert.AttnSampleRefIdeal.nD Cert.AttnSampleRefIdeal.τ).loc Cert.AttnSampleRefIdeal.main_arg1)
          ∧ r.2.mem ((c.tc : Thread Cert.AttnSampleRefIdeal.nD Cert.AttnSampleRefIdeal.τ).loc Cert.AttnSampleRefIdeal.main_arg2) = m' ((c.tc : Thread Cert.AttnSampleRefIdeal.nD Cert.AttnSampleRefIdeal.τ).loc Cert.AttnSampleRefIdeal.main_arg2)
          ∧ r.2.mem ((c.tc : Thread Cert.AttnSampleRefIdeal.nD Cert.AttnSampleRefIdeal.τ).loc Cert.AttnSampleRefIdeal.main_arg3) = m' ((c.tc : Thread Cert.AttnSampleRefIdeal.nD Cert.AttnSampleRefIdeal.τ).loc Cert.AttnSampleRefIdeal.main_arg3)
          ∧ r.2.mem ((c.tc : Thread Cert.AttnSampleRefIdeal.nD Cert.AttnSampleRefIdeal.τ).loc Cert.AttnSampleRefIdeal.main_arg4) = m' ((c.tc : Thread Cert.AttnSampleRefIdeal.nD Cert.AttnSampleRefIdeal.τ).loc Cert.AttnSampleRefIdeal.main_arg4)
          ∧ r.2.mem ((c.tc : Thread Cert.AttnSampleRefIdeal.nD Cert.AttnSampleRefIdeal.τ).loc Cert.AttnSampleRefIdeal.main_arg5) = m' ((c.tc : Thread Cert.AttnSampleRefIdeal.nD Cert.AttnSampleRefIdeal.τ).loc Cert.AttnSampleRefIdeal.main_arg5))

def preserves_SsdSample_SsdSampleIdeal : Prop :=
  True

def algebraic_SsdSampleIdeal_SsdSampleRefIdeal [hSsdSampleIdeal : Cert.SsdSampleIdeal.Facts] [hSsdSampleRefIdeal : Cert.SsdSampleRefIdeal.Facts] : Prop :=
  ∀ (m : (ℓ : Loc Cert.SsdSampleIdeal.nD Cert.SsdSampleIdeal.τ Cert.SsdSampleIdeal.sig) → Buf (Elt Ideal) ℓ) (g : Dev Cert.SsdSampleIdeal.nD → PrngReg)
    (m' : (ℓ : Loc Cert.SsdSampleRefIdeal.nD Cert.SsdSampleRefIdeal.τ Cert.SsdSampleRefIdeal.sig) → Buf (Elt Ideal) ℓ) (g' : Dev Cert.SsdSampleRefIdeal.nD → PrngReg), Pre_SsdSampleIdeal m →
    (∀ c : Dev Cert.SsdSampleIdeal.nD,
      m' ((c.tc : Thread Cert.SsdSampleRefIdeal.nD Cert.SsdSampleRefIdeal.τ).loc Cert.SsdSampleRefIdeal.main_arg0) = m ((c.tc : Thread Cert.SsdSampleIdeal.nD Cert.SsdSampleIdeal.τ).loc Cert.SsdSampleIdeal.main_arg0)
      ∧ m' ((c.tc : Thread Cert.SsdSampleRefIdeal.nD Cert.SsdSampleRefIdeal.τ).loc Cert.SsdSampleRefIdeal.main_arg1) = m ((c.tc : Thread Cert.SsdSampleIdeal.nD Cert.SsdSampleIdeal.τ).loc Cert.SsdSampleIdeal.main_arg1)
      ∧ m' ((c.tc : Thread Cert.SsdSampleRefIdeal.nD Cert.SsdSampleRefIdeal.τ).loc Cert.SsdSampleRefIdeal.main_arg2) = m ((c.tc : Thread Cert.SsdSampleIdeal.nD Cert.SsdSampleIdeal.τ).loc Cert.SsdSampleIdeal.main_arg2)
      ∧ m' ((c.tc : Thread Cert.SsdSampleRefIdeal.nD Cert.SsdSampleRefIdeal.τ).loc Cert.SsdSampleRefIdeal.main_arg3) = m ((c.tc : Thread Cert.SsdSampleIdeal.nD Cert.SsdSampleIdeal.τ).loc Cert.SsdSampleIdeal.main_arg3)
      ∧ m' ((c.tc : Thread Cert.SsdSampleRefIdeal.nD Cert.SsdSampleRefIdeal.τ).loc Cert.SsdSampleRefIdeal.main_arg4) = m ((c.tc : Thread Cert.SsdSampleIdeal.nD Cert.SsdSampleIdeal.τ).loc Cert.SsdSampleIdeal.main_arg4)
      ∧ m' ((c.tc : Thread Cert.SsdSampleRefIdeal.nD Cert.SsdSampleRefIdeal.τ).loc Cert.SsdSampleRefIdeal.main_arg5) = m ((c.tc : Thread Cert.SsdSampleIdeal.nD Cert.SsdSampleIdeal.τ).loc Cert.SsdSampleIdeal.main_arg5)
      ∧ m' ((c.tc : Thread Cert.SsdSampleRefIdeal.nD Cert.SsdSampleRefIdeal.τ).loc Cert.SsdSampleRefIdeal.main_arg6) = m ((c.tc : Thread Cert.SsdSampleIdeal.nD Cert.SsdSampleIdeal.τ).loc Cert.SsdSampleIdeal.main_arg6)
      ∧ m' ((c.tc : Thread Cert.SsdSampleRefIdeal.nD Cert.SsdSampleRefIdeal.τ).loc Cert.SsdSampleRefIdeal.main_arg7) = m ((c.tc : Thread Cert.SsdSampleIdeal.nD Cert.SsdSampleIdeal.τ).loc Cert.SsdSampleIdeal.main_arg7)
      ∧ m' ((c.tc : Thread Cert.SsdSampleRefIdeal.nD Cert.SsdSampleRefIdeal.τ).loc Cert.SsdSampleRefIdeal.main_arg8) = m ((c.tc : Thread Cert.SsdSampleIdeal.nD Cert.SsdSampleIdeal.τ).loc Cert.SsdSampleIdeal.main_arg8)
      ∧ m' ((c.tc : Thread Cert.SsdSampleRefIdeal.nD Cert.SsdSampleRefIdeal.τ).loc Cert.SsdSampleRefIdeal.main_arg9) = m ((c.tc : Thread Cert.SsdSampleIdeal.nD Cert.SsdSampleIdeal.τ).loc Cert.SsdSampleIdeal.main_arg9)
      ∧ m' ((c.tc : Thread Cert.SsdSampleRefIdeal.nD Cert.SsdSampleRefIdeal.τ).loc Cert.SsdSampleRefIdeal.main_arg10) = m ((c.tc : Thread Cert.SsdSampleIdeal.nD Cert.SsdSampleIdeal.τ).loc Cert.SsdSampleIdeal.main_arg10)) →
    ∃ (v0 : (c : Dev Cert.SsdSampleIdeal.nD) → Buf (Elt Ideal) ((c.tc : Thread Cert.SsdSampleIdeal.nD Cert.SsdSampleIdeal.τ).loc Cert.SsdSampleIdeal.main_v19_1)),
      θ_run (Cert.SsdSampleIdeal.defs (F := Ideal)) (onTc (τ := Cert.SsdSampleIdeal.τ) (Cert.SsdSampleIdeal.main (F := Ideal))) ⟨m, fun _ => 0, g⟩ (fun r => ∀ c : Dev Cert.SsdSampleIdeal.nD,
          r.2.mem ((c.tc : Thread Cert.SsdSampleIdeal.nD Cert.SsdSampleIdeal.τ).loc Cert.SsdSampleIdeal.main_v19_1) = v0 c
          ∧ r.2.mem ((c.tc : Thread Cert.SsdSampleIdeal.nD Cert.SsdSampleIdeal.τ).loc Cert.SsdSampleIdeal.main_arg0) = m ((c.tc : Thread Cert.SsdSampleIdeal.nD Cert.SsdSampleIdeal.τ).loc Cert.SsdSampleIdeal.main_arg0)
          ∧ r.2.mem ((c.tc : Thread Cert.SsdSampleIdeal.nD Cert.SsdSampleIdeal.τ).loc Cert.SsdSampleIdeal.main_arg1) = m ((c.tc : Thread Cert.SsdSampleIdeal.nD Cert.SsdSampleIdeal.τ).loc Cert.SsdSampleIdeal.main_arg1)
          ∧ r.2.mem ((c.tc : Thread Cert.SsdSampleIdeal.nD Cert.SsdSampleIdeal.τ).loc Cert.SsdSampleIdeal.main_arg2) = m ((c.tc : Thread Cert.SsdSampleIdeal.nD Cert.SsdSampleIdeal.τ).loc Cert.SsdSampleIdeal.main_arg2)
          ∧ r.2.mem ((c.tc : Thread Cert.SsdSampleIdeal.nD Cert.SsdSampleIdeal.τ).loc Cert.SsdSampleIdeal.main_arg3) = m ((c.tc : Thread Cert.SsdSampleIdeal.nD Cert.SsdSampleIdeal.τ).loc Cert.SsdSampleIdeal.main_arg3)
          ∧ r.2.mem ((c.tc : Thread Cert.SsdSampleIdeal.nD Cert.SsdSampleIdeal.τ).loc Cert.SsdSampleIdeal.main_arg4) = m ((c.tc : Thread Cert.SsdSampleIdeal.nD Cert.SsdSampleIdeal.τ).loc Cert.SsdSampleIdeal.main_arg4)
          ∧ r.2.mem ((c.tc : Thread Cert.SsdSampleIdeal.nD Cert.SsdSampleIdeal.τ).loc Cert.SsdSampleIdeal.main_arg5) = m ((c.tc : Thread Cert.SsdSampleIdeal.nD Cert.SsdSampleIdeal.τ).loc Cert.SsdSampleIdeal.main_arg5)
          ∧ r.2.mem ((c.tc : Thread Cert.SsdSampleIdeal.nD Cert.SsdSampleIdeal.τ).loc Cert.SsdSampleIdeal.main_arg6) = m ((c.tc : Thread Cert.SsdSampleIdeal.nD Cert.SsdSampleIdeal.τ).loc Cert.SsdSampleIdeal.main_arg6)
          ∧ r.2.mem ((c.tc : Thread Cert.SsdSampleIdeal.nD Cert.SsdSampleIdeal.τ).loc Cert.SsdSampleIdeal.main_arg7) = m ((c.tc : Thread Cert.SsdSampleIdeal.nD Cert.SsdSampleIdeal.τ).loc Cert.SsdSampleIdeal.main_arg7)
          ∧ r.2.mem ((c.tc : Thread Cert.SsdSampleIdeal.nD Cert.SsdSampleIdeal.τ).loc Cert.SsdSampleIdeal.main_arg8) = m ((c.tc : Thread Cert.SsdSampleIdeal.nD Cert.SsdSampleIdeal.τ).loc Cert.SsdSampleIdeal.main_arg8)
          ∧ r.2.mem ((c.tc : Thread Cert.SsdSampleIdeal.nD Cert.SsdSampleIdeal.τ).loc Cert.SsdSampleIdeal.main_arg9) = m ((c.tc : Thread Cert.SsdSampleIdeal.nD Cert.SsdSampleIdeal.τ).loc Cert.SsdSampleIdeal.main_arg9)
          ∧ r.2.mem ((c.tc : Thread Cert.SsdSampleIdeal.nD Cert.SsdSampleIdeal.τ).loc Cert.SsdSampleIdeal.main_arg10) = m ((c.tc : Thread Cert.SsdSampleIdeal.nD Cert.SsdSampleIdeal.τ).loc Cert.SsdSampleIdeal.main_arg10))
      ∧ θ_run (Cert.SsdSampleRefIdeal.defs (F := Ideal)) (onTc (τ := Cert.SsdSampleRefIdeal.τ) (Cert.SsdSampleRefIdeal.main (F := Ideal))) ⟨m', fun _ => 0, g'⟩ (fun r => ∀ c : Dev Cert.SsdSampleRefIdeal.nD,
          r.2.mem ((c.tc : Thread Cert.SsdSampleRefIdeal.nD Cert.SsdSampleRefIdeal.τ).loc Cert.SsdSampleRefIdeal.main_v4) = v0 c
          ∧ r.2.mem ((c.tc : Thread Cert.SsdSampleRefIdeal.nD Cert.SsdSampleRefIdeal.τ).loc Cert.SsdSampleRefIdeal.main_arg0) = m' ((c.tc : Thread Cert.SsdSampleRefIdeal.nD Cert.SsdSampleRefIdeal.τ).loc Cert.SsdSampleRefIdeal.main_arg0)
          ∧ r.2.mem ((c.tc : Thread Cert.SsdSampleRefIdeal.nD Cert.SsdSampleRefIdeal.τ).loc Cert.SsdSampleRefIdeal.main_arg1) = m' ((c.tc : Thread Cert.SsdSampleRefIdeal.nD Cert.SsdSampleRefIdeal.τ).loc Cert.SsdSampleRefIdeal.main_arg1)
          ∧ r.2.mem ((c.tc : Thread Cert.SsdSampleRefIdeal.nD Cert.SsdSampleRefIdeal.τ).loc Cert.SsdSampleRefIdeal.main_arg2) = m' ((c.tc : Thread Cert.SsdSampleRefIdeal.nD Cert.SsdSampleRefIdeal.τ).loc Cert.SsdSampleRefIdeal.main_arg2)
          ∧ r.2.mem ((c.tc : Thread Cert.SsdSampleRefIdeal.nD Cert.SsdSampleRefIdeal.τ).loc Cert.SsdSampleRefIdeal.main_arg3) = m' ((c.tc : Thread Cert.SsdSampleRefIdeal.nD Cert.SsdSampleRefIdeal.τ).loc Cert.SsdSampleRefIdeal.main_arg3)
          ∧ r.2.mem ((c.tc : Thread Cert.SsdSampleRefIdeal.nD Cert.SsdSampleRefIdeal.τ).loc Cert.SsdSampleRefIdeal.main_arg4) = m' ((c.tc : Thread Cert.SsdSampleRefIdeal.nD Cert.SsdSampleRefIdeal.τ).loc Cert.SsdSampleRefIdeal.main_arg4)
          ∧ r.2.mem ((c.tc : Thread Cert.SsdSampleRefIdeal.nD Cert.SsdSampleRefIdeal.τ).loc Cert.SsdSampleRefIdeal.main_arg5) = m' ((c.tc : Thread Cert.SsdSampleRefIdeal.nD Cert.SsdSampleRefIdeal.τ).loc Cert.SsdSampleRefIdeal.main_arg5)
          ∧ r.2.mem ((c.tc : Thread Cert.SsdSampleRefIdeal.nD Cert.SsdSampleRefIdeal.τ).loc Cert.SsdSampleRefIdeal.main_arg6) = m' ((c.tc : Thread Cert.SsdSampleRefIdeal.nD Cert.SsdSampleRefIdeal.τ).loc Cert.SsdSampleRefIdeal.main_arg6)
          ∧ r.2.mem ((c.tc : Thread Cert.SsdSampleRefIdeal.nD Cert.SsdSampleRefIdeal.τ).loc Cert.SsdSampleRefIdeal.main_arg7) = m' ((c.tc : Thread Cert.SsdSampleRefIdeal.nD Cert.SsdSampleRefIdeal.τ).loc Cert.SsdSampleRefIdeal.main_arg7)
          ∧ r.2.mem ((c.tc : Thread Cert.SsdSampleRefIdeal.nD Cert.SsdSampleRefIdeal.τ).loc Cert.SsdSampleRefIdeal.main_arg8) = m' ((c.tc : Thread Cert.SsdSampleRefIdeal.nD Cert.SsdSampleRefIdeal.τ).loc Cert.SsdSampleRefIdeal.main_arg8)
          ∧ r.2.mem ((c.tc : Thread Cert.SsdSampleRefIdeal.nD Cert.SsdSampleRefIdeal.τ).loc Cert.SsdSampleRefIdeal.main_arg9) = m' ((c.tc : Thread Cert.SsdSampleRefIdeal.nD Cert.SsdSampleRefIdeal.τ).loc Cert.SsdSampleRefIdeal.main_arg9)
          ∧ r.2.mem ((c.tc : Thread Cert.SsdSampleRefIdeal.nD Cert.SsdSampleRefIdeal.τ).loc Cert.SsdSampleRefIdeal.main_arg10) = m' ((c.tc : Thread Cert.SsdSampleRefIdeal.nD Cert.SsdSampleRefIdeal.τ).loc Cert.SsdSampleRefIdeal.main_arg10))

def preserves_MoeSample_MoeSampleIdeal : Prop :=
  True

def algebraic_MoeSampleIdeal_MoeSampleRefIdeal [hMoeSampleIdeal : Cert.MoeSampleIdeal.Facts] [hMoeSampleRefIdeal : Cert.MoeSampleRefIdeal.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg)
    (m' : (ℓ : Loc Cert.MoeSampleRefIdeal.nD Cert.MoeSampleRefIdeal.τ Cert.MoeSampleRefIdeal.sig) → Buf (Elt Ideal) ℓ) (g' : Dev Cert.MoeSampleRefIdeal.nD → PrngReg), Pre_MoeSampleIdeal m →
    (∀ c : Dev Cert.MoeSampleIdeal.nD,
      m' ((c.tc : Thread Cert.MoeSampleRefIdeal.nD Cert.MoeSampleRefIdeal.τ).loc Cert.MoeSampleRefIdeal.main_arg0) = m ((c.tc : Thread Cert.MoeSampleIdeal.nD Cert.MoeSampleIdeal.τ).loc Cert.MoeSampleIdeal.main_arg0)
      ∧ m' ((c.tc : Thread Cert.MoeSampleRefIdeal.nD Cert.MoeSampleRefIdeal.τ).loc Cert.MoeSampleRefIdeal.main_arg1) = m ((c.tc : Thread Cert.MoeSampleIdeal.nD Cert.MoeSampleIdeal.τ).loc Cert.MoeSampleIdeal.main_arg1)
      ∧ m' ((c.tc : Thread Cert.MoeSampleRefIdeal.nD Cert.MoeSampleRefIdeal.τ).loc Cert.MoeSampleRefIdeal.main_arg2) = m ((c.tc : Thread Cert.MoeSampleIdeal.nD Cert.MoeSampleIdeal.τ).loc Cert.MoeSampleIdeal.main_arg2)
      ∧ m' ((c.tc : Thread Cert.MoeSampleRefIdeal.nD Cert.MoeSampleRefIdeal.τ).loc Cert.MoeSampleRefIdeal.main_arg3) = m ((c.tc : Thread Cert.MoeSampleIdeal.nD Cert.MoeSampleIdeal.τ).loc Cert.MoeSampleIdeal.main_arg3)
      ∧ m' ((c.tc : Thread Cert.MoeSampleRefIdeal.nD Cert.MoeSampleRefIdeal.τ).loc Cert.MoeSampleRefIdeal.main_arg4) = m ((c.tc : Thread Cert.MoeSampleIdeal.nD Cert.MoeSampleIdeal.τ).loc Cert.MoeSampleIdeal.main_arg4)
      ∧ m' ((c.tc : Thread Cert.MoeSampleRefIdeal.nD Cert.MoeSampleRefIdeal.τ).loc Cert.MoeSampleRefIdeal.main_arg5) = m ((c.tc : Thread Cert.MoeSampleIdeal.nD Cert.MoeSampleIdeal.τ).loc Cert.MoeSampleIdeal.main_arg5)) →
    ∃ (v0 : (c : Dev Cert.MoeSampleIdeal.nD) → Buf (Elt Ideal) ((c.tc : Thread Cert.MoeSampleIdeal.nD Cert.MoeSampleIdeal.τ).loc Cert.MoeSampleIdeal.main_v14)),
      θ_run (Cert.MoeSampleIdeal.defs (F := Ideal)) (onTc (τ := Cert.MoeSampleIdeal.τ) (Cert.MoeSampleIdeal.main (F := Ideal))) ⟨m, fun _ => 0, g⟩ (fun r => ∀ c : Dev Cert.MoeSampleIdeal.nD,
          r.2.mem ((c.tc : Thread Cert.MoeSampleIdeal.nD Cert.MoeSampleIdeal.τ).loc Cert.MoeSampleIdeal.main_v14) = v0 c
          ∧ r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
          ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
          ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
          ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
          ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
          ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5))
      ∧ θ_run (Cert.MoeSampleRefIdeal.defs (F := Ideal)) (onTc (τ := Cert.MoeSampleRefIdeal.τ) (Cert.MoeSampleRefIdeal.main (F := Ideal))) ⟨m', fun _ => 0, g'⟩ (fun r => ∀ c : Dev Cert.MoeSampleRefIdeal.nD,
          r.2.mem ((c.tc : Thread Cert.MoeSampleRefIdeal.nD Cert.MoeSampleRefIdeal.τ).loc Cert.MoeSampleRefIdeal.main_v10) = v0 c
          ∧ r.2.mem ((c.tc : Thread Cert.MoeSampleRefIdeal.nD Cert.MoeSampleRefIdeal.τ).loc Cert.MoeSampleRefIdeal.main_arg0) = m' ((c.tc : Thread Cert.MoeSampleRefIdeal.nD Cert.MoeSampleRefIdeal.τ).loc Cert.MoeSampleRefIdeal.main_arg0)
          ∧ r.2.mem ((c.tc : Thread Cert.MoeSampleRefIdeal.nD Cert.MoeSampleRefIdeal.τ).loc Cert.MoeSampleRefIdeal.main_arg1) = m' ((c.tc : Thread Cert.MoeSampleRefIdeal.nD Cert.MoeSampleRefIdeal.τ).loc Cert.MoeSampleRefIdeal.main_arg1)
          ∧ r.2.mem ((c.tc : Thread Cert.MoeSampleRefIdeal.nD Cert.MoeSampleRefIdeal.τ).loc Cert.MoeSampleRefIdeal.main_arg2) = m' ((c.tc : Thread Cert.MoeSampleRefIdeal.nD Cert.MoeSampleRefIdeal.τ).loc Cert.MoeSampleRefIdeal.main_arg2)
          ∧ r.2.mem ((c.tc : Thread Cert.MoeSampleRefIdeal.nD Cert.MoeSampleRefIdeal.τ).loc Cert.MoeSampleRefIdeal.main_arg3) = m' ((c.tc : Thread Cert.MoeSampleRefIdeal.nD Cert.MoeSampleRefIdeal.τ).loc Cert.MoeSampleRefIdeal.main_arg3)
          ∧ r.2.mem ((c.tc : Thread Cert.MoeSampleRefIdeal.nD Cert.MoeSampleRefIdeal.τ).loc Cert.MoeSampleRefIdeal.main_arg4) = m' ((c.tc : Thread Cert.MoeSampleRefIdeal.nD Cert.MoeSampleRefIdeal.τ).loc Cert.MoeSampleRefIdeal.main_arg4)
          ∧ r.2.mem ((c.tc : Thread Cert.MoeSampleRefIdeal.nD Cert.MoeSampleRefIdeal.τ).loc Cert.MoeSampleRefIdeal.main_arg5) = m' ((c.tc : Thread Cert.MoeSampleRefIdeal.nD Cert.MoeSampleRefIdeal.τ).loc Cert.MoeSampleRefIdeal.main_arg5))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeRefIdeal : Cert.MoeRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hAttnSample : Cert.AttnSample.Facts) (hAttnSampleIdeal : Cert.AttnSampleIdeal.Facts) (hAttnSampleRefIdeal : Cert.AttnSampleRefIdeal.Facts) (hSsdSample : Cert.SsdSample.Facts) (hSsdSampleIdeal : Cert.SsdSampleIdeal.Facts) (hSsdSampleRefIdeal : Cert.SsdSampleRefIdeal.Facts) (hMoeSample : Cert.MoeSample.Facts) (hMoeSampleIdeal : Cert.MoeSampleIdeal.Facts) (hMoeSampleRefIdeal : Cert.MoeSampleRefIdeal.Facts) (hPre_scores_finite : Cert.Pre_scores_finite.Facts) (hPre_inputs_finite : Cert.Pre_inputs_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Moe (hMoe := hMoe)
    ∧ quiescent_MoeIdeal (hMoeIdeal := hMoeIdeal)
    ∧ quiescent_MoeRefIdeal (hMoeRefIdeal := hMoeRefIdeal)
    ∧ quiescent_Inproj (hInproj := hInproj)
    ∧ quiescent_InprojIdeal (hInprojIdeal := hInprojIdeal)
    ∧ quiescent_InprojIdeal_pre_inputs_finite (hInprojIdeal := hInprojIdeal) (hPre_inputs_finite := hPre_inputs_finite)
    ∧ quiescent_InprojRefIdeal (hInprojRefIdeal := hInprojRefIdeal)
    ∧ quiescent_InprojRefIdeal_pre_inputs_finite (hInprojRefIdeal := hInprojRefIdeal) (hPre_inputs_finite := hPre_inputs_finite)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_AttnSample (hAttnSample := hAttnSample)
    ∧ quiescent_AttnSampleIdeal (hAttnSampleIdeal := hAttnSampleIdeal)
    ∧ quiescent_AttnSampleRefIdeal (hAttnSampleRefIdeal := hAttnSampleRefIdeal)
    ∧ quiescent_SsdSample (hSsdSample := hSsdSample)
    ∧ quiescent_SsdSampleIdeal (hSsdSampleIdeal := hSsdSampleIdeal)
    ∧ quiescent_SsdSampleRefIdeal (hSsdSampleRefIdeal := hSsdSampleRefIdeal)
    ∧ quiescent_MoeSample (hMoeSample := hMoeSample)
    ∧ quiescent_MoeSampleIdeal (hMoeSampleIdeal := hMoeSampleIdeal)
    ∧ quiescent_MoeSampleRefIdeal (hMoeSampleRefIdeal := hMoeSampleRefIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Moe_MoeIdeal
    ∧ algebraic_MoeIdeal_MoeRefIdeal (hMoeIdeal := hMoeIdeal) (hMoeRefIdeal := hMoeRefIdeal)
    ∧ preserves_Inproj_InprojIdeal
    ∧ algebraic_InprojIdeal_InprojRefIdeal_pre_inputs_finite (hInprojIdeal := hInprojIdeal) (hInprojRefIdeal := hInprojRefIdeal) (hPre_inputs_finite := hPre_inputs_finite)
    ∧ preserves_Outproj_OutprojIdeal
    ∧ algebraic_OutprojIdeal_OutprojRefIdeal (hOutprojIdeal := hOutprojIdeal) (hOutprojRefIdeal := hOutprojRefIdeal)
    ∧ preserves_AttnSample_AttnSampleIdeal
    ∧ algebraic_AttnSampleIdeal_AttnSampleRefIdeal (hAttnSampleIdeal := hAttnSampleIdeal) (hAttnSampleRefIdeal := hAttnSampleRefIdeal)
    ∧ preserves_SsdSample_SsdSampleIdeal
    ∧ algebraic_SsdSampleIdeal_SsdSampleRefIdeal (hSsdSampleIdeal := hSsdSampleIdeal) (hSsdSampleRefIdeal := hSsdSampleRefIdeal)
    ∧ preserves_MoeSample_MoeSampleIdeal
    ∧ algebraic_MoeSampleIdeal_MoeSampleRefIdeal (hMoeSampleIdeal := hMoeSampleIdeal) (hMoeSampleRefIdeal := hMoeSampleRefIdeal)
-- ==== Pre_inputs_finite.lean ====
abbrev S16x2048x1024 : Shape := ⟨3, ![16, 2048, 1024]⟩
abbrev S1x1024 : Shape := ⟨2, ![1, 1024]⟩
abbrev S1x1024x2312 : Shape := ⟨3, ![1, 1024, 2312]⟩
abbrev S1x64 : Shape := ⟨2, ![1, 64]⟩
abbrev S1x1024x640 : Shape := ⟨3, ![1, 1024, 640]⟩
abbrev S_ : Shape := ⟨0, ![]⟩

class Facts : Prop where
  slices_S1x1024x2312_S1x1024x640_0_0_0 : S1x1024x2312.Slices ![0, 0, 0] S1x1024x640
  bcast_S_S1x1024 : S_.BroadcastsInDim S1x1024 (![] : Fin 0 → Fin S1x1024.rank)
  bcast_S_S1x1024x640 : S_.BroadcastsInDim S1x1024x640 (![] : Fin 0 → Fin S1x1024x640.rank)

variable [Facts]

def fn {F : FTy → Type} [FloatOps F] (main_arg0 : FVec F S16x2048x1024 .f32) (main_arg1 : FVec F S1x1024 .f32) (main_arg2 : FVec F S1x1024x2312 .f32) (main_arg3 : FVec F S1x64 .f32) (main_arg4 : FVec F S1x64 .f32) : IVec S1x1024 1 × IVec S1x1024x640 1 :=
  let main_v0 : FVec F S1x1024x640 .f32 := (extractStridedSlice S1x1024x640 ![0, 0, 0] · slices_S1x1024x2312_S1x1024x640_0_0_0) main_arg2
  let main_v1 : FVec F S1x1024 .f32 := Host.absf main_arg1
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_v4 : FVec F S1x1024x640 .f32 := Host.absf main_v0
  let main_cst_0 : FVec F S_ .f32 := constant S_ .f32 0x7F800000#32
  let main_v5 : FVec F S1x1024x640 .f32 := broadcastInDim S1x1024x640 ![] bcast_S_S1x1024x640 main_cst_0
  let main_v6 : IVec S1x1024x640 1 := cmpf .olt main_v4 main_v5
  (main_v3, main_v6)
-- ==== Pre_scores_finite.lean ====
abbrev S32768x512 : Shape := ⟨2, ![32768, 512]⟩
abbrev S32768x128 : Shape := ⟨2, ![32768, 128]⟩
abbrev S8 : Shape := ⟨1, ![8]⟩
abbrev S_ : Shape := ⟨0, ![]⟩

class Facts : Prop where
  bcast_S_S32768x512 : S_.BroadcastsInDim S32768x512 (![] : Fin 0 → Fin S32768x512.rank)
  bcast_S_S32768x128 : S_.BroadcastsInDim S32768x128 (![] : Fin 0 → Fin S32768x128.rank)
  bcast_S_S8 : S_.BroadcastsInDim S8 (![] : Fin 0 → Fin S8.rank)

variable [Facts]

def fn {F : FTy → Type} [FloatOps F] (main_arg0 : FVec F S32768x512 .f32) (main_arg1 : FVec F S32768x128 .f32) (main_arg2 : FVec F S32768x128 .f32) (main_arg3 : FVec F S8 .f32) : IVec S32768x512 1 × IVec S32768x128 1 × IVec S8 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S32768x128 .f32 := Host.absf main_arg1
  let main_cst_0 : FVec F S_ .f32 := constant S_ .f32 0x7F800000#32
  let main_v4 : FVec F S32768x128 .f32 := broadcastInDim S32768x128 ![] bcast_S_S32768x128 main_cst_0
  let main_v5 : IVec S32768x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S32768x512 : Shape := ⟨2, ![32768, 512]⟩
abbrev S32768x128 : Shape := ⟨2, ![32768, 128]⟩
abbrev S8 : Shape := ⟨1, ![8]⟩
abbrev S_ : Shape := ⟨0, ![]⟩
abbrev S128x512 : Shape := ⟨2, ![128, 512]⟩
abbrev S128x128 : Shape := ⟨2, ![128, 128]⟩
abbrev S128x256 : Shape := ⟨2, ![128, 256]⟩
abbrev S256x128 : Shape := ⟨2, ![256, 128]⟩
abbrev S1 : Shape := ⟨1, ![1]⟩
abbrev S128 : Shape := ⟨1, ![128]⟩
abbrev S128x1 : Shape := ⟨2, ![128, 1]⟩

abbrev nBuf : Space → Nat
  | .hbm => 9
  | .vmem => 12
  | .smem => 1
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S8, .f32⟩
  | .hbm, ⟨4, _⟩ => ⟨S_, .f32⟩
  | .hbm, ⟨5, _⟩ => ⟨S32768x512, .f32⟩
  | .hbm, ⟨6, _⟩ => ⟨S32768x512, .f32⟩
  | .hbm, ⟨7, _⟩ => ⟨S32768x512, .bf16⟩
  | .hbm, ⟨8, _⟩ => ⟨S32768x512, .bf16⟩
  | .local _ .vmem, ⟨0, _⟩ => ⟨S128x512, .bf16⟩
  | .local _ .vmem, ⟨1, _⟩ => ⟨S128x512, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x512, .bf16⟩
  | .local _ .vmem, ⟨11, _⟩ => ⟨S128x512, .bf16⟩
  | .local _ .smem, ⟨0, _⟩ => ⟨S8, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32768x512 : Shape := ⟨2, ![32768, 512]⟩
abbrev S32768x128 : Shape := ⟨2, ![32768, 128]⟩
abbrev S8 : Shape := ⟨1, ![8]⟩
abbrev S16x16x128x2x4x64 : Shape := ⟨6, ![16, 16, 128, 2, 4, 64]⟩
abbrev S16x16x128x2x64 : Shape := ⟨5, ![16, 16, 128, 2, 64]⟩
abbrev S16x1x128x2x64 : Shape := ⟨5, ![16, 1, 128, 2, 64]⟩
abbrev S_ : Shape := ⟨0, ![]⟩
abbrev S16x15x128x2x64 : Shape := ⟨5, ![16, 15, 128, 2, 64]⟩
abbrev S16x16x256x2x64 : Shape := ⟨5, ![16, 16, 256, 2, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S16x16x2x256x128x4 : Shape := ⟨6, ![16, 16, 2, 256, 128, 4]⟩
abbrev S16x16x2x4x128x256 : Shape := ⟨6, ![16, 16, 2, 4, 128, 256]⟩
abbrev S2x4x1x1 : Shape := ⟨4, ![2, 4, 1, 1]⟩
abbrev S16x16x2x4x128 : Shape := ⟨5, ![16, 16, 2, 4, 128]⟩
abbrev S16x16x2x4x128x1 : Shape := ⟨6, ![16, 16, 2, 4, 128, 1]⟩
abbrev S1x1x2x4x1x1 : Shape := ⟨6, ![1, 1, 2, 4, 1, 1]⟩
abbrev S16x16x2x64x4x128 : Shape := ⟨6, ![16, 16, 2, 64, 4, 128]⟩

abbrev nBuf : Space → Nat
  | .hbm => 87
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x128, .f32⟩
  | .hbm, ⟨2, _⟩ => ⟨S32768x128, .f32⟩
  | .hbm, ⟨3, _⟩ => ⟨S8, .f32⟩
  | .hbm, ⟨4, _⟩ => ⟨S16x16x128x2x4x64, .f32⟩
  | .hbm, ⟨5, _⟩ => ⟨S16x16x128x2x64, .f32⟩
  | .hbm, ⟨6, _⟩ => ⟨S16x1x128x2x64, .f32⟩
  | .hbm, ⟨7, _⟩ => ⟨S_, .f32⟩
  | .hbm, ⟨8, _⟩ => ⟨S16x1x128x2x64, .f32⟩
  | .hbm, ⟨9, _⟩ => ⟨S16x15x128x2x64, .f32⟩
  | .hbm, ⟨10, _⟩ => ⟨S16x16x128x2x64, .f32⟩
  | .hbm, ⟨11, _⟩ => ⟨S16x16x256x2x64, .f32⟩
  | .hbm, ⟨12, _⟩ => ⟨S16x16x128x2x64, .f32⟩
  | .hbm, ⟨13, _⟩ => ⟨S16x1x128x2x64, .f32⟩
  | .hbm, ⟨14, _⟩ => ⟨S_, .f32⟩
  | .hbm, ⟨15, _⟩ => ⟨S16x1x128x2x64, .f32⟩
  | .hbm, ⟨16, _⟩ => ⟨S16x15x128x2x64, .f32⟩
  | .hbm, ⟨17, _⟩ => ⟨S16x16x128x2x64, .f32⟩
  | .hbm, ⟨18, _⟩ => ⟨S16x16x256x2x64, .f32⟩
  | .hbm, ⟨19, _⟩ => ⟨S128, .i32⟩
  | .hbm, ⟨20, _⟩ => ⟨S128x1, .i32⟩
  | .hbm, ⟨21, _⟩ => ⟨S256, .i32⟩
  | .hbm, ⟨22, _⟩ => ⟨S1x256, .i32⟩
  | .hbm, ⟨23, _⟩ => ⟨S_, .i32⟩
  | .hbm, ⟨24, _⟩ => ⟨S1x256, .i32⟩
  | .hbm, ⟨25, _⟩ => ⟨S1x256, .i32⟩
  | .hbm, ⟨26, _⟩ => ⟨S128x256, .i32⟩
  | .hbm, ⟨27, _⟩ => ⟨S128x256, .i32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i1⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S128x256, .i1⟩
  | .hbm, ⟨36, _⟩ => ⟨S16, .i32⟩
  | .hbm, ⟨37, _⟩ => ⟨S16x1x1, .i32⟩
  | .hbm, ⟨38, _⟩ => ⟨S_, .i32⟩
  | .hbm, ⟨39, _⟩ => ⟨S16x1x1, .i32⟩
  | .hbm, ⟨40, _⟩ => ⟨S16x1x1, .i1⟩
  | .hbm, ⟨41, _⟩ => ⟨S1x1x256, .i32⟩
  | .hbm, ⟨42, _⟩ => ⟨S_, .i32⟩
  | .hbm, ⟨43, _⟩ => ⟨S1x1x256, .i32⟩
  | .hbm, ⟨44, _⟩ => ⟨S1x1x256, .i1⟩
  | .hbm, ⟨45, _⟩ => ⟨S16x1x256, .i1⟩
  | .hbm, ⟨46, _⟩ => ⟨S16x1x256, .i1⟩
  | .hbm, ⟨47, _⟩ => ⟨S16x1x256, .i1⟩
  | .hbm, ⟨48, _⟩ => ⟨S1x128x256, .i1⟩
  | .hbm, ⟨49, _⟩ => ⟨S16x128x256, .i1⟩
  | .hbm, ⟨50, _⟩ => ⟨S16x128x256, .i1⟩
  | .hbm, ⟨51, _⟩ => ⟨S16x128x256, .i1⟩
  | .hbm, ⟨52, _⟩ => ⟨S16x1x1x128x256, .i1⟩
  | .hbm, ⟨53, _⟩ => ⟨S16x16x2x256x128x4, .f32⟩
  | .hbm, ⟨54, _⟩ => ⟨S16x16x2x4x128x256, .f32⟩
  | .hbm, ⟨55, _⟩ => ⟨S_, .f32⟩
  | .hbm, ⟨56, _⟩ => ⟨S16x16x2x4x128x256, .f32⟩
  | .hbm, ⟨57, _⟩ => ⟨S16x16x2x4x128x256, .f32⟩
  | .hbm, ⟨58, _⟩ => ⟨S_, .f32⟩
  | .hbm, ⟨59, _⟩ => ⟨S_, .f32⟩
  | .hbm, ⟨60, _⟩ => ⟨S16x16x2x4x128x256, .i1⟩
  | .hbm, ⟨61, _⟩ => ⟨S16x16x2x4x128x256, .f32⟩
  | .hbm, ⟨62, _⟩ => ⟨S16x16x2x4x128x256, .f32⟩
  | .hbm, ⟨63, _⟩ => ⟨S2x4x1x1, .f32⟩
  | .hbm, ⟨64, _⟩ => ⟨S_, .f32⟩
  | .hbm, ⟨65, _⟩ => ⟨S16x16x2x4x128, .f32⟩
  | .hbm, ⟨66, _⟩ => ⟨S16x16x2x4x128x1, .f32⟩
  | .hbm, ⟨67, _⟩ => ⟨S1x1x2x4x1x1, .f32⟩
  | .hbm, ⟨68, _⟩ => ⟨S16x16x2x4x128x1, .f32⟩
  | .hbm, ⟨69, _⟩ => ⟨S16x16x2x4x128x1, .f32⟩
  | .hbm, ⟨70, _⟩ => ⟨S16x16x2x4x128x256, .f32⟩
  | .hbm, ⟨71, _⟩ => ⟨S16x16x2x4x128x256, .f32⟩
  | .hbm, ⟨72, _⟩ => ⟨S16x16x2x4x128x256, .f32⟩
  | .hbm, ⟨73, _⟩ => ⟨S_, .f32⟩
  | .hbm, ⟨74, _⟩ => ⟨S16x16x2x4x128, .f32⟩
  | .hbm, ⟨75, _⟩ => ⟨S16x16x2x4x128x1, .f32⟩
  | .hbm, ⟨76, _⟩ => ⟨S1x1x2x4x1x1, .f32⟩
  | .hbm, ⟨77, _⟩ => ⟨S16x16x2x4x128x1, .f32⟩
  | .hbm, ⟨78, _⟩ => ⟨S16x16x2x4x128x1, .f32⟩
  | .hbm, ⟨79, _⟩ => ⟨S16x16x2x4x128x1, .f32⟩
  | .hbm, ⟨80, _⟩ => ⟨S16x16x2x4x128x1, .f32⟩
  | .hbm, ⟨81, _⟩ => ⟨S16x16x2x4x128x256, .f32⟩
  | .hbm, ⟨82, _⟩ => ⟨S16x16x2x4x128x256, .f32⟩
  | .hbm, ⟨83, _⟩ => ⟨S16x16x2x64x4x128, .f32⟩
  | .hbm, ⟨84, _⟩ => ⟨S16x16x128x2x4x64, .f32⟩
  | .hbm, ⟨85, _⟩ => ⟨S32768x512, .f32⟩
  | .hbm, ⟨86, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Moe.lean ====
abbrev S32768x1024 : Shape := ⟨2, ![32768, 1024]⟩
abbrev S32768x128 : Shape := ⟨2, ![32768, 128]⟩
abbrev S32x1024x128 : Shape := ⟨3, ![32, 1024, 128]⟩
abbrev S32x128x1024 : Shape := ⟨3, ![32, 128, 1024]⟩
abbrev S16x2x1024x128 : Shape := ⟨4, ![16, 2, 1024, 128]⟩
abbrev S16x1x1024x128 : Shape := ⟨4, ![16, 1, 1024, 128]⟩
abbrev S16x1024x128 : Shape := ⟨3, ![16, 1024, 128]⟩
abbrev S16x1024x512 : Shape := ⟨3, ![16, 1024, 512]⟩
abbrev S16x256x1024 : Shape := ⟨3, ![16, 256, 1024]⟩
abbrev S256x1024 : Shape := ⟨2, ![256, 1024]⟩
abbrev S256x128 : Shape := ⟨2, ![256, 128]⟩
abbrev S256x256 : Shape := ⟨2, ![256, 256]⟩
abbrev S1x1024x512 : Shape := ⟨3, ![1, 1024, 512]⟩
abbrev S1024x512 : Shape := ⟨2, ![1024, 512]⟩
abbrev S256x512 : Shape := ⟨2, ![256, 512]⟩
abbrev S256x1 : Shape := ⟨2, ![256, 1]⟩
abbrev S1x256x1024 : Shape := ⟨3, ![1, 256, 1024]⟩

abbrev nBuf : Space → Nat
  | .hbm => 21
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S32x1024x128, .f32⟩
  | .hbm, ⟨4, _⟩ => ⟨S32x1024x128, .f32⟩
  | .hbm, ⟨5, _⟩ => ⟨S32x128x1024, .f32⟩
  | .hbm, ⟨6, _⟩ => ⟨S16x2x1024x128, .f32⟩
  | .hbm, ⟨7, _⟩ => ⟨S16x2x1024x128, .f32⟩
  | .hbm, ⟨8, _⟩ => ⟨S16x1x1024x128, .f32⟩
  | .hbm, ⟨9, _⟩ => ⟨S16x1024x128, .f32⟩
  | .hbm, ⟨10, _⟩ => ⟨S16x1x1024x128, .f32⟩
  | .hbm, ⟨11, _⟩ => ⟨S16x1024x128, .f32⟩
  | .hbm, ⟨12, _⟩ => ⟨S16x1x1024x128, .f32⟩
  | .hbm, ⟨13, _⟩ => ⟨S16x1024x128, .f32⟩
  | .hbm, ⟨14, _⟩ => ⟨S16x1x1024x128, .f32⟩
  | .hbm, ⟨15, _⟩ => ⟨S16x1024x128, .f32⟩
  | .hbm, ⟨16, _⟩ => ⟨S16x1024x512, .f32⟩
  | .hbm, ⟨17, _⟩ => ⟨S16x1024x512, .bf16⟩
  | .hbm, ⟨18, _⟩ => ⟨S16x256x1024, .f32⟩
  | .hbm, ⟨19, _⟩ => ⟨S16x256x1024, .bf16⟩
  | .hbm, ⟨20, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x128, .f32⟩
  | .local _ .vmem, ⟨5, _⟩ => ⟨S256x128, .f32⟩
  | .local _ .vmem, ⟨6, _⟩ => ⟨S16x1024x512, .bf16⟩
  | .local _ .vmem, ⟨7, _⟩ => ⟨S16x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeRefIdeal.lean ====
abbrev S32768x1024 : Shape := ⟨2, ![32768, 1024]⟩
abbrev S32768x128 : Shape := ⟨2, ![32768, 128]⟩
abbrev S32x1024x128 : Shape := ⟨3, ![32, 1024, 128]⟩
abbrev S32x128x1024 : Shape := ⟨3, ![32, 128, 1024]⟩
abbrev S32768x32 : Shape := ⟨2, ![32768, 32]⟩
abbrev S32768x32x128 : Shape := ⟨3, ![32768, 32, 128]⟩
abbrev S_ : Shape := ⟨0, ![]⟩
abbrev S32768x32x1 : Shape := ⟨3, ![32768, 32, 1]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S32x1024x128, .f32⟩
  | .hbm, ⟨4, _⟩ => ⟨S32x1024x128, .f32⟩
  | .hbm, ⟨5, _⟩ => ⟨S32x128x1024, .f32⟩
  | .hbm, ⟨6, _⟩ => ⟨S32768x1024, .f32⟩
  | .hbm, ⟨7, _⟩ => ⟨S32768x32, .f32⟩
  | .hbm, ⟨8, _⟩ => ⟨S32768x32x128, .f32⟩
  | .hbm, ⟨9, _⟩ => ⟨S32768x32x128, .f32⟩
  | .hbm, ⟨10, _⟩ => ⟨S32768x32x128, .f32⟩
  | .hbm, ⟨11, _⟩ => ⟨S_, .f32⟩
  | .hbm, ⟨12, _⟩ => ⟨S32768x32x128, .f32⟩
  | .hbm, ⟨13, _⟩ => ⟨S32768x32x128, .f32⟩
  | .hbm, ⟨14, _⟩ => ⟨S_, .f32⟩
  | .hbm, ⟨15, _⟩ => ⟨S32768x32x128, .f32⟩
  | .hbm, ⟨16, _⟩ => ⟨S32768x32x128, .f32⟩
  | .hbm, ⟨17, _⟩ => ⟨S32768x32x128, .f32⟩
  | .hbm, ⟨18, _⟩ => ⟨S32768x32x128, .f32⟩
  | .hbm, ⟨19, _⟩ => ⟨S32768x32x128, .f32⟩
  | .hbm, ⟨20, _⟩ => ⟨S32768x32x1, .f32⟩
  | .hbm, ⟨21, _⟩ => ⟨S32768x32x128, .f32⟩
  | .hbm, ⟨22, _⟩ => ⟨S32768x32x128, .f32⟩
  | .hbm, ⟨23, _⟩ => ⟨S32768x1024, .f32⟩
  | .hbm, ⟨24, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Inproj.lean ====
abbrev S16x2048x1024 : Shape := ⟨3, ![16, 2048, 1024]⟩
abbrev S1x1024 : Shape := ⟨2, ![1, 1024]⟩
abbrev S1x1024x2312 : Shape := ⟨3, ![1, 1024, 2312]⟩
abbrev S1x64 : Shape := ⟨2, ![1, 64]⟩
abbrev S1024 : Shape := ⟨1, ![1024]⟩
abbrev S1024x2312 : Shape := ⟨2, ![1024, 2312]⟩
abbrev S64 : Shape := ⟨1, ![64]⟩
abbrev S1024x640 : Shape := ⟨2, ![1024, 640]⟩
abbrev S1024x128 : Shape := ⟨2, ![1024, 128]⟩
abbrev S1024x512 : Shape := ⟨2, ![1024, 512]⟩
abbrev S1024x1024 : Shape := ⟨2, ![1024, 1024]⟩
abbrev S1024x8 : Shape := ⟨2, ![1024, 8]⟩
abbrev S_ : Shape := ⟨0, ![]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S1x640 : Shape := ⟨2, ![1, 640]⟩
abbrev S640x1 : Shape := ⟨2, ![640, 1]⟩
abbrev S1x128 : Shape := ⟨2, ![1, 128]⟩
abbrev S640x128 : Shape := ⟨2, ![640, 128]⟩
abbrev S128x640 : Shape := ⟨2, ![128, 640]⟩
abbrev S32768x1024 : Shape := ⟨2, ![32768, 1024]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32768x512 : Shape := ⟨2, ![32768, 512]⟩
abbrev S32768x128 : Shape := ⟨2, ![32768, 128]⟩
abbrev S512x1024 : Shape := ⟨2, ![512, 1024]⟩
abbrev S512x128 : Shape := ⟨2, ![512, 128]⟩
abbrev S512x512 : Shape := ⟨2, ![512, 512]⟩
abbrev S512x1 : Shape := ⟨2, ![512, 1]⟩
abbrev S512x640 : Shape := ⟨2, ![512, 640]⟩
abbrev S16x2048x2x64 : Shape := ⟨4, ![16, 2048, 2, 64]⟩
abbrev S16x128x2x64 : Shape := ⟨4, ![16, 128, 2, 64]⟩
abbrev S1x16x128x2x64 : Shape := ⟨5, ![1, 16, 128, 2, 64]⟩
abbrev S16x3x1024 : Shape := ⟨3, ![16, 3, 1024]⟩
abbrev S1x16x3x1024 : Shape := ⟨4, ![1, 16, 3, 1024]⟩

abbrev nBuf : Space → Nat
  | .hbm => 109
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2312, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S1024x2312, .f32⟩
  | .hbm, ⟨7, _⟩ => ⟨S64, .f32⟩
  | .hbm, ⟨8, _⟩ => ⟨S64, .f32⟩
  | .hbm, ⟨9, _⟩ => ⟨S1x1024, .f32⟩
  | .hbm, ⟨10, _⟩ => ⟨S1024x640, .f32⟩
  | .hbm, ⟨11, _⟩ => ⟨S1024x640, .bf16⟩
  | .hbm, ⟨12, _⟩ => ⟨S1024x128, .f32⟩
  | .hbm, ⟨13, _⟩ => ⟨S1024x128, .bf16⟩
  | .hbm, ⟨14, _⟩ => ⟨S1024x512, .f32⟩
  | .hbm, ⟨15, _⟩ => ⟨S1024x512, .bf16⟩
  | .hbm, ⟨16, _⟩ => ⟨S1024x1024, .f32⟩
  | .hbm, ⟨17, _⟩ => ⟨S1024x1024, .bf16⟩
  | .hbm, ⟨18, _⟩ => ⟨S1024x8, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x64, .f32⟩
  | .hbm, ⟨27, _⟩ => ⟨S2x64, .f32⟩
  | .hbm, ⟨28, _⟩ => ⟨S128, .f32⟩
  | .hbm, ⟨29, _⟩ => ⟨S640, .f32⟩
  | .hbm, ⟨30, _⟩ => ⟨S1x640, .f32⟩
  | .hbm, ⟨31, _⟩ => ⟨S640, .i32⟩
  | .hbm, ⟨32, _⟩ => ⟨S_, .i32⟩
  | .hbm, ⟨33, _⟩ => ⟨S_, .i32⟩
  | .hbm, ⟨34, _⟩ => ⟨S640, .i32⟩
  | .hbm, ⟨35, _⟩ => ⟨S640, .i32⟩
  | .hbm, ⟨36, _⟩ => ⟨S640, .i32⟩
  | .hbm, ⟨37, _⟩ => ⟨S_, .i32⟩
  | .hbm, ⟨38, _⟩ => ⟨S640, .i32⟩
  | .hbm, ⟨39, _⟩ => ⟨S640, .i1⟩
  | .hbm, ⟨40, _⟩ => ⟨S640, .i32⟩
  | .hbm, ⟨41, _⟩ => ⟨S640, .i32⟩
  | .hbm, ⟨42, _⟩ => ⟨S_, .i32⟩
  | .hbm, ⟨43, _⟩ => ⟨S640, .i32⟩
  | .hbm, ⟨44, _⟩ => ⟨S640, .i1⟩
  | .hbm, ⟨45, _⟩ => ⟨S640, .i1⟩
  | .hbm, ⟨46, _⟩ => ⟨S_, .i32⟩
  | .hbm, ⟨47, _⟩ => ⟨S640, .i32⟩
  | .hbm, ⟨48, _⟩ => ⟨S640, .i32⟩
  | .hbm, ⟨49, _⟩ => ⟨S640, .i32⟩
  | .hbm, ⟨50, _⟩ => ⟨S640x1, .i32⟩
  | .hbm, ⟨51, _⟩ => ⟨S128, .i32⟩
  | .hbm, ⟨52, _⟩ => ⟨S1x128, .i32⟩
  | .hbm, ⟨53, _⟩ => ⟨S640x128, .i32⟩
  | .hbm, ⟨54, _⟩ => ⟨S640x128, .i32⟩
  | .hbm, ⟨55, _⟩ => ⟨S640x128, .i1⟩
  | .hbm, ⟨56, _⟩ => ⟨S640x128, .bf16⟩
  | .hbm, ⟨57, _⟩ => ⟨S128x640, .i1⟩
  | .hbm, ⟨58, _⟩ => ⟨S128x640, .bf16⟩
  | .hbm, ⟨59, _⟩ => ⟨S32768x1024, .f32⟩
  | .hbm, ⟨60, _⟩ => ⟨S2048, .i32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S2048, .f32⟩
  | .hbm, ⟨78, _⟩ => ⟨S2048x1, .f32⟩
  | .hbm, ⟨79, _⟩ => ⟨S1x32, .f32⟩
  | .hbm, ⟨80, _⟩ => ⟨S2048x32, .f32⟩
  | .hbm, ⟨81, _⟩ => ⟨S2048x32, .f32⟩
  | .hbm, ⟨82, _⟩ => ⟨S2048x32, .f32⟩
  | .hbm, ⟨83, _⟩ => ⟨S2048x32, .f32⟩
  | .hbm, ⟨84, _⟩ => ⟨S2048x32, .f32⟩
  | .hbm, ⟨85, _⟩ => ⟨S2048x64, .f32⟩
  | .hbm, ⟨86, _⟩ => ⟨S1x2048x1x64, .f32⟩
  | .hbm, ⟨87, _⟩ => ⟨S1x2048x2x64, .f32⟩
  | .hbm, ⟨88, _⟩ => ⟨S2048x128, .f32⟩
  | .hbm, ⟨89, _⟩ => ⟨S2048x32, .f32⟩
  | .hbm, ⟨90, _⟩ => ⟨S2048x64, .f32⟩
  | .hbm, ⟨91, _⟩ => ⟨S1x2048x1x64, .f32⟩
  | .hbm, ⟨92, _⟩ => ⟨S1x2048x2x64, .f32⟩
  | .hbm, ⟨93, _⟩ => ⟨S2048x128, .f32⟩
  | .hbm, ⟨94, _⟩ => ⟨S32768x512, .bf16⟩
  | .hbm, ⟨95, _⟩ => ⟨S32768x128, .f32⟩
  | .hbm, ⟨96, _⟩ => ⟨S32768x128, .f32⟩
  | .hbm, ⟨97, _⟩ => ⟨S32768x512, .f32⟩
  | .hbm, ⟨98, _⟩ => ⟨S32768x1024, .f32⟩
  | .hbm, ⟨99, _⟩ => ⟨S32768x128, .f32⟩
  | .hbm, ⟨100, _⟩ => ⟨S16x2048x2x64, .f32⟩
  | .hbm, ⟨101, _⟩ => ⟨S16x2048x2x64, .f32⟩
  | .hbm, ⟨102, _⟩ => ⟨S16x128x2x64, .f32⟩
  | .hbm, ⟨103, _⟩ => ⟨S1x16x128x2x64, .f32⟩
  | .hbm, ⟨104, _⟩ => ⟨S16x128x2x64, .f32⟩
  | .hbm, ⟨105, _⟩ => ⟨S1x16x128x2x64, .f32⟩
  | .hbm, ⟨106, _⟩ => ⟨S16x2048x1024, .f32⟩
  | .hbm, ⟨107, _⟩ => ⟨S16x3x1024, .f32⟩
  | .hbm, ⟨108, _⟩ => ⟨S1x16x3x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x640, .bf16⟩
  | .local _ .vmem, ⟨4, _⟩ => ⟨S1024x128, .bf16⟩
  | .local _ .vmem, ⟨5, _⟩ => ⟨S1024x512, .bf16⟩
  | .local _ .vmem, ⟨6, _⟩ => ⟨S1024x1024, .bf16⟩
  | .local _ .vmem, ⟨7, _⟩ => ⟨S1024x128, .bf16⟩
  | .local _ .vmem, ⟨8, _⟩ => ⟨S1x640, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S640x128, .bf16⟩
  | .local _ .vmem, ⟨14, _⟩ => ⟨S128x640, .bf16⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x512, .f32⟩
  | .local _ .vmem, ⟨22, _⟩ => ⟨S512x512, .f32⟩
  | .local _ .vmem, ⟨23, _⟩ => ⟨S512x1024, .f32⟩
  | .local _ .vmem, ⟨24, _⟩ => ⟨S512x1024, .f32⟩
  | .local _ .vmem, ⟨25, _⟩ => ⟨S512x128, .f32⟩
  | .local _ .vmem, ⟨26, _⟩ => ⟨S512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst : Ref sig .tc := ⟨.hbm, 62, rfl⟩
abbrev main_v38 : Ref sig .tc := ⟨.hbm, 63, rfl⟩
abbrev main_v39 : Ref sig .tc := ⟨.hbm, 64, rfl⟩
abbrev main_cst_1 : Ref sig .tc := ⟨.hbm, 65, rfl⟩
abbrev main_v40 : Ref sig .tc := ⟨.hbm, 66, rfl⟩
abbrev main_v41 : Ref sig .tc := ⟨.hbm, 67, rfl⟩
abbrev main_cst_2 : Ref sig .tc := ⟨.hbm, 68, rfl⟩
abbrev main_v42 : Ref sig .tc := ⟨.hbm, 69, rfl⟩
abbrev main_v43 : Ref sig .tc := ⟨.hbm, 70, rfl⟩
abbrev main_cst_3 : Ref sig .tc := ⟨.hbm, 71, rfl⟩
abbrev main_v44 : Ref sig .tc := ⟨.hbm, 72, rfl⟩
abbrev main_v45 : Ref sig .tc := ⟨.hbm, 73, rfl⟩
abbrev main_cst_4 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65_0 : Ref sig .tc := ⟨.hbm, 94, rfl⟩
abbrev main_v65_1 : Ref sig .tc := ⟨.hbm, 95, rfl⟩
abbrev main_v65_2 : Ref sig .tc := ⟨.hbm, 96, rfl⟩
abbrev main_v65_3 : Ref sig .tc := ⟨.hbm, 97, rfl⟩
abbrev main_v65_4 : Ref sig .tc := ⟨.hbm, 98, rfl⟩
abbrev main_v65_5 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S640x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x640 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InprojRefIdeal.lean ====
abbrev S16x2048x1024 : Shape := ⟨3, ![16, 2048, 1024]⟩
abbrev S1x1024 : Shape := ⟨2, ![1, 1024]⟩
abbrev S1x1024x2312 : Shape := ⟨3, ![1, 1024, 2312]⟩
abbrev S1x64 : Shape := ⟨2, ![1, 64]⟩
abbrev S2048 : Shape := ⟨1, ![2048]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2312 : Shape := ⟨2, ![1024, 2312]⟩
abbrev S16x2048x2312 : Shape := ⟨3, ![16, 2048, 2312]⟩
abbrev S16x2048x512 : Shape := ⟨3, ![16, 2048, 512]⟩
abbrev S16x2048x128 : Shape := ⟨3, ![16, 2048, 128]⟩
abbrev S16x2048x8 : Shape := ⟨3, ![16, 2048, 8]⟩
abbrev S16x2048x8x64 : Shape := ⟨4, ![16, 2048, 8, 64]⟩
abbrev S64 : Shape := ⟨1, ![64]⟩
abbrev S16x2048x8x1 : Shape := ⟨4, ![16, 2048, 8, 1]⟩
abbrev S1x1x1x64 : Shape := ⟨4, ![1, 1, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x8x32 : Shape := ⟨4, ![16, 2048, 8, 32]⟩
abbrev S1x2048x1x32 : Shape := ⟨4, ![1, 2048, 1, 32]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x2x32 : Shape := ⟨4, ![16, 2048, 2, 32]⟩
abbrev S16x128x2x64 : Shape := ⟨4, ![16, 128, 2, 64]⟩
abbrev S16x3x1024 : Shape := ⟨3, ![16, 3, 1024]⟩
abbrev S32768x512 : Shape := ⟨2, ![32768, 512]⟩
abbrev S32768x128 : Shape := ⟨2, ![32768, 128]⟩
abbrev S32768x1024 : Shape := ⟨2, ![32768, 1024]⟩
abbrev S1x16x128x2x64 : Shape := ⟨5, ![1, 16, 128, 2, 64]⟩
abbrev S1x16x3x1024 : Shape := ⟨4, ![1, 16, 3, 1024]⟩

abbrev nBuf : Space → Nat
  | .hbm => 173
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x2312, .f32⟩
  | 3 => ⟨S1x64, .f32⟩
  | 4 => ⟨S1x64, .f32⟩
  | 5 => ⟨S2048, .i32⟩
  | 6 => ⟨S1024, .f32⟩
  | 7 => ⟨S16x2048x1024, .f32⟩
  | 8 => ⟨S_, .f32⟩
  | 9 => ⟨S16x2048, .f32⟩
  | 10 => ⟨S16x2048x1, .f32⟩
  | 11 => ⟨S_, .f32⟩
  | 12 => ⟨S16x2048x1, .f32⟩
  | 13 => ⟨S16x2048x1, .f32⟩
  | 14 => ⟨S_, .f32⟩
  | 15 => ⟨S16x2048x1, .f32⟩
  | 16 => ⟨S16x2048x1, .f32⟩
  | 17 => ⟨S16x2048x1, .f32⟩
  | 18 => ⟨S16x2048x1024, .f32⟩
  | 19 => ⟨S16x2048x1024, .f32⟩
  | 20 => ⟨S1x1x1024, .f32⟩
  | 21 => ⟨S16x2048x1024, .f32⟩
  | 22 => ⟨S16x2048x1024, .f32⟩
  | 23 => ⟨S1024x2312, .f32⟩
  | 24 => ⟨S16x2048x2312, .f32⟩
  | 25 => ⟨S16x2048x512, .f32⟩
  | 26 => ⟨S16x2048x128, .f32⟩
  | 27 => ⟨S16x2048x128, .f32⟩
  | 28 => ⟨S16x2048x512, .f32⟩
  | 29 => ⟨S16x2048x1024, .f32⟩
  | 30 => ⟨S16x2048x8, .f32⟩
  | 31 => ⟨S16x2048x8x64, .f32⟩
  | 32 => ⟨S64, .f32⟩
  | 33 => ⟨S16x2048x8x64, .f32⟩
  | 34 => ⟨S_, .f32⟩
  | 35 => ⟨S16x2048x8, .f32⟩
  | 36 => ⟨S16x2048x8x1, .f32⟩
  | 37 => ⟨S_, .f32⟩
  | 38 => ⟨S16x2048x8x1, .f32⟩
  | 39 => ⟨S16x2048x8x1, .f32⟩
  | 40 => ⟨S_, .f32⟩
  | 41 => ⟨S16x2048x8x1, .f32⟩
  | 42 => ⟨S16x2048x8x1, .f32⟩
  | 43 => ⟨S16x2048x8x1, .f32⟩
  | 44 => ⟨S16x2048x8x64, .f32⟩
  | 45 => ⟨S16x2048x8x64, .f32⟩
  | 46 => ⟨S1x1x1x64, .f32⟩
  | 47 => ⟨S16x2048x8x64, .f32⟩
  | 48 => ⟨S16x2048x8x64, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S_, .f32⟩
  | 63 => ⟨S32, .f32⟩
  | 64 => ⟨S32, .f32⟩
  | 65 => ⟨S2048, .f32⟩
  | 66 => ⟨S2048x1, .f32⟩
  | 67 => ⟨S1x32, .f32⟩
  | 68 => ⟨S2048x32, .f32⟩
  | 69 => ⟨S2048x32, .f32⟩
  | 70 => ⟨S2048x32, .f32⟩
  | 71 => ⟨S2048x32, .f32⟩
  | 72 => ⟨S2048x1x32, .f32⟩
  | 73 => ⟨S2048x32, .f32⟩
  | 74 => ⟨S2048x1x32, .f32⟩
  | 75 => ⟨S16x2048x8x32, .f32⟩
  | 76 => ⟨S16x2048x8x32, .f32⟩
  | 77 => ⟨S1x2048x1x32, .f32⟩
  | 78 => ⟨S16x2048x8x32, .f32⟩
  | 79 => ⟨S16x2048x8x32, .f32⟩
  | 80 => ⟨S1x2048x1x32, .f32⟩
  | 81 => ⟨S16x2048x8x32, .f32⟩
  | 82 => ⟨S16x2048x8x32, .f32⟩
  | 83 => ⟨S16x2048x8x32, .f32⟩
  | 84 => ⟨S1x2048x1x32, .f32⟩
  | 85 => ⟨S16x2048x8x32, .f32⟩
  | 86 => ⟨S16x2048x8x32, .f32⟩
  | 87 => ⟨S1x2048x1x32, .f32⟩
  | 88 => ⟨S16x2048x8x32, .f32⟩
  | 89 => ⟨S16x2048x8x32, .f32⟩
  | 90 => ⟨S16x2048x8x32, .f32⟩
  | 91 => ⟨S16x2048x8x64, .f32⟩
  | 92 => ⟨S16x2048x2x64, .f32⟩
  | 93 => ⟨S64, .f32⟩
  | 94 => ⟨S16x2048x2x64, .f32⟩
  | 95 => ⟨S_, .f32⟩
  | 96 => ⟨S16x2048x2, .f32⟩
  | 97 => ⟨S16x2048x2x1, .f32⟩
  | 98 => ⟨S_, .f32⟩
  | 99 => ⟨S16x2048x2x1, .f32⟩
  | 100 => ⟨S16x2048x2x1, .f32⟩
  | 101 => ⟨S_, .f32⟩
  | 102 => ⟨S16x2048x2x1, .f32⟩
  | 103 => ⟨S16x2048x2x1, .f32⟩
  | 104 => ⟨S16x2048x2x1, .f32⟩
  | 105 => ⟨S16x2048x2x64, .f32⟩
  | 106 => ⟨S16x2048x2x64, .f32⟩
  | 107 => ⟨S1x1x1x64, .f32⟩
  | 108 => ⟨S16x2048x2x64, .f32⟩
  | 109 => ⟨S16x2048x2x64, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S2048, .f32⟩
  | 127 => ⟨S2048x1, .f32⟩
  | _ => ⟨S16x2048x1024, .f32⟩

abbrev hbmTy0_1 (i : Nat) : BufTy := match i % 128 with
  | 0 => ⟨S1x32, .f32⟩
  | 1 => ⟨S2048x32, .f32⟩
  | 2 => ⟨S2048x32, .f32⟩
  | 3 => ⟨S2048x32, .f32⟩
  | 4 => ⟨S2048x32, .f32⟩
  | 5 => ⟨S2048x1x32, .f32⟩
  | 6 => ⟨S2048x32, .f32⟩
  | 7 => ⟨S2048x1x32, .f32⟩
  | 8 => ⟨S16x2048x2x32, .f32⟩
  | 9 => ⟨S16x2048x2x32, .f32⟩
  | 10 => ⟨S1x2048x1x32, .f32⟩
  | 11 => ⟨S16x2048x2x32, .f32⟩
  | 12 => ⟨S16x2048x2x32, .f32⟩
  | 13 => ⟨S1x2048x1x32, .f32⟩
  | 14 => ⟨S16x2048x2x32, .f32⟩
  | 15 => ⟨S16x2048x2x32, .f32⟩
  | 16 => ⟨S16x2048x2x32, .f32⟩
  | 17 => ⟨S1x2048x1x32, .f32⟩
  | 18 => ⟨S16x2048x2x32, .f32⟩
  | 19 => ⟨S16x2048x2x32, .f32⟩
  | 20 => ⟨S1x2048x1x32, .f32⟩
  | 21 => ⟨S16x2048x2x32, .f32⟩
  | 22 => ⟨S16x2048x2x32, .f32⟩
  | 23 => ⟨S16x2048x2x32, .f32⟩
  | 24 => ⟨S16x2048x2x64, .f32⟩
  | 25 => ⟨S16x2048x2x64, .f32⟩
  | 26 => ⟨S16x128x2x64, .f32⟩
  | 27 => ⟨S16x128x2x64, .f32⟩
  | 28 => ⟨S16x3x1024, .f32⟩
  | 29 => ⟨S_, .i32⟩
  | 30 => ⟨S_, .f32⟩
  | 31 => ⟨S16x2048x128, .f32⟩
  | 32 => ⟨S_, .f32⟩
  | 33 => ⟨S16x2048x8x64, .f32⟩
  | 34 => ⟨S16x2048x8x64, .f32⟩
  | 35 => ⟨S32768x512, .f32⟩
  | 36 => ⟨S32768x512, .bf16⟩
  | 37 => ⟨S32768x128, .f32⟩
  | 38 => ⟨S32768x128, .f32⟩
  | 39 => ⟨S32768x512, .f32⟩
  | 40 => ⟨S32768x1024, .f32⟩
  | 41 => ⟨S32768x128, .f32⟩
  | 42 => ⟨S1x16x128x2x64, .f32⟩
  | 43 => ⟨S1x16x128x2x64, .f32⟩
  | 44 => ⟨S1x16x3x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_10 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_cst_14 : Ref sig .tc := ⟨.hbm, 114, rfl⟩
abbrev main_v94 : Ref sig .tc := ⟨.hbm, 115, rfl⟩
abbrev main_v95 : Ref sig .tc := ⟨.hbm, 116, rfl⟩
abbrev main_cst_15 : Ref sig .tc := ⟨.hbm, 117, rfl⟩
abbrev main_v96 : Ref sig .tc := ⟨.hbm, 118, rfl⟩
abbrev main_v97 : Ref sig .tc := ⟨.hbm, 119, rfl⟩
abbrev main_cst_16 : Ref sig .tc := ⟨.hbm, 120, rfl⟩
abbrev main_v98 : Ref sig .tc := ⟨.hbm, 121, rfl⟩
abbrev main_v99 : Ref sig .tc := ⟨.hbm, 122, rfl⟩
abbrev main_cst_17 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_c : Ref sig .tc := ⟨.hbm, 157, rfl⟩
abbrev main_call0_v0 : Ref sig .tc := ⟨.hbm, 158, rfl⟩
abbrev main_v133 : Ref sig .tc := ⟨.hbm, 159, rfl⟩
abbrev main_cst_18 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩

abbrev nD : Nat := 1
abbrev τ : Topo := Topo.v7x

variable {F : FTy → Type} [FloatOps F]
-- ==== Outproj.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S512x1024 : Shape := ⟨2, ![512, 1024]⟩
abbrev S1x1024 : Shape := ⟨2, ![1, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S32768x128 : Shape := ⟨2, ![32768, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 43
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1x1024, .f32⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S1024x128, .bf16⟩
  | .hbm, ⟨23, _⟩ => ⟨S1024x128, .f32⟩
  | .hbm, ⟨24, _⟩ => ⟨S1024x128, .f32⟩
  | .hbm, ⟨25, _⟩ => ⟨S1024x128, .bf16⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1x128, .f32⟩
  | .hbm, ⟨40, _⟩ => ⟨S32768x1024, .f32⟩
  | .hbm, ⟨41, _⟩ => ⟨S32768x1024, .bf16⟩
  | .hbm, ⟨42, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_v23_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutprojRefIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== AttnSample.lean ====
abbrev S128x512 : Shape := ⟨2, ![128, 512]⟩
abbrev S128x128 : Shape := ⟨2, ![128, 128]⟩
abbrev S1x128x128x2x64 : Shape := ⟨5, ![1, 128, 128, 2, 64]⟩
abbrev S1x8 : Shape := ⟨2, ![1, 8]⟩
abbrev S8 : Shape := ⟨1, ![8]⟩
abbrev S_ : Shape := ⟨0, ![]⟩
abbrev S128x2x4x64 : Shape := ⟨4, ![128, 2, 4, 64]⟩
abbrev S128x1x4x64 : Shape := ⟨4, ![128, 1, 4, 64]⟩
abbrev S128x4x64 : Shape := ⟨3, ![128, 4, 64]⟩
abbrev S128x4x128 : Shape := ⟨3, ![128, 4, 128]⟩
abbrev S128x8x128 : Shape := ⟨3, ![128, 8, 128]⟩
abbrev S128x16x128 : Shape := ⟨3, ![128, 16, 128]⟩
abbrev S8x1 : Shape := ⟨2, ![8, 1]⟩
abbrev S8x128 : Shape := ⟨2, ![8, 128]⟩
abbrev S16x128 : Shape := ⟨2, ![16, 128]⟩
abbrev S128x128x2x64 : Shape := ⟨4, ![128, 128, 2, 64]⟩
abbrev S128x128x128 : Shape := ⟨3, ![128, 128, 128]⟩
abbrev S128x1x128 : Shape := ⟨3, ![128, 1, 128]⟩
abbrev S8x16x128 : Shape := ⟨3, ![8, 16, 128]⟩
abbrev S8x128x128 : Shape := ⟨3, ![8, 128, 128]⟩
abbrev S8x1x128 : Shape := ⟨3, ![8, 1, 128]⟩
abbrev S8x512 : Shape := ⟨2, ![8, 512]⟩
abbrev S1x128 : Shape := ⟨2, ![1, 128]⟩
abbrev S1x127x128 : Shape := ⟨3, ![1, 127, 128]⟩
abbrev S127x128 : Shape := ⟨2, ![127, 128]⟩
abbrev S1x1x128 : Shape := ⟨3, ![1, 1, 128]⟩
abbrev S1x16x128 : Shape := ⟨3, ![1, 16, 128]⟩
abbrev S1x128x128 : Shape := ⟨3, ![1, 128, 128]⟩
abbrev S16 : Shape := ⟨1, ![16]⟩
abbrev S16x1 : Shape := ⟨2, ![16, 1]⟩

abbrev nBuf : Space → Nat
  | .hbm => 40
  | .vmem => 17
  | .smem => 0
  | _ => 0

abbrev bufTy : (tb : Table) → Fin (tcTables nBuf tb) → BufTy
  | .hbm, ⟨0, _⟩ => ⟨S128x512, .f32⟩
  | .hbm, ⟨1, _⟩ => ⟨S128x128, .f32⟩
  | .hbm, ⟨2, _⟩ => ⟨S128x128, .f32⟩
  | .hbm, ⟨3, _⟩ => ⟨S1x128x128x2x64, .f32⟩
  | .hbm, ⟨4, _⟩ => ⟨S1x128x128x2x64, .f32⟩
  | .hbm, ⟨5, _⟩ => ⟨S1x8, .f32⟩
  | .hbm, ⟨6, _⟩ => ⟨S8, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S128x512, .bf16⟩
  | .hbm, ⟨11, _⟩ => ⟨S128x2x4x64, .bf16⟩
  | .hbm, ⟨12, _⟩ => ⟨S128x1x4x64, .bf16⟩
  | .hbm, ⟨13, _⟩ => ⟨S128x4x64, .bf16⟩
  | .hbm, ⟨14, _⟩ => ⟨S_, .bf16⟩
  | .hbm, ⟨15, _⟩ => ⟨S128x4x64, .bf16⟩
  | .hbm, ⟨16, _⟩ => ⟨S128x1x4x64, .bf16⟩
  | .hbm, ⟨17, _⟩ => ⟨S128x4x64, .bf16⟩
  | .hbm, ⟨18, _⟩ => ⟨S128x4x128, .bf16⟩
  | .hbm, ⟨19, _⟩ => ⟨S128x1x4x64, .bf16⟩
  | .hbm, ⟨20, _⟩ => ⟨S128x4x64, .bf16⟩
  | .hbm, ⟨21, _⟩ => ⟨S128x4x128, .bf16⟩
  | .hbm, ⟨22, _⟩ => ⟨S128x8x128, .bf16⟩
  | .hbm, ⟨23, _⟩ => ⟨S_, .i32⟩
  | .hbm, ⟨24, _⟩ => ⟨S_, .bf16⟩
  | .hbm, ⟨25, _⟩ => ⟨S128x16x128, .bf16⟩
  | .hbm, ⟨26, _⟩ => ⟨S8x1, .f32⟩
  | .hbm, ⟨27, _⟩ => ⟨S8x128, .f32⟩
  | .hbm, ⟨28, _⟩ => ⟨S_, .i32⟩
  | .hbm, ⟨29, _⟩ => ⟨S_, .f32⟩
  | .hbm, ⟨30, _⟩ => ⟨S16x128, .f32⟩
  | .hbm, ⟨31, _⟩ => ⟨S128x128x2x64, .f32⟩
  | .hbm, ⟨32, _⟩ => ⟨S128x128x128, .f32⟩
  | .hbm, ⟨33, _⟩ => ⟨S128x128x2x64, .f32⟩
  | .hbm, ⟨34, _⟩ => ⟨S128x128x128, .f32⟩
  | .hbm, ⟨35, _⟩ => ⟨S128x1x128, .f32⟩
  | .hbm, ⟨36, _⟩ => ⟨S128x1x128, .f32⟩
  | .hbm, ⟨37, _⟩ => ⟨S128x128x128, .f32⟩
  | .hbm, ⟨38, _⟩ => ⟨S128x128x128, .f32⟩
  | .hbm, ⟨39, _⟩ => ⟨S128x512, .f32⟩
  | .local _ .vmem, ⟨0, _⟩ => ⟨S8x16x128, .bf16⟩
  | .local _ .vmem, ⟨1, _⟩ => ⟨S8x16x128, .bf16⟩
  | .local _ .vmem, ⟨2, _⟩ => ⟨S8x128x128, .f32⟩
  | .local _ .vmem, ⟨3, _⟩ => ⟨S8x128x128, .f32⟩
  | .local _ .vmem, ⟨4, _⟩ => ⟨S8x1x128, .f32⟩
  | .local _ .vmem, ⟨5, _⟩ => ⟨S8x1x128, .f32⟩
  | .local _ .vmem, ⟨6, _⟩ => ⟨S8x128x128, .f32⟩
  | .local _ .vmem, ⟨7, _⟩ => ⟨S8x128x128, .f32⟩
  | .local _ .vmem, ⟨8, _⟩ => ⟨S8x1x128, .f32⟩
  | .local _ .vmem, ⟨9, _⟩ => ⟨S8x1x128, .f32⟩
  | .local _ .vmem, ⟨10, _⟩ => ⟨S16x128, .f32⟩
  | .local _ .vmem, ⟨11, _⟩ => ⟨S8x128x128, .f32⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S8x512, .f32⟩
  | .local _ .vmem, ⟨16, _⟩ => ⟨S8x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnSampleRefIdeal.lean ====
abbrev S128x512 : Shape := ⟨2, ![128, 512]⟩
abbrev S128x128 : Shape := ⟨2, ![128, 128]⟩
abbrev S1x128x128x2x64 : Shape := ⟨5, ![1, 128, 128, 2, 64]⟩
abbrev S1x8 : Shape := ⟨2, ![1, 8]⟩
abbrev S128x1x2x64 : Shape := ⟨4, ![128, 1, 2, 64]⟩
abbrev S128x128x2x64 : Shape := ⟨4, ![128, 128, 2, 64]⟩
abbrev S128x129x2x64 : Shape := ⟨4, ![128, 129, 2, 64]⟩
abbrev S128x128x128 : Shape := ⟨3, ![128, 128, 128]⟩

abbrev nBuf : Space → Nat
  | .hbm => 16
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x128, .f32⟩
  | .hbm, ⟨2, _⟩ => ⟨S128x128, .f32⟩
  | .hbm, ⟨3, _⟩ => ⟨S1x128x128x2x64, .f32⟩
  | .hbm, ⟨4, _⟩ => ⟨S1x128x128x2x64, .f32⟩
  | .hbm, ⟨5, _⟩ => ⟨S1x8, .f32⟩
  | .hbm, ⟨6, _⟩ => ⟨S128x1x2x64, .f32⟩
  | .hbm, ⟨7, _⟩ => ⟨S128x1x2x64, .f32⟩
  | .hbm, ⟨8, _⟩ => ⟨S128x128x2x64, .f32⟩
  | .hbm, ⟨9, _⟩ => ⟨S128x129x2x64, .f32⟩
  | .hbm, ⟨10, _⟩ => ⟨S128x128x2x64, .f32⟩
  | .hbm, ⟨11, _⟩ => ⟨S128x129x2x64, .f32⟩
  | .hbm, ⟨12, _⟩ => ⟨S128x128x2x64, .f32⟩
  | .hbm, ⟨13, _⟩ => ⟨S128x128x128, .f32⟩
  | .hbm, ⟨14, _⟩ => ⟨S128x128x2x64, .f32⟩
  | .hbm, ⟨15, _⟩ => ⟨S128x128x128, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== SsdSample.lean ====
abbrev S128x1024 : Shape := ⟨2, ![128, 1024]⟩
abbrev S128x512 : Shape := ⟨2, ![128, 512]⟩
abbrev S128x128 : Shape := ⟨2, ![128, 128]⟩
abbrev S1x128x3x1024 : Shape := ⟨4, ![1, 128, 3, 1024]⟩
abbrev S1x128x8x64x128 : Shape := ⟨5, ![1, 128, 8, 64, 128]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S4x1024 : Shape := ⟨2, ![4, 1024]⟩
abbrev S1024 : Shape := ⟨1, ![1024]⟩
abbrev S8 : Shape := ⟨1, ![8]⟩
abbrev S_ : Shape := ⟨0, ![]⟩
abbrev S1x128 : Shape := ⟨2, ![1, 128]⟩
abbrev S8x64 : Shape := ⟨2, ![8, 64]⟩
abbrev S512 : Shape := ⟨1, ![512]⟩
abbrev S128x3x1024 : Shape := ⟨3, ![128, 3, 1024]⟩
abbrev S3x128x1024 : Shape := ⟨3, ![3, 128, 1024]⟩
abbrev S128x8x64x128 : Shape := ⟨4, ![128, 8, 64, 128]⟩
abbrev S128x4x128x128 : Shape := ⟨4, ![128, 4, 128, 128]⟩
abbrev S16x1024 : Shape := ⟨2, ![16, 1024]⟩
abbrev S16x512 : Shape := ⟨2, ![16, 512]⟩
abbrev S16x128 : Shape := ⟨2, ![16, 128]⟩
abbrev S3x16x1024 : Shape := ⟨3, ![3, 16, 1024]⟩
abbrev S16x4x128x128 : Shape := ⟨4, ![16, 4, 128, 128]⟩
abbrev S1x16x1024 : Shape := ⟨3, ![1, 16, 1024]⟩
abbrev S16x256 : Shape := ⟨2, ![16, 256]⟩
abbrev S16x1 : Shape := ⟨2, ![16, 1]⟩
abbrev S128x16 : Shape := ⟨2, ![128, 16]⟩
abbrev S1x1 : Shape := ⟨2, ![1, 1]⟩
abbrev S1x1x128x128 : Shape := ⟨4, ![1, 1, 128, 128]⟩
abbrev S16 : Shape := ⟨1, ![16]⟩

abbrev nBuf : Space → Nat
  | .hbm => 37
  | .vmem => 22
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x128, .f32⟩
  | .hbm, ⟨3, _⟩ => ⟨S1x128x3x1024, .f32⟩
  | .hbm, ⟨4, _⟩ => ⟨S1x128x8x64x128, .f32⟩
  | .hbm, ⟨5, _⟩ => ⟨S1x4x1024, .f32⟩
  | .hbm, ⟨6, _⟩ => ⟨S1x1024, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x512, .f32⟩
  | .hbm, ⟨11, _⟩ => ⟨S4x1024, .f32⟩
  | .hbm, ⟨12, _⟩ => ⟨S1024, .f32⟩
  | .hbm, ⟨13, _⟩ => ⟨S1x1024, .f32⟩
  | .hbm, ⟨14, _⟩ => ⟨S8, .f32⟩
  | .hbm, ⟨15, _⟩ => ⟨S1x8, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S8, .f32⟩
  | .hbm, ⟨20, _⟩ => ⟨S1x8, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S8, .f32⟩
  | .hbm, ⟨25, _⟩ => ⟨S8x64, .f32⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S128x3x1024, .f32⟩
  | .hbm, ⟨31, _⟩ => ⟨S3x128x1024, .f32⟩
  | .hbm, ⟨32, _⟩ => ⟨S128x8x64x128, .f32⟩
  | .hbm, ⟨33, _⟩ => ⟨S128x4x128x128, .f32⟩
  | .hbm, ⟨34, _⟩ => ⟨S128x512, .bf16⟩
  | .hbm, ⟨35, _⟩ => ⟨S3x128x1024, .f32⟩
  | .hbm, ⟨36, _⟩ => ⟨S128x4x128x128, .f32⟩
  | .local _ .vmem, ⟨0, _⟩ => ⟨S16x1024, .f32⟩
  | .local _ .vmem, ⟨1, _⟩ => ⟨S16x1024, .f32⟩
  | .local _ .vmem, ⟨2, _⟩ => ⟨S16x512, .f32⟩
  | .local _ .vmem, ⟨3, _⟩ => ⟨S16x512, .f32⟩
  | .local _ .vmem, ⟨4, _⟩ => ⟨S16x128, .f32⟩
  | .local _ .vmem, ⟨5, _⟩ => ⟨S16x128, .f32⟩
  | .local _ .vmem, ⟨6, _⟩ => ⟨S3x16x1024, .f32⟩
  | .local _ .vmem, ⟨7, _⟩ => ⟨S3x16x1024, .f32⟩
  | .local _ .vmem, ⟨8, _⟩ => ⟨S16x4x128x128, .f32⟩
  | .local _ .vmem, ⟨9, _⟩ => ⟨S16x4x128x128, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S16x512, .bf16⟩
  | .local _ .vmem, ⟨17, _⟩ => ⟨S16x512, .bf16⟩
  | .local _ .vmem, ⟨18, _⟩ => ⟨S3x16x1024, .f32⟩
  | .local _ .vmem, ⟨19, _⟩ => ⟨S3x16x1024, .f32⟩
  | .local _ .vmem, ⟨20, _⟩ => ⟨S16x4x128x128, .f32⟩
  | .local _ .vmem, ⟨21, _⟩ => ⟨S16x4x128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SsdSampleRefIdeal.lean ====
abbrev S128x1024 : Shape := ⟨2, ![128, 1024]⟩
abbrev S128x512 : Shape := ⟨2, ![128, 512]⟩
abbrev S128x128 : Shape := ⟨2, ![128, 128]⟩
abbrev S1x128x3x1024 : Shape := ⟨4, ![1, 128, 3, 1024]⟩
abbrev S1x128x8x64x128 : Shape := ⟨5, ![1, 128, 8, 64, 128]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S128x1x1024 : Shape := ⟨3, ![128, 1, 1024]⟩
abbrev S128x3x1024 : Shape := ⟨3, ![128, 3, 1024]⟩
abbrev S128x4x1024 : Shape := ⟨3, ![128, 4, 1024]⟩
abbrev S3x128x1024 : Shape := ⟨3, ![3, 128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x128, .f32⟩
  | .hbm, ⟨3, _⟩ => ⟨S1x128x3x1024, .f32⟩
  | .hbm, ⟨4, _⟩ => ⟨S1x128x8x64x128, .f32⟩
  | .hbm, ⟨5, _⟩ => ⟨S1x4x1024, .f32⟩
  | .hbm, ⟨6, _⟩ => ⟨S1x1024, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x512, .f32⟩
  | .hbm, ⟨11, _⟩ => ⟨S128x1x1024, .f32⟩
  | .hbm, ⟨12, _⟩ => ⟨S128x3x1024, .f32⟩
  | .hbm, ⟨13, _⟩ => ⟨S128x4x1024, .f32⟩
  | .hbm, ⟨14, _⟩ => ⟨S128x3x1024, .f32⟩
  | .hbm, ⟨15, _⟩ => ⟨S3x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== MoeSample.lean ====
abbrev S128x1024 : Shape := ⟨2, ![128, 1024]⟩
abbrev S128x128 : Shape := ⟨2, ![128, 128]⟩
abbrev S32x1024x128 : Shape := ⟨3, ![32, 1024, 128]⟩
abbrev S32x128x1024 : Shape := ⟨3, ![32, 128, 1024]⟩
abbrev S16x2x1024x128 : Shape := ⟨4, ![16, 2, 1024, 128]⟩
abbrev S16x1x1024x128 : Shape := ⟨4, ![16, 1, 1024, 128]⟩
abbrev S16x1024x128 : Shape := ⟨3, ![16, 1024, 128]⟩
abbrev S16x1024x512 : Shape := ⟨3, ![16, 1024, 512]⟩
abbrev S16x256x1024 : Shape := ⟨3, ![16, 256, 1024]⟩
abbrev S128x256 : Shape := ⟨2, ![128, 256]⟩
abbrev S1x1024x512 : Shape := ⟨3, ![1, 1024, 512]⟩
abbrev S1024x512 : Shape := ⟨2, ![1024, 512]⟩
abbrev S128x512 : Shape := ⟨2, ![128, 512]⟩
abbrev S128x1 : Shape := ⟨2, ![128, 1]⟩
abbrev S1x256x1024 : Shape := ⟨3, ![1, 256, 1024]⟩
abbrev S256x1024 : Shape := ⟨2, ![256, 1024]⟩

abbrev nBuf : Space → Nat
  | .hbm => 21
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x128, .f32⟩
  | .hbm, ⟨3, _⟩ => ⟨S32x1024x128, .f32⟩
  | .hbm, ⟨4, _⟩ => ⟨S32x1024x128, .f32⟩
  | .hbm, ⟨5, _⟩ => ⟨S32x128x1024, .f32⟩
  | .hbm, ⟨6, _⟩ => ⟨S16x2x1024x128, .f32⟩
  | .hbm, ⟨7, _⟩ => ⟨S16x2x1024x128, .f32⟩
  | .hbm, ⟨8, _⟩ => ⟨S16x1x1024x128, .f32⟩
  | .hbm, ⟨9, _⟩ => ⟨S16x1024x128, .f32⟩
  | .hbm, ⟨10, _⟩ => ⟨S16x1x1024x128, .f32⟩
  | .hbm, ⟨11, _⟩ => ⟨S16x1024x128, .f32⟩
  | .hbm, ⟨12, _⟩ => ⟨S16x1x1024x128, .f32⟩
  | .hbm, ⟨13, _⟩ => ⟨S16x1024x128, .f32⟩
  | .hbm, ⟨14, _⟩ => ⟨S16x1x1024x128, .f32⟩
  | .hbm, ⟨15, _⟩ => ⟨S16x1024x128, .f32⟩
  | .hbm, ⟨16, _⟩ => ⟨S16x1024x512, .f32⟩
  | .hbm, ⟨17, _⟩ => ⟨S16x1024x512, .bf16⟩
  | .hbm, ⟨18, _⟩ => ⟨S16x256x1024, .f32⟩
  | .hbm, ⟨19, _⟩ => ⟨S16x256x1024, .bf16⟩
  | .hbm, ⟨20, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S128x128, .f32⟩
  | .local _ .vmem, ⟨3, _⟩ => ⟨S16x1024x512, .bf16⟩
  | .local _ .vmem, ⟨4, _⟩ => ⟨S16x256x1024, .bf16⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== MoeSampleRefIdeal.lean ====
abbrev S128x1024 : Shape := ⟨2, ![128, 1024]⟩
abbrev S128x128 : Shape := ⟨2, ![128, 128]⟩
abbrev S32x1024x128 : Shape := ⟨3, ![32, 1024, 128]⟩
abbrev S32x128x1024 : Shape := ⟨3, ![32, 128, 1024]⟩
abbrev S128x32 : Shape := ⟨2, ![128, 32]⟩
abbrev S128x32x128 : Shape := ⟨3, ![128, 32, 128]⟩
abbrev S_ : Shape := ⟨0, ![]⟩
abbrev S128x32x1 : Shape := ⟨3, ![128, 32, 1]⟩

abbrev nBuf : Space → Nat
  | .hbm => 25
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S128x128, .f32⟩
  | .hbm, ⟨3, _⟩ => ⟨S32x1024x128, .f32⟩
  | .hbm, ⟨4, _⟩ => ⟨S32x1024x128, .f32⟩
  | .hbm, ⟨5, _⟩ => ⟨S32x128x1024, .f32⟩
  | .hbm, ⟨6, _⟩ => ⟨S128x1024, .f32⟩
  | .hbm, ⟨7, _⟩ => ⟨S128x32, .f32⟩
  | .hbm, ⟨8, _⟩ => ⟨S128x32x128, .f32⟩
  | .hbm, ⟨9, _⟩ => ⟨S128x32x128, .f32⟩
  | .hbm, ⟨10, _⟩ => ⟨S128x32x128, .f32⟩
  | .hbm, ⟨11, _⟩ => ⟨S_, .f32⟩
  | .hbm, ⟨12, _⟩ => ⟨S128x32x128, .f32⟩
  | .hbm, ⟨13, _⟩ => ⟨S128x32x128, .f32⟩
  | .hbm, ⟨14, _⟩ => ⟨S_, .f32⟩
  | .hbm, ⟨15, _⟩ => ⟨S128x32x128, .f32⟩
  | .hbm, ⟨16, _⟩ => ⟨S128x32x128, .f32⟩
  | .hbm, ⟨17, _⟩ => ⟨S128x32x128, .f32⟩
  | .hbm, ⟨18, _⟩ => ⟨S128x32x128, .f32⟩
  | .hbm, ⟨19, _⟩ => ⟨S128x32x128, .f32⟩
  | .hbm, ⟨20, _⟩ => ⟨S128x32x1, .f32⟩
  | .hbm, ⟨21, _⟩ => ⟨S128x32x128, .f32⟩
  | .hbm, ⟨22, _⟩ => ⟨S128x32x128, .f32⟩
  | .hbm, ⟨23, _⟩ => ⟨S128x1024, .f32⟩
  | .hbm, ⟨24, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Proof.MoeMath.lean ====
module

public import proofs.«01_k».proof.Proof.Gen.MoeIdeal.Skeleton
public import proofs.«01_k».proof.Proof.Gen.MoeRefIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.MoeIdeal.Ffn

open Cert.MoeIdeal Cert.MoeIdeal.Gen

/-- What one pair of experts adds to a row: the 256 hidden lanes (the first 128 the pair's first expert's, the
    others the second's), each `silu (gate) · up · weight`, against the pair's rows of the down projection. -/
def pairAdd (v0 : FVec Ideal S256x1024 .bf16) (w1 : FVec Ideal S1x1024x512 .bf16) (ca cb : FVec Ideal S256x1 .f32)
    (w2 : FVec Ideal S1x256x1024 .bf16) (r : Fin 256) (d : Fin 1024) : EReal :=
  ∑ x : Fin 256,
    ((∑ k : Fin 1024, v0 (ix2 r k) * w1 (ix3 0 k ⟨x, by omega⟩)) *
          Ideal.logistic (∑ k : Fin 1024, v0 (ix2 r k) * w1 (ix3 0 k ⟨x, by omega⟩)) *
        ∑ k : Fin 1024, v0 (ix2 r k) * w1 (ix3 0 k ⟨256 + x, by omega⟩)) *
      (if (x : ℕ) < 128 then ca (ix2 r 0) else cb (ix2 r 0)) *
    w2 (ix3 0 x d)

/-- The lane mask is set on the first 128 lanes. -/
theorem mask_at (x : Fin 256) (a b : EReal) :
    Scalar.select (IntOp.cmpi CmpIPredicate.slt (BitVec.ofNat 32 (x : ℕ)) 128#32) a b = if (x : ℕ) < 128 then a else b := by
  have hx := x.isLt
  by_cases h : (x : ℕ) < 128
  · rw [if_pos h]
    have : IntOp.cmpi CmpIPredicate.slt (BitVec.ofNat 32 (x : ℕ)) 128#32 = 1#1 := by word_cmp
    rw [this]; rfl
  · rw [if_neg h]
    have : IntOp.cmpi CmpIPredicate.slt (BitVec.ofNat 32 (x : ℕ)) 128#32 = 0#1 := by word_cmp
    rw [this]; rfl

/-- One pair's step: the accumulator plus what the pair adds. -/
theorem step_at (v0 : FVec Ideal S256x1024 .bf16) (w1 : FVec Ideal S1x1024x512 .bf16) (ca cb : FVec Ideal S256x1 .f32)
    (acc : FVec Ideal S256x1024 .f32) (w2 : FVec Ideal S1x256x1024 .bf16) (r : Fin 256) (d : Fin 1024) :
    k0_pay5 (F := Ideal) v0 k0_pay2 w1 ca cb acc w2 (ix2 r d) = acc (ix2 r d) + pairAdd v0 w1 ca cb w2 r d := by
  pointwise [k0_pay5, k0_pay2]
  simp only [mask_at]
  rfl

section Variants
variable (v0 : FVec Ideal S256x1024 .bf16) (w1 : FVec Ideal S1x1024x512 .bf16) (ca cb : FVec Ideal S256x1 .f32)
    (acc : FVec Ideal S256x1024 .f32) (w2 : FVec Ideal S1x256x1024 .bf16)

/-- The same step, spelt with other intermediate values. -/
theorem pay4_eq : k0_pay4 (F := Ideal) v0 w1 ca cb acc w2 = k0_pay5 v0 k0_pay2 w1 ca cb acc w2 := rfl
/-- The same step, spelt with other intermediate values. -/
theorem pay9_eq : k0_pay9 (F := Ideal) (k0_pay6 v0 w1) (k0_pay7 k0_pay2 ca cb) (k0_pay8 v0 w1) acc w2 = k0_pay5 v0 k0_pay2 w1 ca cb acc w2 := rfl
/-- The same step, spelt with other intermediate values. -/
theorem pay11_eq : k0_pay11 (F := Ideal) (k0_pay10 v0 k0_pay2 w1 ca cb acc w2) = k0_pay5 v0 k0_pay2 w1 ca cb acc w2 := rfl
/-- The same step, spelt with other intermediate values. -/
theorem pay12_eq : k0_pay12 (F := Ideal) v0 k0_pay2 w1 ca cb acc w2 = k0_pay5 v0 k0_pay2 w1 ca cb acc w2 := rfl
/-- The same step, spelt with other intermediate values. -/
theorem pay14_eq : k0_pay14 (F := Ideal) k0_pay2 (k0_pay13 v0 w1) ca cb acc w2 = k0_pay5 v0 k0_pay2 w1 ca cb acc w2 := rfl
/-- The same step, spelt with other intermediate values. -/
theorem pay16_eq : k0_pay16 (F := Ideal) acc (k0_pay15 v0 k0_pay2 w1 ca cb) w2 = k0_pay5 v0 k0_pay2 w1 ca cb acc w2 := rfl
/-- The same step, spelt with other intermediate values. -/
theorem pay17_eq : k0_pay17 (F := Ideal) v0 k0_pay2 w1 ca cb acc w2 = k0_pay5 v0 k0_pay2 w1 ca cb acc w2 := rfl
/-- The same step, spelt with other intermediate values. -/
theorem pay19_eq : k0_pay19 (F := Ideal) k0_pay2 (k0_pay18 v0 w1) ca cb acc w2 = k0_pay5 v0 k0_pay2 w1 ca cb acc w2 := rfl
/-- The same step, spelt with other intermediate values. -/
theorem pay21_eq : k0_pay21 (F := Ideal) (k0_pay20 v0 k0_pay2 w1 ca cb) acc w2 = k0_pay5 v0 k0_pay2 w1 ca cb acc w2 := rfl
/-- The same step, spelt with other intermediate values. -/
theorem pay22_eq : k0_pay22 (F := Ideal) v0 k0_pay2 w1 ca cb acc w2 = k0_pay5 v0 k0_pay2 w1 ca cb acc w2 := rfl
/-- The same step, spelt with other intermediate values. -/
theorem pay23_eq : k0_pay23 (F := Ideal) v0 k0_pay2 w1 ca cb acc w2 = k0_pay5 v0 k0_pay2 w1 ca cb acc w2 := rfl
/-- The same step, spelt with other intermediate values. -/
theorem pay27_eq : k0_pay27 (F := Ideal) (k0_pay24 v0 w1) (k0_pay25 k0_pay2 ca cb) (k0_pay26 v0 w1) acc w2 = k0_pay5 v0 k0_pay2 w1 ca cb acc w2 := rfl
/-- The same step, spelt with other intermediate values. -/
theorem pay29_eq : k0_pay29 (F := Ideal) (k0_pay28 v0 k0_pay2 w1 ca cb acc w2) = k0_pay5 v0 k0_pay2 w1 ca cb acc w2 := rfl
/-- The same step, spelt with other intermediate values. -/
theorem pay30_eq : k0_pay30 (F := Ideal) v0 k0_pay2 w1 ca cb acc w2 = k0_pay5 v0 k0_pay2 w1 ca cb acc w2 := rfl
/-- The same step, spelt with other intermediate values. -/
theorem pay1_eq : k0_pay1 (F := Ideal) k0_pay2 (k0_pay31 v0 w1) ca cb acc w2 = k0_pay5 v0 k0_pay2 w1 ca cb acc w2 := rfl

end Variants

/-- The reference's result as one term of its six arguments. -/
def REF (h : FVec Ideal S32768x1024 .f32) (t : FVec Ideal S32768x1024 .bf16) (cm : FVec Ideal S32768x128 .f32)
    (wg wu : FVec Ideal S32x1024x128 .f32) (wd : FVec Ideal S32x128x1024 .f32) : FVec Ideal S32768x1024 .f32 :=
  addf h (Host.dotGeneral Cert.MoeRefIdeal.dot_S32768x32x128_S32x128x1024_S32768x1024_12_01_0_2_n_n none
    (mulf (mulf (mulf (Host.dotGeneral Cert.MoeRefIdeal.dot_S32768x1024_S32x1024x128_S32768x32x128_1_1_0_02_n_n none (extf .f32 t Cert.MoeRefIdeal.Gen.bitsLt_bf16_f32) wg)
      (Host.divf (broadcastInDim Cert.MoeRefIdeal.S32768x32x128 ![] Cert.MoeRefIdeal.Gen.bcast_S_S32768x32x128 (constant Cert.MoeRefIdeal.S_ .f32 0x3F800000#32))
        (addf (broadcastInDim Cert.MoeRefIdeal.S32768x32x128 ![] Cert.MoeRefIdeal.Gen.bcast_S_S32768x32x128 (constant Cert.MoeRefIdeal.S_ .f32 0x3F800000#32))
          (Host.exp (Host.negf (Host.dotGeneral Cert.MoeRefIdeal.dot_S32768x1024_S32x1024x128_S32768x32x128_1_1_0_02_n_n none (extf .f32 t Cert.MoeRefIdeal.Gen.bitsLt_bf16_f32) wg))))))
      (Host.dotGeneral Cert.MoeRefIdeal.dot_S32768x1024_S32x1024x128_S32768x32x128_1_1_0_02_n_n none (extf .f32 t Cert.MoeRefIdeal.Gen.bitsLt_bf16_f32) wu))
      (broadcastInDim Cert.MoeRefIdeal.S32768x32x128 ![0, 1, 2] Cert.MoeRefIdeal.Gen.bcast_S32768x32x1_S32768x32x128_0_1_2
        (broadcastInDim Cert.MoeRefIdeal.S32768x32x1 ![0, 1] Cert.MoeRefIdeal.Gen.bcast_S32768x32_S32768x32x1_0_1
          (extractStridedSlice Cert.MoeRefIdeal.S32768x32 ![0, 32] cm Cert.MoeRefIdeal.Gen.slices_S32768x128_S32768x32_0_32)))) wd)

/-- The contribution of expert `e`, hidden lane `f`, to the result at row `R`, lane `d`. -/
def term (t : FVec Ideal S32768x1024 .bf16) (cm : FVec Ideal S32768x128 .f32)
    (wg wu : FVec Ideal S32x1024x128 .f32) (wd : FVec Ideal S32x128x1024 .f32) (R : Fin 32768) (d : Fin 1024)
    (e : Fin 32) (f : Fin 128) : EReal :=
  ((∑ k : Fin 1024, t (ix2 R k) * wg (ix3 e k f)) * Ideal.logistic (∑ k : Fin 1024, t (ix2 R k) * wg (ix3 e k f)) *
      ∑ k : Fin 1024, t (ix2 R k) * wu (ix3 e k f)) *
    cm (ix2 R ⟨32 + (e : ℕ), by omega⟩) *
  wd (ix3 e f d)

/-- The reference at an index: the residual plus every expert's contribution. -/
theorem ref_at (h : FVec Ideal S32768x1024 .f32) (t : FVec Ideal S32768x1024 .bf16) (cm : FVec Ideal S32768x128 .f32)
    (wg wu : FVec Ideal S32x1024x128 .f32) (wd : FVec Ideal S32x128x1024 .f32) (R : Fin 32768) (d : Fin 1024) :
    REF h t cm wg wu wd (ix2 R d) = h (ix2 R d) + ∑ e : Fin 32, ∑ f : Fin 128, term t cm wg wu wd R d e f := by
  unfold term Ideal.logistic
  pointwise [REF]

/-- Sixteen additions in a row are one sum. -/
theorem chain (h : EReal) (P : Fin 16 → EReal) :
    h + P 0 + P 1 + P 2 + P 3 + P 4 + P 5 + P 6 + P 7 + P 8 + P 9 + P 10 + P 11 + P 12 + P 13 + P 14 + P 15 = h + ∑ p, P p := by
  simp only [Fin.sum_univ_succ, Fin.sum_univ_zero, add_zero, ← add_assoc]
  rfl

/-- The experts taken two by two, the hidden lanes of a pair in one row of 256. -/
theorem pairs (F : Fin 32 → Fin 128 → EReal) :
    ∑ e, ∑ f, F e f = ∑ p : Fin 16, (∑ f : Fin 128, F ⟨p * 2 + 0, by omega⟩ f + ∑ f : Fin 128, F ⟨p * 2 + 1, by omega⟩ f) := by
  rw [Fin.sum_univ_tiles 16 2 rfl (fun e : Fin 32 => ∑ f, F e f)]
  refine Finset.sum_congr rfl fun p _ => ?_
  rw [Fin.sum_univ_two]
  rfl

/-- What a pair adds is its two experts' contributions, when its operands are the pair's rows and columns. -/
theorem pairAdd_eq (v0 : FVec Ideal S256x1024 .bf16) (w1 : FVec Ideal S1x1024x512 .bf16) (ca cb : FVec Ideal S256x1 .f32)
    (w2 : FVec Ideal S1x256x1024 .bf16) (r : Fin 256) (d : Fin 1024)
    (t : FVec Ideal S32768x1024 .bf16) (cm : FVec Ideal S32768x128 .f32)
    (wg wu : FVec Ideal S32x1024x128 .f32) (wd : FVec Ideal S32x128x1024 .f32) (R : Fin 32768) (p : Fin 16)
    (ht : ∀ k, v0 (ix2 r k) = t (ix2 R k))
    (hg0 : ∀ k (f : Fin 128), w1 (ix3 0 k ⟨f, by omega⟩) = wg (ix3 ⟨p * 2 + 0, by omega⟩ k f))
    (hg1 : ∀ k (f : Fin 128), w1 (ix3 0 k ⟨128 + f, by omega⟩) = wg (ix3 ⟨p * 2 + 1, by omega⟩ k f))
    (hu0 : ∀ k (f : Fin 128), w1 (ix3 0 k ⟨256 + f, by omega⟩) = wu (ix3 ⟨p * 2 + 0, by omega⟩ k f))
    (hu1 : ∀ k (f : Fin 128), w1 (ix3 0 k ⟨384 + f, by omega⟩) = wu (ix3 ⟨p * 2 + 1, by omega⟩ k f))
    (hca : ca (ix2 r 0) = cm (ix2 R ⟨32 + (p * 2 + 0), by omega⟩))
    (hcb : cb (ix2 r 0) = cm (ix2 R ⟨32 + (p * 2 + 1), by omega⟩))
    (hd0 : ∀ (f : Fin 128), w2 (ix3 0 ⟨f, by omega⟩ d) = wd (ix3 ⟨p * 2 + 0, by omega⟩ f d))
    (hd1 : ∀ (f : Fin 128), w2 (ix3 0 ⟨128 + f, by omega⟩ d) = wd (ix3 ⟨p * 2 + 1, by omega⟩ f d)) :
    pairAdd v0 w1 ca cb w2 r d
      = ∑ f : Fin 128, term t cm wg wu wd R d ⟨p * 2 + 0, by omega⟩ f
        + ∑ f : Fin 128, term t cm wg wu wd R d ⟨p * 2 + 1, by omega⟩ f := by
  unfold pairAdd
  rw [Fin.sum_univ_two_halves 128 128 rfl]
  refine congrArg₂ (· + ·) (Finset.sum_congr rfl fun f _ => ?_) (Finset.sum_congr rfl fun f _ => ?_)
  · unfold term
    have h : ((f : Fin 128) : ℕ) < 128 := f.isLt
    simp only [Fin.val_castLE, h, if_true, ht, hg0, hu0, hca, hd0]
  · unfold term
    have h : ¬ (128 + (f : ℕ) < 128) := by omega
    have e : ∀ (h' : 256 + (128 + (f : ℕ)) < 512), (⟨256 + (128 + (f : ℕ)), h'⟩ : Fin 512) = ⟨384 + (f : ℕ), by omega⟩ :=
      fun _ => Fin.ext (by show 256 + (128 + (f : ℕ)) = 384 + f; omega)
    simp only [h, if_false, ht, hg1, hu1, hcb, hd1, e]

end Cert.MoeIdeal.Ffn
-- ==== Proof.MoeWeights.lean ====
module

public import proofs.«01_k».proof.Proof.Gen.MoeIdeal.Value
public import proofs.«01_k».proof.Proof.MoeMath
public import proofs.«01_k».proof.Proof.Gen.MoeRefIdeal.Run
public import Idealize.ShloMosaic.Lib.Pointwise
public import Idealize.ShloMosaic.Lib.Pipeline.ValueKit
public import Idealize.ShloMosaic.Lib.Pipeline.FrameTail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MoeIdeal.Ffn

open Cert.MoeIdeal Cert.MoeIdeal.Gen

variable (m : (ℓ : Loc nD τ sig) → Buf (Elt Ideal) ℓ)

/-- Where each window's block sits at every grid point. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![t.val, 0] :=
  (by decide +kernel : ∀ t : Fin grid0.N, _)

/-- The gate and up weights as the kernel finds them. -/
abbrev W1 (c : Dev nD) : FVec Ideal S16x1024x512 .bf16 := V m c main_v11
/-- The down weights as the kernel finds them. -/
abbrev W2 (c : Dev nD) : FVec Ideal S16x256x1024 .bf16 := V m c main_v13
/-- The gate weights. -/
abbrev Wg (c : Dev nD) : FVec Ideal S32x1024x128 .f32 := m ((c : Thread nD τ).loc main_arg3)
/-- The up weights. -/
abbrev Wu (c : Dev nD) : FVec Ideal S32x1024x128 .f32 := m ((c : Thread nD τ).loc main_arg4)
/-- The down weights. -/
abbrev Wd (c : Dev nD) : FVec Ideal S32x128x1024 .f32 := m ((c : Thread nD τ).loc main_arg5)

/-- The joined gate and up weights as one term of the two arguments. -/
def joined (wg wu : FVec Ideal S32x1024x128 .f32) : FVec Ideal S16x1024x512 .bf16 :=
  truncf .bf16 (concatenate S16x1024x512 2
    [⟨S16x1024x128, shapeCast S16x1024x128 (extractStridedSlice S16x1x1024x128 ![0, 0, 0, 0] (shapeCast S16x2x1024x128 wg shapeCasts_S32x1024x128_S16x2x1024x128) slices_S16x2x1024x128_S16x1x1024x128_0_0_0_0) shapeCasts_S16x1x1024x128_S16x1024x128⟩,
     ⟨S16x1024x128, shapeCast S16x1024x128 (extractStridedSlice S16x1x1024x128 ![0, 1, 0, 0] (shapeCast S16x2x1024x128 wg shapeCasts_S32x1024x128_S16x2x1024x128) slices_S16x2x1024x128_S16x1x1024x128_0_1_0_0) shapeCasts_S16x1x1024x128_S16x1024x128⟩,
     ⟨S16x1024x128, shapeCast S16x1024x128 (extractStridedSlice S16x1x1024x128 ![0, 0, 0, 0] (shapeCast S16x2x1024x128 wu shapeCasts_S32x1024x128_S16x2x1024x128) slices_S16x2x1024x128_S16x1x1024x128_0_0_0_0) shapeCasts_S16x1x1024x128_S16x1024x128⟩,
     ⟨S16x1024x128, shapeCast S16x1024x128 (extractStridedSlice S16x1x1024x128 ![0, 1, 0, 0] (shapeCast S16x2x1024x128 wu shapeCasts_S32x1024x128_S16x2x1024x128) slices_S16x2x1024x128_S16x1x1024x128_0_1_0_0) shapeCasts_S16x1x1024x128_S16x1024x128⟩]
    concatenates_S16x1024x128_S16x1024x128_S16x1024x128_S16x1024x128_S16x1024x512_d2) bitsLt_bf16_f32

/-- The kernel finds the joined weights. -/
theorem W1_eq (c : Dev nD) : W1 m c = joined (Wg m c) (Wu m c) := by
  unfold W1 V hostOps0
  after_region_results
  rfl

/-- Lanes of the joined weights (g0). -/
theorem joined_g0 (wg wu : FVec Ideal S32x1024x128 .f32) (p : Fin 16) (k : Fin 1024) (f : Fin 128) :
    joined wg wu (ix3 p k ⟨f, by omega⟩) = wg (ix3 ⟨p * 2 + 0, by omega⟩ k f) := by
  have hf := f.isLt
  pointwise [joined]

/-- Lanes of the joined weights (g1). -/
theorem joined_g1 (wg wu : FVec Ideal S32x1024x128 .f32) (p : Fin 16) (k : Fin 1024) (f : Fin 128) :
    joined wg wu (ix3 p k ⟨128 + f, by omega⟩) = wg (ix3 ⟨p * 2 + 1, by omega⟩ k f) := by
  have hf := f.isLt
  pointwise [joined]

/-- Lanes of the joined weights (u0). -/
theorem joined_u0 (wg wu : FVec Ideal S32x1024x128 .f32) (p : Fin 16) (k : Fin 1024) (f : Fin 128) :
    joined wg wu (ix3 p k ⟨256 + f, by omega⟩) = wu (ix3 ⟨p * 2 + 0, by omega⟩ k f) := by
  have hf := f.isLt
  pointwise [joined]
  rw [dif_neg (show ¬ 256 + (f : ℕ) < 128 by omega), dif_neg (show ¬ 256 + (f : ℕ) - 128 < 128 by omega), dif_pos (show 256 + (f : ℕ) - 128 - 128 < 128 by omega)]
  exact congrArg wu ((ix3_inj ..).2 ⟨rfl, rfl, Fin.ext (by show 256 + (f : ℕ) - 128 - 128 = f; omega)⟩)

/-- Lanes of the joined weights (u1). -/
theorem joined_u1 (wg wu : FVec Ideal S32x1024x128 .f32) (p : Fin 16) (k : Fin 1024) (f : Fin 128) :
    joined wg wu (ix3 p k ⟨384 + f, by omega⟩) = wu (ix3 ⟨p * 2 + 1, by omega⟩ k f) := by
  have hf := f.isLt
  pointwise [joined]
  rw [dif_neg (show ¬ 384 + (f : ℕ) < 128 by omega), dif_neg (show ¬ 384 + (f : ℕ) - 128 < 128 by omega), dif_neg (show ¬ 384 + (f : ℕ) - 128 - 128 < 128 by omega)]
  exact congrArg wu ((ix3_inj ..).2 ⟨rfl, rfl, Fin.ext (by show 384 + (f : ℕ) - 128 - 128 - 128 = f; omega)⟩)

/-- Rows of the joined down weights, read in the argument (d0). -/
theorem W2_d0 (c : Dev nD) (p : Fin 16) (f : Fin 128) (d : Fin 1024) :
    W2 m c (ix3 p ⟨f, by omega⟩ d) = Wd m c (ix3 ⟨p * 2 + 0, by omega⟩ f d) := by
  have hf := f.isLt
  unfold W2
  entry_read
  pointwise
  refine congrArg (Wd m c) ((ix3_inj ..).2 ⟨Fin.ext ?_, Fin.ext ?_, rfl⟩)
  · show (p : ℕ) * 2 + (f) / 128 = p * 2 + 0; omega
  · show (f) % 128 = (f : ℕ); omega

/-- Rows of the joined down weights, read in the argument (d1). -/
theorem W2_d1 (c : Dev nD) (p : Fin 16) (f : Fin 128) (d : Fin 1024) :
    W2 m c (ix3 p ⟨128 + f, by omega⟩ d) = Wd m c (ix3 ⟨p * 2 + 1, by omega⟩ f d) := by
  have hf := f.isLt
  unfold W2
  entry_read
  pointwise
  refine congrArg (Wd m c) ((ix3_inj ..).2 ⟨Fin.ext ?_, Fin.ext ?_, rfl⟩)
  · show (p : ℕ) * 2 + (128 + f) / 128 = p * 2 + 1; omega
  · show (128 + f) % 128 = (f : ℕ); omega

end Cert.MoeIdeal.Ffn
-- ==== Proof.MoeValue.lean ====
module

public import proofs.«01_k».proof.Proof.Gen.MoeIdeal.Value
public import proofs.«01_k».proof.Proof.MoeMath
public import proofs.«01_k».proof.Proof.MoeWeights
public import proofs.«01_k».proof.Proof.Gen.MoeRefIdeal.Run
public import Idealize.ShloMosaic.Lib.Pointwise
public import Idealize.ShloMosaic.Lib.Pipeline.ValueKit
public import Idealize.ShloMosaic.Lib.Pipeline.FrameTail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MoeIdeal.Ffn

open Cert.MoeIdeal Cert.MoeIdeal.Gen

variable (m : (ℓ : Loc nD τ sig) → Buf (Elt Ideal) ℓ)

/-- The row of the arrays that row `r` of the point's blocks is. -/
def row (t : Fin cfg0.N) (r : Fin 256) : Fin 32768 :=
  ⟨t.val * 256 + r, by have h := lt_of_lt_of_eq t.isLt N_0; omega⟩

/-- The accumulator starts as the residual. -/
theorem pay3_at (h : FVec Ideal S256x1024 .f32) (r : Fin 256) (d : Fin 1024) : k0_pay3 (F := Ideal) h (ix2 r d) = h (ix2 r d) := by
  pointwise [k0_pay3]

/-- One pair's gate and up weights, read out of the joined array. -/
theorem ld_w1 (X : FVec Ideal S16x1024x512 .bf16) (p : Fin 16) (inb) (k : Fin 1024) (f : Fin 512) :
    View.ld (Val := Elt Ideal) (e' := .bf16) X (Rect.unit (s := S16x1024x512) ![p, 0, 0] ![1, 1024, 512] inb) (ix3 0 k f) = X (ix3 p k f) := by
  pointwise

/-- One pair's down weights, read out of the joined array. -/
theorem ld_w2 (X : FVec Ideal S16x256x1024 .bf16) (p : Fin 16) (inb) (k : Fin 256) (f : Fin 1024) :
    View.ld (Val := Elt Ideal) (e' := .bf16) X (Rect.unit (s := S16x256x1024) ![p, 0, 0] ![1, 256, 1024] inb) (ix3 0 k f) = X (ix3 p k f) := by
  pointwise

/-- One expert's column of the routing weights. -/
theorem ld_cm (X : FVec Ideal S256x128 .f32) (p : Fin 128) (inb) (r : Fin 256) :
    View.ld (Val := Elt Ideal) (e' := .f32) X (Rect.unit (s := S256x128) ![0, p] ![256, 1] inb) (ix2 r 0) = X (ix2 r p) := by
  pointwise

/-- What the kernel's step `p` adds, in terms of the arguments: the contributions of experts `2p` and `2p + 1`. -/
theorem pair_at (c : Dev nD) (x1 : FVec Ideal S256x1024 .bf16) (x2 : FVec Ideal S256x128 .f32) (r : Fin 256) (d : Fin 1024)
    (T : FVec Ideal S32768x1024 .bf16) (cm : FVec Ideal S32768x128 .f32) (R : Fin 32768) (p : Fin 16)
    (e1 : ∀ k, x1 (ix2 r k) = T (ix2 R k)) (e2 : ∀ k, x2 (ix2 r k) = cm (ix2 R k)) (i1 i2 i3 i4) :
    pairAdd x1 (View.ld (Val := Elt Ideal) (e' := .bf16) (joined (Wg m c) (Wu m c)) (Rect.unit (s := S16x1024x512) ![p, 0, 0] ![1, 1024, 512] i1))
        (View.ld (Val := Elt Ideal) (e' := .f32) x2 (Rect.unit (s := S256x128) ![0, 32 + (p * 2 + 0)] ![256, 1] i2))
        (View.ld (Val := Elt Ideal) (e' := .f32) x2 (Rect.unit (s := S256x128) ![0, 32 + (p * 2 + 1)] ![256, 1] i3))
        (View.ld (Val := Elt Ideal) (e' := .bf16) (W2 m c) (Rect.unit (s := S16x256x1024) ![p, 0, 0] ![1, 256, 1024] i4)) r d
      = ∑ f : Fin 128, term T cm (Wg m c) (Wu m c) (Wd m c) R d ⟨p * 2 + 0, by omega⟩ f
        + ∑ f : Fin 128, term T cm (Wg m c) (Wu m c) (Wd m c) R d ⟨p * 2 + 1, by omega⟩ f :=
  pairAdd_eq _ _ _ _ _ r d T cm _ _ _ R p e1
    (fun k f => (ld_w1 _ p _ k _).trans (joined_g0 _ _ p k f)) (fun k f => (ld_w1 _ p _ k _).trans (joined_g1 _ _ p k f))
    (fun k f => (ld_w1 _ p _ k _).trans (joined_u0 _ _ p k f)) (fun k f => (ld_w1 _ p _ k _).trans (joined_u1 _ _ p k f))
    ((ld_cm _ ⟨32 + (p * 2 + 0), by omega⟩ _ r).trans (e2 _)) ((ld_cm _ ⟨32 + (p * 2 + 1), by omega⟩ _ r).trans (e2 _))
    (fun f => (ld_w2 _ p _ _ d).trans (W2_d0 m c p f d)) (fun f => (ld_w2 _ p _ _ d).trans (W2_d1 m c p f d))

set_option maxHeartbeats 2000000 in
/-- The result array is the reference's term of the arguments. -/
theorem final (c : Dev nD) : (dats m 0 c).arrAt 5 (cfgs 0).N
    = REF (m ((c : Thread nD τ).loc main_arg0)) (m ((c : Thread nD τ).loc main_arg1)) (m ((c : Thread nD τ).loc main_arg2))
        (Wg m c) (Wu m c) (Wd m c) := by
  refine (dats m 0 c).arrAt_eq_of_covers 5 _ (by decide +kernel) fun t _ y => ?_
  blk_simp
  rw [after0_5]; unfold Gen.outsAt0; frame_out
  simp only [pay4_eq, pay9_eq, pay11_eq, pay12_eq, pay14_eq, pay16_eq, pay17_eq, pay19_eq, pay21_eq, pay22_eq, pay23_eq,
    pay27_eq, pay29_eq, pay30_eq, pay1_eq]
  obtain ⟨r, d, rfl⟩ : ∃ (r : Fin 256) (d : Fin 1024), y = ix2 r d := ⟨y 0, y 1, eq_ix2 y⟩
  have hy : ((cfg0.win 5).blk t).view.emb (ix2 r d) = (ix2 (row t r) d : S32768x1024.Idx) := by
    unfold row; blk_ext [idx t]
  rw [show (((View.whole main_v14).slice (win0_5.rect t)).emb (ix2 r d)) = (ix2 (row t r) d : S32768x1024.Idx) from hy]
  rw [ref_at, pairs, ← chain]
  simp only [step_at]
  have e0 : ∀ (r : Fin 256) (k : Fin 1024), (show FVec Ideal S256x1024 .f32 from iblk m c 0 t) (ix2 r k)
      = (show FVec Ideal S32768x1024 .f32 from m ((c : Thread nD τ).loc main_arg0)) (ix2 (row t r) k) := by
    intro r k; unfold row; blk_ext [iblk, V, idx t]
  have e1 : ∀ (r : Fin 256) (k : Fin 1024), (show FVec Ideal S256x1024 .bf16 from iblk m c 1 t) (ix2 r k)
      = (show FVec Ideal S32768x1024 .bf16 from m ((c : Thread nD τ).loc main_arg1)) (ix2 (row t r) k) := by
    intro r k; unfold row; blk_ext [iblk, V, idx t]
  have e2 : ∀ (r : Fin 256) (k : Fin 128), (show FVec Ideal S256x128 .f32 from iblk m c 2 t) (ix2 r k)
      = (show FVec Ideal S32768x128 .f32 from m ((c : Thread nD τ).loc main_arg2)) (ix2 (row t r) k) := by
    intro r k; unfold row; blk_ext [iblk, V, idx t]
  have e3 : iblk m c 3 t = joined (Wg m c) (Wu m c) := by
    rw [← W1_eq]; blk_ext! [iblk, idx t]
  have e4 : iblk m c 4 t = W2 m c := by
    blk_ext! [iblk, idx t]
  rw [e3, e4]
  iterate 16 refine Ideal.add_congr ?_ ?_
  · exact (pay3_at _ r d).trans (e0 r d)
  · exact pair_at m c _ _ r d _ _ (row t r) 0 (e1 r) (e2 r) _ _ _ _
  · exact pair_at m c _ _ r d _ _ (row t r) 1 (e1 r) (e2 r) _ _ _ _
  · exact pair_at m c _ _ r d _ _ (row t r) 2 (e1 r) (e2 r) _ _ _ _
  · exact pair_at m c _ _ r d _ _ (row t r) 3 (e1 r) (e2 r) _ _ _ _
  · exact pair_at m c _ _ r d _ _ (row t r) 4 (e1 r) (e2 r) _ _ _ _
  · exact pair_at m c _ _ r d _ _ (row t r) 5 (e1 r) (e2 r) _ _ _ _
  · exact pair_at m c _ _ r d _ _ (row t r) 6 (e1 r) (e2 r) _ _ _ _
  · exact pair_at m c _ _ r d _ _ (row t r) 7 (e1 r) (e2 r) _ _ _ _
  · exact pair_at m c _ _ r d _ _ (row t r) 8 (e1 r) (e2 r) _ _ _ _
  · exact pair_at m c _ _ r d _ _ (row t r) 9 (e1 r) (e2 r) _ _ _ _
  · exact pair_at m c _ _ r d _ _ (row t r) 10 (e1 r) (e2 r) _ _ _ _
  · exact pair_at m c _ _ r d _ _ (row t r) 11 (e1 r) (e2 r) _ _ _ _
  · exact pair_at m c _ _ r d _ _ (row t r) 12 (e1 r) (e2 r) _ _ _ _
  · exact pair_at m c _ _ r d _ _ (row t r) 13 (e1 r) (e2 r) _ _ _ _
  · exact pair_at m c _ _ r d _ _ (row t r) 14 (e1 r) (e2 r) _ _ _ _
  · exact pair_at m c _ _ r d _ _ (row t r) 15 (e1 r) (e2 r) _ _ _ _

end Cert.MoeIdeal.Ffn

end
-- ==== Proof.MoeClaim.lean ====
module

public import proofs.«01_k».proof.Defs
public import proofs.«01_k».proof.Proof.MoeValue
public import proofs.«01_k».proof.Proof.Gen.MoeRefIdeal
public import proofs.«01_k».proof.Proof.Gen.MoeRefIdeal.Run
public import Idealize.ShloMosaic.Lib.Claim

@[expose] public section

set_option maxRecDepth 16384

noncomputable section

open Idealize.ShloMosaic Idealize.ShloMosaic.TcCoe Idealize.SL.Sem

namespace Cert.Moe.Claims

/-- The expert mixture's kernel and the plain mathematics of the mixture, run on the same six arrays, end with
equal results over the extended reals. -/
theorem algebraic : Cert.algebraic_MoeIdeal_MoeRefIdeal := by
  pair_intro
  · run_from Cert.MoeIdeal.Gen.run_main m g
  · run_from Cert.MoeRefIdeal.Value.run m' g'
    exact (Cert.MoeIdeal.Ffn.final m c).symm

end Cert.Moe.Claims

end
-- ==== Proof.AttnMath.lean ====
module

public import Idealize.ShloMosaic.Lib.Pointwise

@[expose] public section

noncomputable section

open Idealize.ShloMosaic

namespace Cert.AttnMath

/-- The largest of a row's scores and its sink. -/
def top (S : Fin 128 → EReal) (sink : EReal) : EReal := max (Finset.univ.fold max ⊥ S) sink

/-- A row's softmax denominator: the exponentials of its scores and of its sink. -/
def den (S : Fin 128 → EReal) (sink : EReal) : EReal :=
  (∑ j, Ideal.exp (S j - top S sink)) + Ideal.exp (sink - top S sink)

/-- One entry of the attention: the values weighted with the softmax of the scores and the sink. -/
def row (S : Fin 128 → EReal) (sink : EReal) (V : Fin 128 → EReal) : EReal :=
  Ideal.div (∑ j, Ideal.exp (S j - top S sink) * V j) (den S sink)

theorem exp_bot : Ideal.exp ⊥ = 0 := rfl
theorem exp_nonneg (x : EReal) : 0 ≤ Ideal.exp x := by
  induction x with
  | bot => exact le_of_eq exp_bot.symm
  | coe r => exact EReal.coe_nonneg.2 (Real.exp_pos r).le
  | top => exact le_top
theorem exp_pos (x : EReal) (h : x ≠ ⊥) : 0 < Ideal.exp x := by
  induction x with
  | bot => exact absurd rfl h
  | coe r => exact EReal.coe_pos.2 (Real.exp_pos r)
  | top => exact EReal.zero_lt_top

theorem bot_sub' (x : EReal) : (⊥ : EReal) - x = ⊥ := EReal.bot_sub x

/-- A nonnegative finite factor comes out of a sum. -/
theorem sum_mul {n : ℕ} (f : Fin n → EReal) (c : EReal) (h0 : 0 ≤ c) (ht : c ≠ ⊤) : (∑ j, f j * c) = (∑ j, f j) * c := by
  classical
  induction (Finset.univ : Finset (Fin n)) using Finset.induction_on with
  | empty => simp
  | insert a s ha ih => rw [Finset.sum_insert ha, Finset.sum_insert ha, ih, EReal.right_distrib_of_nonneg_of_ne_top h0 ht]

theorem inv_ne_top (x : EReal) (h : 0 < x) : x⁻¹ ≠ ⊤ := by
  induction x with
  | bot => exact absurd h (by simp)
  | coe r => rw [← EReal.coe_inv]; exact EReal.coe_ne_top _
  | top => rw [EReal.inv_top]; exact EReal.zero_ne_top

/-- The maximum over two halves. -/
theorem fold_max_halves (f : Fin 256 → EReal) (A B S : Fin 128 → EReal) (hA : ∀ j : Fin 128, f ⟨j, by omega⟩ = A j)
    (hB : ∀ j : Fin 128, f ⟨128 + j, by omega⟩ = B j) (hS : ∀ j, S j = max (A j) (B j)) :
    Finset.univ.fold max ⊥ f = Finset.univ.fold max ⊥ S := by
  show Finset.univ.sup f = Finset.univ.sup S
  apply le_antisymm
  · refine Finset.sup_le fun j _ => ?_
    by_cases h : (j : ℕ) < 128
    · have e : f j = A ⟨j, h⟩ := hA ⟨j, h⟩
      rw [e]
      exact le_trans (by rw [hS]; exact le_max_left _ _) (Finset.le_sup (f := S) (Finset.mem_univ ⟨j, h⟩))
    · have e : f j = B ⟨j - 128, by omega⟩ := by
        rw [← hB]; congr 1; apply Fin.ext; show (j : ℕ) = 128 + (j - 128); omega
      rw [e]
      exact le_trans (by rw [hS]; exact le_max_right _ _) (Finset.le_sup (f := S) (Finset.mem_univ _))
  · refine Finset.sup_le fun j _ => ?_
    rw [hS, ← hA, ← hB]
    exact max_le (Finset.le_sup (f := f) (Finset.mem_univ _)) (Finset.le_sup (f := f) (Finset.mem_univ _))

theorem top_ne_top (S : Fin 128 → EReal) (sink : EReal) (hS : ∀ j, S j ≠ ⊤) (hs : sink ≠ ⊤) : top S sink ≠ ⊤ := by
  have h : Finset.univ.sup S < ⊤ := (Finset.sup_lt_iff (by exact bot_lt_top)).2 fun j _ => lt_top_iff_ne_top.2 (hS j)
  exact (max_lt h (lt_top_iff_ne_top.2 hs)).ne

theorem den_pos (S : Fin 128 → EReal) (sink : EReal) (hS : ∀ j, S j ≠ ⊤) (hs : sink ≠ ⊤) (hb : sink ≠ ⊥) : 0 < den S sink := by
  have h1 : 0 < Ideal.exp (sink - top S sink) := exp_pos _ (by
    have ht := top_ne_top S sink hS hs
    intro e
    rw [sub_eq_add_neg] at e
    rcases EReal.add_eq_bot_iff.1 e with h | h
    · exact hb h
    · exact ht (EReal.neg_eq_bot_iff.1 h))
  have h0 : 0 ≤ ∑ j, Ideal.exp (S j - top S sink) := Finset.sum_nonneg fun j _ => exp_nonneg _
  calc (0 : EReal) < Ideal.exp (sink - top S sink) := h1
    _ = 0 + Ideal.exp (sink - top S sink) := (zero_add _).symm
    _ ≤ _ := add_le_add_left h0 _

/-- The softmax over two blocks' keys, of which one of each pair is masked, is the softmax over the pairs. -/
theorem row_of_halves (f v : Fin 256 → EReal) (S V : Fin 128 → EReal) (sink : EReal)
    (hS : ∀ j, S j ≠ ⊤) (hs : sink ≠ ⊤) (hb : sink ≠ ⊥)
    (H : ∀ j : Fin 128, (f ⟨j, by omega⟩ = ⊥ ∧ f ⟨128 + j, by omega⟩ = S j ∧ v ⟨128 + j, by omega⟩ = V j)
      ∨ (f ⟨128 + j, by omega⟩ = ⊥ ∧ f ⟨j, by omega⟩ = S j ∧ v ⟨j, by omega⟩ = V j)) :
    (∑ J : Fin 256, v J * Ideal.div (Ideal.exp (f J - max (Finset.univ.fold max ⊥ f) sink))
        ((∑ J : Fin 256, Ideal.exp (f J - max (Finset.univ.fold max ⊥ f) sink)) + Ideal.exp (sink - max (Finset.univ.fold max ⊥ f) sink)))
      = row S sink V := by
  have hm : max (Finset.univ.fold max ⊥ f) sink = top S sink := by
    unfold top
    rw [fold_max_halves f (fun j => f ⟨j, by omega⟩) (fun j => f ⟨128 + j, by omega⟩) S (fun _ => rfl) (fun _ => rfl)]
    intro j
    rcases H j with ⟨a, b, _⟩ | ⟨a, b, _⟩
    · rw [a, b]; exact (max_eq_right bot_le).symm
    · rw [a, b]; exact (max_eq_left bot_le).symm
  rw [hm]
  have hd : (∑ J : Fin 256, Ideal.exp (f J - top S sink)) = ∑ j, Ideal.exp (S j - top S sink) := by
    rw [Fin.sum_univ_two_halves 128 128 rfl fun J : Fin 256 => Ideal.exp (f J - top S sink), ← Finset.sum_add_distrib]
    refine Finset.sum_congr rfl fun j _ => ?_
    rcases H j with ⟨a, b, _⟩ | ⟨a, b, _⟩
    · rw [a, b, bot_sub', exp_bot, zero_add]
    · rw [a, b, bot_sub', exp_bot, add_zero]
  rw [hd]
  show (∑ J : Fin 256, v J * Ideal.div (Ideal.exp (f J - top S sink)) (den S sink)) = _
  have hp := den_pos S sink hS hs hb
  have e : ∀ x, Ideal.div x (den S sink) = x * (den S sink)⁻¹ := fun x => if_neg hp.ne'
  unfold row
  simp only [e]
  rw [← sum_mul _ _ (EReal.inv_nonneg_of_nonneg hp.le) (by
    exact inv_ne_top _ hp)]
  rw [Fin.sum_univ_two_halves 128 128 rfl fun J : Fin 256 => v J * (Ideal.exp (f J - top S sink) * (den S sink)⁻¹), ← Finset.sum_add_distrib]
  refine Finset.sum_congr rfl fun j _ => ?_
  rcases H j with ⟨a, b, c⟩ | ⟨a, b, c⟩
  · rw [a, b, c, bot_sub', exp_bot, zero_mul, mul_zero, zero_add, ← mul_assoc, mul_comm (V j)]
  · rw [a, b, c, bot_sub', exp_bot, zero_mul, mul_zero, add_zero, ← mul_assoc, mul_comm (V j)]

end Cert.AttnMath

end
-- ==== Proof.AttnKer.lean ====
module

public import proofs.«01_k».proof.Proof.Gen.KernelIdeal.Value
public import proofs.«01_k».proof.Proof.AttnMath
public import Idealize.ShloMosaic.Lib.Pointwise
public import Idealize.ShloMosaic.Lib.WordCmp
public import Idealize.ShloMosaic.Lib.Tactic.WordOmega

@[expose] public section

set_option maxRecDepth 16384

noncomputable section

open Idealize.ShloMosaic Idealize.ShloMosaic.TcCoe Idealize.SL.Sem

namespace Cert.KernelIdeal.Attn

open Cert.KernelIdeal Cert.KernelIdeal.Gen

theorem ofBits_neg_inf : Ideal.ofBits .f32 0xFF800000#32 = ⊥ := by simp [Ideal.ofBits, Ideal.ieee]

/-- The remainder by 128 of a column's number, with the sign of the divisor. -/
theorem rem128 : ∀ J : Fin 256, (Scalar.select
        (IntOp.andi
          (IntOp.xori
            (IntOp.cmpi CmpIPredicate.slt
              (IntOp.remsi ArithUnit.vector (BitVec.ofNat 32 ↑J)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 ↑J)
              (Scalar.select (Scalar.cmpi CmpIPredicate.eq 128#32 0#32) 1#32 128#32))
            0#32))
        (IntOp.addi
          (IntOp.remsi ArithUnit.vector (BitVec.ofNat 32 ↑J)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 ↑J)
          (Scalar.select (Scalar.cmpi CmpIPredicate.eq 128#32 0#32) 1#32 128#32))) = BitVec.ofNat 32 ((J : ℕ) % 128) := by
  decide +kernel

theorem pay2_at (i : Fin 128) (J : Fin 256) : k0_pay2 (ix2 i J) = if (J : ℕ) % 128 ≤ i then 1#1 else 0#1 := by
  pointwise [k0_pay2]
  rw [rem128 J]
  have hi := i.isLt
  split <;> word_omega

theorem pay3_at (t : grid0.Coords) (i : Fin 128) (J : Fin 256) :
    k0_pay3 t (ix2 i J) = if ¬ (J : ℕ) % 128 ≤ i ∧ 0 < (t 1 : ℕ) then 1#1 else 0#1 := by
  pointwise [k0_pay3]
  rw [pay2_at]
  have h : Scalar.cmpi CmpIPredicate.sgt (BitVec.ofNat 32 (t 1 : ℕ)) 0#32 = if 0 < (t 1 : ℕ) then 1#1 else 0#1 := by
    have ht : (t 1 : ℕ) < 16 := (t 1).isLt
    show IntOp.cmpi CmpIPredicate.sgt (BitVec.ofNat 32 (t 1 : ℕ)) 0#32 = _
    split <;> word_omega
  rw [h]
  split_ifs <;> first | rfl | (exfalso; omega)

theorem lane_lt (j : Fin 128) (a b : EReal) :
    Scalar.select (IntOp.cmpi CmpIPredicate.slt (BitVec.ofNat 32 ↑j) 64#32) a b = if (j : ℕ) < 64 then a else b := by
  have h : IntOp.cmpi CmpIPredicate.slt (BitVec.ofNat 32 ↑j) 64#32 = if (j : ℕ) < 64 then 1#1 else 0#1 := by
    have hj := j.isLt
    split <;> word_omega
  rw [h]
  split_ifs <;> rfl

theorem pay4_at (i j : Fin 128) (a b : EReal) : Scalar.select (k0_pay4 (ix2 i j)) a b = if (j : ℕ) < 64 then a else b := by
  pointwise [k0_pay4]
  exact lane_lt j a b

theorem pay16_at (v19 v22) (kc kp : FVec Ideal S256x128 .bf16) (q : FVec Ideal S128x128 .bf16) (i : Fin 128) (J : Fin 256) :
    k0_pay16 (F := Ideal) v19 v22 kc kp q (ix2 i J) = Scalar.select (v19 (ix2 i J)) (∑ x : Fin 128, q (ix2 i x) * kc (ix2 J x))
      (Scalar.select (v22 (ix2 i J)) (∑ x : Fin 128, q (ix2 i x) * kp (ix2 J x)) ⊥) := by
  pointwise [k0_pay16]
  rw [ofBits_neg_inf]

theorem pay17_at (v19 v22) (kc kp : FVec Ideal S256x128 .bf16) (q : FVec Ideal S128x128 .bf16) (i j : Fin 128) :
    k0_pay17 (F := Ideal) v19 v22 kc kp q (ix2 i j) = k0_pay16 (F := Ideal) v19 v22 kc kp q (ix2 i ⟨j, by omega⟩) := by
  pointwise [k0_pay17]

theorem pay21_at (v19 v22) (kc kp : FVec Ideal S256x128 .bf16) (q : FVec Ideal S128x128 .bf16) (i j : Fin 128) :
    k0_pay21 (F := Ideal) v19 v22 kc kp q (ix2 i j) = k0_pay16 (F := Ideal) v19 v22 kc kp q (ix2 i ⟨128 + j, by omega⟩) := by
  pointwise [k0_pay21]

theorem pay18_at (v19 v22) (kc kp : FVec Ideal S256x128 .bf16) (q : FVec Ideal S128x128 .bf16) (s : EReal) (i : Fin 128) :
    k0_pay18 (F := Ideal) v19 v22 kc kp q s (ix2 i 0) = max (Finset.univ.fold max ⊥ fun j : Fin 128 => k0_pay17 (F := Ideal) v19 v22 kc kp q (ix2 i j)) s := by
  unfold k0_pay18
  generalize k0_pay17 (F := Ideal) v19 v22 kc kp q = x
  pointwise []
  rw [ofBits_neg_inf]

theorem pay19_at (v19 v22) (kc kp : FVec Ideal S256x128 .bf16) (q : FVec Ideal S128x128 .bf16) (s : EReal) (i j : Fin 128) :
    k0_pay19 (F := Ideal) v19 v22 kc kp q s (ix2 i j) = Ideal.exp (k0_pay17 (F := Ideal) v19 v22 kc kp q (ix2 i j) - k0_pay18 (F := Ideal) v19 v22 kc kp q s (ix2 i 0)) := by
  pointwise [k0_pay19]

theorem pay20_at (v19 v22) (kc kp : FVec Ideal S256x128 .bf16) (q : FVec Ideal S128x128 .bf16) (s : EReal) (i : Fin 128) :
    k0_pay20 (F := Ideal) v19 v22 kc kp q s (ix2 i 0) = (∑ j : Fin 128, k0_pay19 (F := Ideal) v19 v22 kc kp q s (ix2 i j))
      + Ideal.exp (s - k0_pay18 (F := Ideal) v19 v22 kc kp q s (ix2 i 0)) := by
  pointwise [k0_pay20]

theorem pay26_at (d0 d1 : FVec Ideal S128x1 .f32) (o : FVec Ideal S128x128 .f32) (i L : Fin 128) :
    k0_pay26 (F := Ideal) k0_pay4 d0 d1 o (ix2 i L) = Ideal.div (o (ix2 i L)) (if (L : ℕ) < 64 then d0 (ix2 i 0) else d1 (ix2 i 0)) := by
  pointwise [k0_pay26]
  rw [pay4_at]

/-- The products of the weights with the two blocks' values. -/
theorem pay25_at (v19 v22) (kc kp vc vp : FVec Ideal S256x128 .bf16) (q : FVec Ideal S128x128 .bf16) (s s' : EReal) (i L : Fin 128) :
    k0_pay25 (F := Ideal) v19 v22 kc kp vc vp q s s' (ix2 i L)
      = (∑ J : Fin 256, Scalar.select (v19 (ix2 i J)) (if h : (J : ℕ) < 128 then k0_pay19 (F := Ideal) v19 v22 kc kp q s (ix2 i ⟨J, h⟩)
            else k0_pay23 (F := Ideal) v19 v22 kc kp q s' (ix2 i ⟨J - 128, by omega⟩)) 0 * vc (ix2 J L))
        + ∑ J : Fin 256, Scalar.select (v19 (ix2 i J)) 0 (if h : (J : ℕ) < 128 then k0_pay19 (F := Ideal) v19 v22 kc kp q s (ix2 i ⟨J, h⟩)
            else k0_pay23 (F := Ideal) v19 v22 kc kp q s' (ix2 i ⟨J - 128, by omega⟩)) * vp (ix2 J L) := by
  pointwise [k0_pay25]

theorem pay10_at (x : FVec Ideal S128x128 .f32) (J : Fin 256) (L : Fin 128) :
    k0_pay10 (F := Ideal) x (ix2 J L) = if ((J : ℕ) < 128 ↔ (L : ℕ) < 64) then x (ix2 ⟨J % 128, by omega⟩ ⟨L % 64, by omega⟩) else 0 := by
  pointwise [k0_pay10]
  simp only [lane_lt]
  have hJ := J.isLt
  have hL := L.isLt
  have e : ∀ (a a' b b' : Fin 128), a = a' → b = b' → x (ix2 a b) = x (ix2 a' b') := by rintro _ _ _ _ rfl rfl; rfl
  by_cases h1 : (J : ℕ) < 128 <;> by_cases h2 : (L : ℕ) < 64
  · refine (dif_pos h1).trans ((if_pos h2).trans (Eq.trans ?_ (if_pos (by simp [h1, h2])).symm))
    exact e _ _ _ _ (Fin.ext (by simp only; omega)) (Fin.ext (by simp only; omega))
  · exact (dif_pos h1).trans ((if_neg h2).trans (if_neg (by simp [h1, h2])).symm)
  · exact (dif_neg h1).trans ((if_pos h2).trans (if_neg (by simp [h1, h2])).symm)
  · refine (dif_neg h1).trans ((if_neg h2).trans (Eq.trans ?_ (if_pos (by simp [h1, h2])).symm))
    exact e _ _ _ _ (Fin.ext (by simp only; omega)) (Fin.ext (by simp only; omega))

theorem pay28_at (x : FVec Ideal S128x128 .f32) (J : Fin 256) (L : Fin 128) :
    k0_pay28 (F := Ideal) x (ix2 J L) = if ((J : ℕ) < 128 ↔ (L : ℕ) < 64) then x (ix2 ⟨J % 128, by omega⟩ ⟨64 + L % 64, by omega⟩) else 0 := by
  pointwise [k0_pay28]
  simp only [lane_lt]
  have hJ := J.isLt
  have hL := L.isLt
  have e : ∀ (a a' b b' : Fin 128), a = a' → b = b' → x (ix2 a b) = x (ix2 a' b') := by rintro _ _ _ _ rfl rfl; rfl
  by_cases h1 : (J : ℕ) < 128 <;> by_cases h2 : (L : ℕ) < 64
  · refine (dif_pos h1).trans ((if_pos h2).trans (Eq.trans ?_ (if_pos (by simp [h1, h2])).symm))
    exact e _ _ _ _ (Fin.ext (by simp only; omega)) (Fin.ext (by simp only; omega))
  · exact (dif_pos h1).trans ((if_neg h2).trans (if_neg (by simp [h1, h2])).symm)
  · exact (dif_neg h1).trans ((if_pos h2).trans (if_neg (by simp [h1, h2])).symm)
  · refine (dif_neg h1).trans ((if_neg h2).trans (Eq.trans ?_ (if_pos (by simp [h1, h2])).symm))
    exact e _ _ _ _ (Fin.ext (by simp only; omega)) (Fin.ext (by simp only; omega))

/-- The other two scores matrices of the first group, and the values', are the same two functions. -/
theorem pay9_eq (x : FVec Ideal S128x128 .f32) : k0_pay9 (F := Ideal) k0_pay5 (k0_pay6 x) (k0_pay7 x) k0_pay8 = k0_pay10 x := rfl
theorem pay11_eq (x : FVec Ideal S128x128 .f32) : k0_pay11 (F := Ideal) x = k0_pay10 x := rfl
theorem pay12_eq (x : FVec Ideal S128x128 .f32) : k0_pay12 (F := Ideal) x = k0_pay10 x := rfl
theorem pay27_eq (x : FVec Ideal S128x128 .f32) : k0_pay27 (F := Ideal) x = k0_pay28 x := rfl
theorem pay29_eq (x : FVec Ideal S128x128 .f32) : k0_pay29 (F := Ideal) x = k0_pay28 x := rfl
theorem pay32_eq (x : FVec Ideal S128x128 .f32) : k0_pay32 (F := Ideal) x k0_pay30 (k0_pay31 x) (FloatOps.ofBits .f32 0#32) = k0_pay28 x := rfl

/-- The weights of a head of lane `L`: the first of the pair in the lower lanes, the second in the upper. -/
def sc (t : grid0.Coords) (kc kp : FVec Ideal S256x128 .bf16) (q : FVec Ideal S128x128 .bf16) (i : Fin 128) (J : Fin 256) : EReal :=
  if (J : ℕ) % 128 ≤ i then ∑ x : Fin 128, q (ix2 i x) * kc (ix2 J x)
    else if 0 < (t 1 : ℕ) then ∑ x : Fin 128, q (ix2 i x) * kp (ix2 J x) else ⊥

theorem sc_at (t : grid0.Coords) (kc kp : FVec Ideal S256x128 .bf16) (q : FVec Ideal S128x128 .bf16) (i : Fin 128) (J : Fin 256) :
    k0_pay16 (F := Ideal) k0_pay2 (k0_pay3 t) kc kp q (ix2 i J) = sc t kc kp q i J := by
  rw [pay16_at, pay2_at, pay3_at]
  unfold sc
  split_ifs <;> first | rfl | (exfalso; omega)

theorem pay22_at (v19 v22) (kc kp : FVec Ideal S256x128 .bf16) (q : FVec Ideal S128x128 .bf16) (s : EReal) (i : Fin 128) :
    k0_pay22 (F := Ideal) v19 v22 kc kp q s (ix2 i 0) = max (Finset.univ.fold max ⊥ fun j : Fin 128 => k0_pay21 (F := Ideal) v19 v22 kc kp q (ix2 i j)) s := by
  unfold k0_pay22
  generalize k0_pay21 (F := Ideal) v19 v22 kc kp q = x
  pointwise []
  rw [ofBits_neg_inf]

theorem pay23_at (v19 v22) (kc kp : FVec Ideal S256x128 .bf16) (q : FVec Ideal S128x128 .bf16) (s : EReal) (i j : Fin 128) :
    k0_pay23 (F := Ideal) v19 v22 kc kp q s (ix2 i j) = Ideal.exp (k0_pay21 (F := Ideal) v19 v22 kc kp q (ix2 i j) - k0_pay22 (F := Ideal) v19 v22 kc kp q s (ix2 i 0)) := by
  pointwise [k0_pay23]

theorem pay24_at (v19 v22) (kc kp : FVec Ideal S256x128 .bf16) (q : FVec Ideal S128x128 .bf16) (s : EReal) (i : Fin 128) :
    k0_pay24 (F := Ideal) v19 v22 kc kp q s (ix2 i 0) = (∑ j : Fin 128, k0_pay23 (F := Ideal) v19 v22 kc kp q s (ix2 i j))
      + Ideal.exp (s - k0_pay22 (F := Ideal) v19 v22 kc kp q s (ix2 i 0)) := by
  pointwise [k0_pay24]

/-- The block that is stored for a pair of heads. -/
def out (t : grid0.Coords) (kc kp vc vp : FVec Ideal S256x128 .bf16) (q : FVec Ideal S128x128 .bf16) (s s' : EReal) : FVec Ideal S128x128 .bf16 :=
  k0_pay26 (F := Ideal) k0_pay4 (k0_pay20 (F := Ideal) k0_pay2 (k0_pay3 t) kc kp q s) (k0_pay24 (F := Ideal) k0_pay2 (k0_pay3 t) kc kp q s')
    (k0_pay25 (F := Ideal) k0_pay2 (k0_pay3 t) kc kp vc vp q s s')

/-- The weight of column `J` of a pair of heads. -/
def wt (f : Fin 256 → EReal) (s s' : EReal) (J : Fin 256) : EReal :=
  if (J : ℕ) < 128 then Ideal.exp (f J - AttnMath.top (fun j => f ⟨j, by omega⟩) s) else Ideal.exp (f J - AttnMath.top (fun j => f ⟨128 + j, by omega⟩) s')

/-- The stored block at an index. -/
theorem out_at (t : grid0.Coords) (kc kp vc vp : FVec Ideal S256x128 .bf16) (q : FVec Ideal S128x128 .bf16) (s s' : EReal) (i L : Fin 128) :
    out t kc kp vc vp q s s' (ix2 i L) = Ideal.div
      ((∑ J : Fin 256, (if (J : ℕ) % 128 ≤ i then wt (sc t kc kp q i) s s' J else 0) * vc (ix2 J L))
        + ∑ J : Fin 256, (if (J : ℕ) % 128 ≤ i then 0 else wt (sc t kc kp q i) s s' J) * vp (ix2 J L))
      (if (L : ℕ) < 64 then AttnMath.den (fun j => sc t kc kp q i ⟨j, by omega⟩) s else AttnMath.den (fun j => sc t kc kp q i ⟨128 + j, by omega⟩) s') := by
  have hw : ∀ J : Fin 256, (if h : (J : ℕ) < 128 then k0_pay19 (F := Ideal) k0_pay2 (k0_pay3 t) kc kp q s (ix2 i ⟨J, h⟩)
            else k0_pay23 (F := Ideal) k0_pay2 (k0_pay3 t) kc kp q s' (ix2 i ⟨J - 128, by omega⟩)) = wt (sc t kc kp q i) s s' J := by
    intro J
    unfold wt AttnMath.top
    split_ifs with h
    · rw [pay19_at, pay18_at]
      simp only [pay17_at, sc_at]
    · rw [pay23_at, pay22_at]
      simp only [pay21_at, sc_at]
      have e : (⟨128 + (⟨(J : ℕ) - 128, by omega⟩ : Fin 128), by simp only; omega⟩ : Fin 256) = J := Fin.ext (by simp only; omega)
      rw [e]
  unfold out
  rw [pay26_at, pay25_at, pay20_at, pay24_at]
  simp only [hw, pay2_at]
  simp only [pay19_at, pay23_at, pay18_at, pay22_at, pay17_at, pay21_at, sc_at]
  unfold AttnMath.den AttnMath.top
  congr 1
  congr 1
  · refine Finset.sum_congr rfl fun J _ => ?_
    congr 1
    split_ifs <;> rfl
  · refine Finset.sum_congr rfl fun J _ => ?_
    congr 1
    split_ifs <;> rfl

/-- Against one half of a pair matrix the sum over the lanes is the sum over that half's. -/
theorem sum_lanes (q : Fin 128 → EReal) (K : Fin 64 → EReal) (lower : Prop) [Decidable lower] :
    (∑ x : Fin 128, q x * (if (lower ↔ (x : ℕ) < 64) then K ⟨x % 64, by omega⟩ else 0))
      = ∑ d : Fin 64, q ⟨(if lower then 0 else 64) + d, by split <;> omega⟩ * K d := by
  rw [Fin.sum_univ_two_halves 64 64 rfl]
  by_cases h : lower
  · have z : (∑ k : Fin 64, q ⟨64 + k, by omega⟩ * (if (lower ↔ ((⟨64 + k, by omega⟩ : Fin 128) : ℕ) < 64) then K ⟨(⟨64 + k, by omega⟩ : Fin 128) % 64, by omega⟩ else 0)) = 0 :=
      Finset.sum_eq_zero fun k _ => by rw [if_neg (by simp [h]), mul_zero]
    rw [z, add_zero]
    refine Finset.sum_congr rfl fun d _ => ?_
    rw [if_pos (by simp [h])]
    congr 2 <;> apply Fin.ext <;> simp [h] <;> omega
  · have z : (∑ k : Fin 64, q ⟨k, by omega⟩ * (if (lower ↔ ((⟨k, by omega⟩ : Fin 128) : ℕ) < 64) then K ⟨(⟨k, by omega⟩ : Fin 128) % 64, by omega⟩ else 0)) = 0 :=
      Finset.sum_eq_zero fun k _ => by rw [if_neg (by simp [h]), mul_zero]
    rw [z, zero_add]
    refine Finset.sum_congr rfl fun d _ => ?_
    rw [if_pos (by simp [h])]
    congr 2 <;> apply Fin.ext <;> simp [h] <;> omega

end Cert.KernelIdeal.Attn

end
-- ==== Proof.AttnKerRow.lean ====
module

public import proofs.«01_k».proof.Proof.AttnKer

@[expose] public section

set_option maxRecDepth 16384

noncomputable section

open Idealize.ShloMosaic Idealize.ShloMosaic.TcCoe Idealize.SL.Sem

namespace Cert.KernelIdeal.Attn

open Cert.KernelIdeal Cert.KernelIdeal.Gen Cert.AttnMath

/-- A pair matrix of two blocks: `X` in the lower rows' lower lanes and in the upper rows' upper lanes, zero elsewhere. -/
def IsPair (p : FVec Ideal S256x128 .bf16) (X : Fin 128 → Fin 64 → EReal) : Prop :=
  ∀ (J : Fin 256) (L : Fin 128), p (ix2 J L) = if ((J : ℕ) < 128 ↔ (L : ℕ) < 64) then X ⟨J % 128, by omega⟩ ⟨L % 64, by omega⟩ else 0

/-- The scores of one head, whose queries lie from lane `o` on. -/
def headScore (t : grid0.Coords) (Kc Kp : Fin 128 → Fin 64 → EReal) (q : FVec Ideal S128x128 .bf16) (i : Fin 128) (up : Prop) [Decidable up] (j : Fin 128) : EReal :=
  if (j : ℕ) ≤ i then ∑ d : Fin 64, q (ix2 i ⟨(if up then 0 else 64) + d, by split <;> omega⟩) * Kc j d
    else if 0 < (t 1 : ℕ) then ∑ d : Fin 64, q (ix2 i ⟨(if up then 0 else 64) + d, by split <;> omega⟩) * Kp j d else ⊥

/-- The values of one lane. -/
def headValue (t : grid0.Coords) (Vc Vp : Fin 128 → Fin 64 → EReal) (i : Fin 128) (d : Fin 64) (j : Fin 128) : EReal :=
  if (j : ℕ) ≤ i then Vc j d else if 0 < (t 1 : ℕ) then Vp j d else 0

theorem sc_pair (t : grid0.Coords) (kc kp : FVec Ideal S256x128 .bf16) (Kc Kp : Fin 128 → Fin 64 → EReal) (hkc : IsPair kc Kc) (hkp : IsPair kp Kp)
    (q : FVec Ideal S128x128 .bf16) (i : Fin 128) (J : Fin 256) :
    sc t kc kp q i J = headScore t Kc Kp q i ((J : ℕ) < 128) ⟨J % 128, by omega⟩ := by
  unfold sc headScore
  simp only [hkc J, hkp J]
  rw [sum_lanes (fun x => q (ix2 i x)) (Kc ⟨J % 128, by omega⟩) ((J : ℕ) < 128), sum_lanes (fun x => q (ix2 i x)) (Kp ⟨J % 128, by omega⟩) ((J : ℕ) < 128)]

/-- A sum over the two halves of which one vanishes. -/
theorem sum_low (F : Fin 256 → EReal) (G : Fin 128 → EReal) (h0 : ∀ j : Fin 128, F ⟨j, by omega⟩ = G j) (h1 : ∀ j : Fin 128, F ⟨128 + j, by omega⟩ = 0) :
    (∑ J, F J) = ∑ j, G j := by
  rw [Fin.sum_univ_two_halves 128 128 rfl, Finset.sum_eq_zero (fun j _ => h1 j), add_zero]
  exact Finset.sum_congr rfl fun j _ => h0 j

theorem sum_high (F : Fin 256 → EReal) (G : Fin 128 → EReal) (h0 : ∀ j : Fin 128, F ⟨j, by omega⟩ = 0) (h1 : ∀ j : Fin 128, F ⟨128 + j, by omega⟩ = G j) :
    (∑ J, F J) = ∑ j, G j := by
  rw [Fin.sum_univ_two_halves 128 128 rfl, Finset.sum_eq_zero (fun j _ => h0 j), zero_add]
  exact Finset.sum_congr rfl fun j _ => h1 j

/-- The two blocks' weighted values are the window's. -/
theorem two_blocks (t : grid0.Coords) (S : Fin 128 → EReal) (s : EReal) (Vc Vp : Fin 128 → Fin 64 → EReal) (i : Fin 128) (d : Fin 64)
    (hS : ∀ j : Fin 128, ¬ (j : ℕ) ≤ i → ¬ 0 < (t 1 : ℕ) → S j = ⊥) :
    (∑ j : Fin 128, (if (j : ℕ) ≤ i then Ideal.exp (S j - top S s) else 0) * Vc j d)
      + (∑ j : Fin 128, (if (j : ℕ) ≤ i then 0 else Ideal.exp (S j - top S s)) * Vp j d)
      = ∑ j : Fin 128, Ideal.exp (S j - top S s) * headValue t Vc Vp i d j := by
  rw [← Finset.sum_add_distrib]
  refine Finset.sum_congr rfl fun j _ => ?_
  unfold headValue
  split_ifs with h1 h2
  · rw [zero_mul, add_zero]
  · rw [zero_mul, zero_add]
  · rw [hS j h1 h2, bot_sub', exp_bot, zero_mul, zero_mul, zero_mul, add_zero]

/-- A stored block's entry is the attention of its head and lane. -/
theorem out_row (t : grid0.Coords) (kc kp vc vp : FVec Ideal S256x128 .bf16) (Kc Kp Vc Vp : Fin 128 → Fin 64 → EReal)
    (hkc : IsPair kc Kc) (hkp : IsPair kp Kp) (hvc : IsPair vc Vc) (hvp : IsPair vp Vp)
    (q : FVec Ideal S128x128 .bf16) (s s' : EReal) (i L : Fin 128) :
    out t kc kp vc vp q s s' (ix2 i L) = row (headScore t Kc Kp q i ((L : ℕ) < 64)) (if (L : ℕ) < 64 then s else s')
      (headValue t Vc Vp i ⟨L % 64, by omega⟩) := by
  rw [out_at]
  have hf : sc t kc kp q i = fun J : Fin 256 => headScore t Kc Kp q i ((J : ℕ) < 128) ⟨J % 128, by omega⟩ := funext fun J => sc_pair t kc kp Kc Kp hkc hkp q i J
  have hb : ∀ (up : Prop) [Decidable up] (j : Fin 128), ¬ (j : ℕ) ≤ i → ¬ 0 < (t 1 : ℕ) → headScore t Kc Kp q i up j = ⊥ := by
    intro up _ j h1 h2
    unfold headScore
    rw [if_neg h1, if_neg h2]
  have lo : (fun j : Fin 128 => sc t kc kp q i ⟨j, by omega⟩) = headScore t Kc Kp q i True := by
    funext j
    rw [sc_pair t kc kp Kc Kp hkc hkp q i]
    have hj := j.isLt
    have e : (⟨(⟨(j : ℕ), by omega⟩ : Fin 256) % 128, by omega⟩ : Fin 128) = j := Fin.ext (by simp only; omega)
    rw [e]
    unfold headScore
    simp only [hj, if_true]
  have hi : (fun j : Fin 128 => sc t kc kp q i ⟨128 + j, by omega⟩) = headScore t Kc Kp q i False := by
    funext j
    rw [sc_pair t kc kp Kc Kp hkc hkp q i]
    have hj := j.isLt
    have e : (⟨(⟨128 + (j : ℕ), by omega⟩ : Fin 256) % 128, by omega⟩ : Fin 128) = j := Fin.ext (by simp only; omega)
    have n : ¬ 128 + (j : ℕ) < 128 := by omega
    rw [e]
    unfold headScore
    simp only [n, if_false]
  have wlo : ∀ j : Fin 128, wt (sc t kc kp q i) s s' ⟨j, by omega⟩ = Ideal.exp (headScore t Kc Kp q i True j - top (headScore t Kc Kp q i True) s) := by
    intro j
    unfold wt
    rw [if_pos (by simp only; omega), lo, ← congrFun lo j]
  have whi : ∀ j : Fin 128, wt (sc t kc kp q i) s s' ⟨128 + j, by omega⟩ = Ideal.exp (headScore t Kc Kp q i False j - top (headScore t Kc Kp q i False) s') := by
    intro j
    unfold wt
    rw [if_neg (by simp only; omega), hi, ← congrFun hi j]
  have hv : ∀ (V : Fin 128 → Fin 64 → EReal) (v : FVec Ideal S256x128 .bf16), IsPair v V → ∀ j : Fin 128,
      v (ix2 ⟨j, by omega⟩ L) = (if (L : ℕ) < 64 then V j ⟨L % 64, by omega⟩ else 0) ∧ v (ix2 ⟨128 + j, by omega⟩ L) = (if (L : ℕ) < 64 then 0 else V j ⟨L % 64, by omega⟩) := by
    intro V v h j
    have hj := j.isLt
    have e : (⟨(⟨(j : ℕ), by omega⟩ : Fin 256) % 128, by omega⟩ : Fin 128) = j := Fin.ext (by simp only; omega)
    have e' : (⟨(⟨128 + (j : ℕ), by omega⟩ : Fin 256) % 128, by omega⟩ : Fin 128) = j := Fin.ext (by simp only; omega)
    have n : ¬ 128 + (j : ℕ) < 128 := by omega
    rw [h, h, e, e']
    by_cases hL : (L : ℕ) < 64 <;> simp [hj, n, hL]
  unfold row
  by_cases hL : (L : ℕ) < 64
  · have eup : headScore t Kc Kp q i ((L : ℕ) < 64) = headScore t Kc Kp q i True := by funext j; unfold headScore; simp only [hL, if_true]
    rw [if_pos hL, if_pos hL, lo, eup]
    congr 1
    rw [← two_blocks t _ s Vc Vp i _ (hb True)]
    congr 1
    · refine sum_low _ _ (fun j => ?_) fun j => ?_
      · have hj : (j : ℕ) % 128 = j := by omega
        rw [wlo, (hv Vc vc hvc j).1, if_pos hL]; simp only [hj]
      · rw [(hv Vc vc hvc j).2, if_pos hL, mul_zero]
    · refine sum_low _ _ (fun j => ?_) fun j => ?_
      · have hj : (j : ℕ) % 128 = j := by omega
        rw [wlo, (hv Vp vp hvp j).1, if_pos hL]; simp only [hj]
      · rw [(hv Vp vp hvp j).2, if_pos hL, mul_zero]
  · have eup : headScore t Kc Kp q i ((L : ℕ) < 64) = headScore t Kc Kp q i False := by funext j; unfold headScore; simp only [hL, if_false]
    rw [if_neg hL, if_neg hL, hi, eup]
    congr 1
    rw [← two_blocks t _ s' Vc Vp i _ (hb False)]
    congr 1
    · refine sum_high _ _ (fun j => ?_) fun j => ?_
      · rw [(hv Vc vc hvc j).1, if_neg hL, mul_zero]
      · have hj : (128 + (j : ℕ)) % 128 = j := by omega
        rw [whi, (hv Vc vc hvc j).2, if_neg hL]; simp only [hj]
    · refine sum_high _ _ (fun j => ?_) fun j => ?_
      · rw [(hv Vp vp hvp j).1, if_neg hL, mul_zero]
      · have hj : (128 + (j : ℕ)) % 128 = j := by omega
        rw [whi, (hv Vp vp hvp j).2, if_neg hL]; simp only [hj]

end Cert.KernelIdeal.Attn

end
-- ==== Proof.AttnSpec.lean ====
module

public import proofs.«01_k».proof.Proof.AttnMath
public import Idealize.ShloMosaic.Lib.Pointwise

@[expose] public section

set_option maxRecDepth 16384

noncomputable section

open Idealize.ShloMosaic Idealize.ShloMosaic.TcCoe Idealize.SL.Sem

namespace Cert.AttnSpec

open Cert.AttnMath

abbrev Q : Shape := ⟨2, ![32768, 512]⟩
abbrev K : Shape := ⟨2, ![32768, 128]⟩
abbrev Z : Shape := ⟨1, ![8]⟩

/-- The scale 1/8 of the scores. -/
def c : EReal := Ideal.ofBits .f32 0x3E000000#32

theorem c_eq : c = ((1 / 8 : ℝ) : EReal) := by
  simp [c, Ideal.ofBits, Ideal.ieee]
  rw [← EReal.coe_mul]
  norm_num

/-- Offset `j` of a query's window exists: it lies in the query's own block or the query's block is not its sequence's first. -/
def ok (R : Fin 32768) (j : Fin 128) : Prop := (j : ℕ) ≤ (R : ℕ) % 128 ∨ 0 < (R : ℕ) / 128 % 16

instance (R : Fin 32768) (j : Fin 128) : Decidable (ok R j) := by unfold ok; infer_instance

/-- The key of a query's window with offset `j` in its block: offsets up to the query's own are of its block, the others of the
    block before. -/
def keyRow (R : Fin 32768) (j : Fin 128) : Fin 32768 :=
  if (j : ℕ) ≤ (R : ℕ) % 128 then ⟨(R : ℕ) / 128 * 128 + j, by omega⟩ else ⟨(R : ℕ) / 128 * 128 + j - 128, by omega⟩

/-- The scores of head `h` of query `R` against the 128 keys of its window. -/
def score (q : FVec Ideal Q .f32) (k : FVec Ideal K .f32) (R : Fin 32768) (h : Fin 8) (j : Fin 128) : EReal :=
  if ok R j then ∑ d : Fin 64, q (ix2 R ⟨h * 64 + d, by omega⟩) * c * k (ix2 (keyRow R j) ⟨h / 4 * 64 + d, by omega⟩) else ⊥

/-- The values of the window, in lane `d` of head `h`. -/
def value (v : FVec Ideal K .f32) (R : Fin 32768) (h : Fin 8) (d : Fin 64) (j : Fin 128) : EReal :=
  if ok R j then v (ix2 (keyRow R j) ⟨h / 4 * 64 + d, by omega⟩) else 0

/-- The attention of query `R`, head `h`, lane `d`. -/
def attend (q : FVec Ideal Q .f32) (k v : FVec Ideal K .f32) (s : FVec Ideal Z .f32) (R : Fin 32768) (h : Fin 8) (d : Fin 64) : EReal :=
  row (score q k R h) (s (ix1 h)) (value v R h d)

theorem sum_ne_top {n : ℕ} (f : Fin n → EReal) (h : ∀ j, f j ≠ ⊤) : (∑ j, f j) ≠ ⊤ := by
  classical
  induction (Finset.univ : Finset (Fin n)) using Finset.induction_on with
  | empty => simp
  | insert a s ha ih => rw [Finset.sum_insert ha]; exact EReal.add_ne_top (h a) ih

/-- Real queries and keys have scores below infinity. -/
theorem score_ne_top (q : FVec Ideal Q .f32) (k : FVec Ideal K .f32) (hq : ∀ i, ∃ x : ℝ, q i = (x : EReal)) (hk : ∀ i, ∃ x : ℝ, k i = (x : EReal))
    (R : Fin 32768) (h : Fin 8) (j : Fin 128) : score q k R h j ≠ ⊤ := by
  unfold score
  split
  · refine sum_ne_top _ fun d => ?_
    obtain ⟨x, hx⟩ := hq (ix2 R ⟨h * 64 + d, by omega⟩)
    obtain ⟨y, hy⟩ := hk (ix2 (keyRow R j) ⟨h / 4 * 64 + d, by omega⟩)
    rw [hx, hy, c_eq, ← EReal.coe_mul, ← EReal.coe_mul]
    exact EReal.coe_ne_top _
  · exact bot_ne_top

/-- The scale may be applied to the sum of the products. -/
theorem scaled (n : ℕ) (a b : Fin n → EReal) : (∑ d, a d * b d) * c = ∑ d, b d * c * a d := by
  rw [← sum_mul _ c (by rw [c_eq]; exact EReal.coe_nonneg.2 (by norm_num)) (by rw [c_eq]; exact EReal.coe_ne_top _)]
  exact Finset.sum_congr rfl fun d _ => by rw [mul_assoc, mul_comm]

end Cert.AttnSpec

end
-- ==== Proof.AttnValue.lean ====
module

public import proofs.«01_k».proof.Proof.Gen.KernelIdeal.Value
public import proofs.«01_k».proof.Proof.AttnKerRow
public import proofs.«01_k».proof.Proof.AttnSpec
public import Idealize.ShloMosaic.Lib.Pointwise
public import Idealize.ShloMosaic.Lib.WordCmp
public import Idealize.ShloMosaic.Lib.Pipeline.ValueKit
public import Idealize.ShloMosaic.Lib.Pipeline.FrameTail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.AttnMath Cert.AttnSpec

variable (m : (ℓ : Loc nD τ sig) → Buf (Elt Ideal) ℓ)

/-- The query that row `i` of the point's block is. -/
def qrow (t : Fin cfg0.N) (i : Fin 128) : Fin 32768 :=
  ⟨t.val * 128 + i, by have h := lt_of_lt_of_eq t.isLt N_0; omega⟩

/-- The key that row `j` of the block staged beside it is: of the block before, or of its own in a sequence's first block. -/
def prow (t : Fin cfg0.N) (j : Fin 128) : Fin 32768 :=
  ⟨(if t.val % 16 = 0 then t.val else t.val - 1) * 128 + j, by have h := lt_of_lt_of_eq t.isLt N_0; split <;> omega⟩

/-- The windows' block indices. -/
theorem idx : ∀ t : Fin cfg0.N, win0_0.index t = ![0] ∧ win0_1.index t = ![t.val, 0] ∧ win0_2.index t = ![t.val, 0]
    ∧ win0_3.index t = ![if t.val % 16 = 0 then t.val else t.val - 1, 0] ∧ win0_4.index t = ![t.val, 0]
    ∧ win0_5.index t = ![if t.val % 16 = 0 then t.val else t.val - 1, 0] ∧ win0_6.index t = ![t.val, 0] ∧ (grid0.coords t 1 : ℕ) = t.val % 16 :=
  (by decide +kernel : ∀ t : Fin grid0.N, win0_0.index t = ![0] ∧ win0_1.index t = ![t.val, 0] ∧ win0_2.index t = ![t.val, 0]
    ∧ win0_3.index t = ![if t.val % 16 = 0 then t.val else t.val - 1, 0] ∧ win0_4.index t = ![t.val, 0]
    ∧ win0_5.index t = ![if t.val % 16 = 0 then t.val else t.val - 1, 0] ∧ win0_6.index t = ![t.val, 0] ∧ (grid0.coords t 1 : ℕ) = t.val % 16)

/-- The queries as the kernel finds them: scaled. -/
theorem q_scaled (c : Dev nD) : (show FVec Ideal S32768x512 .bf16 from V m c main_v2)
    = fun y => (show FVec Ideal S32768x512 .f32 from m ((c : Thread nD τ).loc main_arg0)) y * AttnSpec.c := by
  unfold V hostOps0
  after_region_results
  funext y
  idx_vars y
  pointwise []
  rfl

/-- One pair of heads: the stored block is the attention of its two heads. -/
theorem pair_at (t : Fin cfg0.N) (p : Fin 4) (kc kp vc vp : FVec Ideal S256x128 .bf16) (Kc Kp Vc Vp : Fin 128 → Fin 64 → EReal)
    (hkc : IsPair kc Kc) (hkp : IsPair kp Kp) (hvc : IsPair vc Vc) (hvp : IsPair vp Vp)
    (q2 : FVec Ideal S128x128 .bf16) (s0 s1 : EReal) (q : FVec Ideal S32768x512 .f32) (k v : FVec Ideal S32768x128 .f32) (s : FVec Ideal S8 .f32)
    (hq : ∀ (i x : Fin 128), q2 (ix2 i x) = q (ix2 (qrow t i) ⟨128 * p + x, by omega⟩) * AttnSpec.c)
    (kcr : ∀ (j : Fin 128) (d : Fin 64), Kc j d = k (ix2 (qrow t j) ⟨p / 2 * 64 + d, by omega⟩))
    (kpr : ∀ (j : Fin 128) (d : Fin 64), Kp j d = k (ix2 (prow t j) ⟨p / 2 * 64 + d, by omega⟩))
    (vcr : ∀ (j : Fin 128) (d : Fin 64), Vc j d = v (ix2 (qrow t j) ⟨p / 2 * 64 + d, by omega⟩))
    (vpr : ∀ (j : Fin 128) (d : Fin 64), Vp j d = v (ix2 (prow t j) ⟨p / 2 * 64 + d, by omega⟩))
    (hs0 : s0 = s (ix1 ⟨2 * p, by omega⟩)) (hs1 : s1 = s (ix1 ⟨2 * p + 1, by omega⟩)) (i L : Fin 128) :
    out (grid0.coords t) kc kp vc vp q2 s0 s1 (ix2 i L) = attend q k v s (qrow t i) ⟨2 * p + L / 64, by omega⟩ ⟨L % 64, by omega⟩ := by
  rw [out_row _ kc kp vc vp Kc Kp Vc Vp hkc hkp hvc hvp]
  have ht := lt_of_lt_of_eq t.isLt N_0
  have hp := p.isLt
  have hL := L.isLt
  have hi := i.isLt
  have hc : (grid0.coords t 1 : ℕ) = t.val % 16 := (idx t).2.2.2.2.2.2.2
  have hR : (qrow t i : ℕ) = t.val * 128 + i := rfl
  have hok : ∀ j : Fin 128, ok (qrow t i) j ↔ (j : ℕ) ≤ i ∨ 0 < t.val % 16 := by
    intro j; unfold ok; rw [hR]; constructor <;> intro h <;> omega
  have hkey : ∀ j : Fin 128, ok (qrow t i) j → keyRow (qrow t i) j = if (j : ℕ) ≤ i then qrow t j else prow t j := by
    intro j hj
    have hj' := j.isLt
    rw [hok] at hj
    unfold keyRow
    by_cases h : (j : ℕ) ≤ i
    · rw [if_pos h, if_pos (by rw [hR]; omega)]
      exact Fin.ext (by show (qrow t i : ℕ) / 128 * 128 + j = t.val * 128 + j; rw [hR]; omega)
    · rw [if_neg h, if_neg (by rw [hR]; omega)]
      have h0 : ¬ t.val % 16 = 0 := by omega
      exact Fin.ext (by show (qrow t i : ℕ) / 128 * 128 + j - 128 = (if t.val % 16 = 0 then t.val else t.val - 1) * 128 + j; rw [hR, if_neg h0]; omega)
  unfold attend
  congr 1
  · funext j
    unfold headScore score
    rw [hc]
    have key : ∀ (a : Fin 32768) (K : Fin 64 → EReal), (∀ d, K d = k (ix2 a ⟨p / 2 * 64 + d, by omega⟩)) → keyRow (qrow t i) j = a →
        (∑ d : Fin 64, q2 (ix2 i ⟨(if (L : ℕ) < 64 then 0 else 64) + d, by split <;> omega⟩) * K d)
          = ∑ d : Fin 64, q (ix2 (qrow t i) ⟨(⟨2 * p + L / 64, by omega⟩ : Fin 8) * 64 + d, by simp only; omega⟩) * AttnSpec.c
            * k (ix2 (keyRow (qrow t i) j) ⟨(⟨2 * p + L / 64, by omega⟩ : Fin 8) / 4 * 64 + d, by simp only; omega⟩) := by
      intro a K hK ha
      refine Finset.sum_congr rfl fun d _ => ?_
      rw [hq, hK, ha]
      have e1 : (⟨128 * (p : ℕ) + (⟨(if (L : ℕ) < 64 then 0 else 64) + (d : ℕ), by split <;> omega⟩ : Fin 128), by simp only; split <;> omega⟩ : Fin 512)
          = ⟨(⟨2 * p + L / 64, by omega⟩ : Fin 8) * 64 + d, by simp only; omega⟩ := Fin.ext (by simp only; split <;> omega)
      have e2 : (⟨(p : ℕ) / 2 * 64 + d, by omega⟩ : Fin 128) = ⟨(⟨2 * p + L / 64, by omega⟩ : Fin 8) / 4 * 64 + d, by simp only; omega⟩ :=
        Fin.ext (by simp only; omega)
      rw [e1, e2]
    by_cases h : (j : ℕ) ≤ i
    · rw [if_pos h, if_pos ((hok j).2 (Or.inl h))]
      exact key (qrow t j) (Kc j) (kcr j) ((hkey j ((hok j).2 (Or.inl h))).trans (if_pos h))
    · rw [if_neg h]
      by_cases h2 : 0 < t.val % 16
      · rw [if_pos h2, if_pos ((hok j).2 (Or.inr h2))]
        exact key (prow t j) (Kp j) (kpr j) ((hkey j ((hok j).2 (Or.inr h2))).trans (if_neg h))
      · rw [if_neg h2, if_neg (fun g => by rw [hok] at g; omega)]
  · by_cases h : (L : ℕ) < 64
    · rw [if_pos h, hs0]
      congr 2
      exact Fin.ext (by simp only; omega)
    · rw [if_neg h, hs1]
      congr 2
      exact Fin.ext (by simp only; omega)
  · funext j
    unfold headValue value
    rw [hc]
    have e2 : (⟨(p : ℕ) / 2 * 64 + (⟨(L : ℕ) % 64, by omega⟩ : Fin 64), by simp only; omega⟩ : Fin 128)
        = ⟨(⟨2 * p + L / 64, by omega⟩ : Fin 8) / 4 * 64 + (⟨(L : ℕ) % 64, by omega⟩ : Fin 64), by simp only; omega⟩ := Fin.ext (by simp only; omega)
    by_cases h : (j : ℕ) ≤ i
    · rw [if_pos h, if_pos ((hok j).2 (Or.inl h)), vcr, hkey j ((hok j).2 (Or.inl h)), if_pos h, e2]
    · rw [if_neg h]
      by_cases h2 : 0 < t.val % 16
      · rw [if_pos h2, if_pos ((hok j).2 (Or.inr h2)), vpr, hkey j ((hok j).2 (Or.inr h2)), if_neg h, e2]
      · rw [if_neg h2, if_neg (fun g => by rw [hok] at g; omega)]

/-- The four stored blocks are one function of what is read. -/
theorem piece0 (t : grid0.Coords) (k kp vc vp : FVec Ideal S256x128 .bf16) (q : FVec Ideal S128x128 .bf16) (s s' : EReal) :
    k0_pay1 (F := Ideal) k0_pay2 k0_pay4 vc vp (k0_pay48 (F := Ideal) k0_pay2 (k0_pay3 t) k kp q s) (k0_pay49 (F := Ideal) k0_pay2 (k0_pay3 t) k kp q s) s'
      (k0_pay51 (F := Ideal) k0_pay2 (k0_pay3 t) k kp q s') (k0_pay52 (F := Ideal) k0_pay2 (k0_pay3 t) k kp q s') = out t k kp vc vp q s s' := rfl

theorem piece1 (t : grid0.Coords) (k kp vc vp : FVec Ideal S256x128 .bf16) (q : FVec Ideal S128x128 .bf16) (s s' : EReal) :
    k0_pay44 (F := Ideal) k0_pay2 k0_pay4 vc vp (k0_pay37 (F := Ideal) k0_pay2 (k0_pay3 t) k kp q s) (k0_pay41 (F := Ideal) k0_pay2 (k0_pay3 t) k kp q s')
      (k0_pay42 (F := Ideal) k0_pay2 (k0_pay3 t) k kp q s s') (k0_pay43 (F := Ideal) k0_pay2 (k0_pay3 t) k kp q s s') = out t k kp vc vp q s s' := rfl

theorem piece3 (t : grid0.Coords) (k kp : FVec Ideal S128x128 .f32) (vc vp : FVec Ideal S256x128 .bf16) (q : FVec Ideal S128x128 .bf16) (s s' : EReal) :
    k0_pay15 (F := Ideal) k0_pay2 k0_pay4 vc vp
      (k0_pay13 (F := Ideal) k0_pay2 (k0_pay3 t) kp k0_pay5 (k0_pay6 k) (k0_pay7 k) k0_pay8 q) s
      (k0_pay14 (F := Ideal) k0_pay2 (k0_pay3 t) kp k0_pay5 (k0_pay6 k) (k0_pay7 k) k0_pay8 q) s' = out t (k0_pay10 (F := Ideal) k) (k0_pay10 (F := Ideal) kp) vc vp q s s' := rfl

/-- The pair matrices of the first group's lanes and of the second's. -/
theorem pair10 (x : FVec Ideal S128x128 .f32) : IsPair (k0_pay10 (F := Ideal) x) fun j d => x (ix2 j ⟨d, by omega⟩) := fun J L => pay10_at x J L

theorem pair28 (x : FVec Ideal S128x128 .f32) : IsPair (k0_pay28 (F := Ideal) x) fun j d => x (ix2 j ⟨64 + d, by omega⟩) := fun J L => pay28_at x J L

/-- A pair's queries, read out of the block. -/
theorem ld_q (X : FVec Ideal S128x512 .bf16) (p : Fin 4) (inb) (i x : Fin 128) :
    View.ld (Val := Elt Ideal) (e' := .bf16) X (Rect.unit (s := S128x512) ![0, 128 * p] ![128, 128] inb) (ix2 i x) = X (ix2 i ⟨128 * p + x, by omega⟩) := by
  pointwise

/-- The first group's lanes. -/
theorem zlane (X : FVec Ideal S32768x128 .f32) (R : Fin 32768) (d : Fin 64) :
    X (ix2 R ⟨d, by omega⟩) = X (ix2 R ⟨0 * 64 + d, by omega⟩) := by
  congr 2
  exact Fin.ext (by simp)

/-- A sink, read out of the table. -/
theorem ld_s (X : FVec Ideal S8 .f32) (h : Fin 8) (inb) (hu) :
    View.ld (Val := Elt Ideal) (e' := .f32) X (Rect.unit (s := S8) ![h] ![1] inb) (Shape.Idx.first hu) = X (ix1 h) := by
  show X _ = X _
  congr 1
  funext a
  match a with
  | ⟨0, _⟩ => exact Fin.ext (by show (h : ℕ) + 0 = h; omega)

/-- The attention of every query, head and lane as one array. -/
def spec (q : FVec Ideal S32768x512 .f32) (k v : FVec Ideal S32768x128 .f32) (s : FVec Ideal S8 .f32) : FVec Ideal S32768x512 .bf16 :=
  fun y => attend q k v s (y 0) ⟨(y 1 : ℕ) / 64, by have h : (y 1 : ℕ) < 512 := (y 1).isLt; omega⟩ ⟨(y 1 : ℕ) % 64, by omega⟩

set_option maxHeartbeats 2000000 in
theorem final (c : Dev nD) : (dats m 0 c).arrAt 6 (cfgs 0).N
    = spec (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]; unfold Gen.outsAt0; frame_out
  obtain ⟨r, d, rfl⟩ : ∃ (r : Fin 128) (d : Fin 512), y = ix2 r d := ⟨y 0, y 1, eq_ix2 y⟩
  have hy : ((cfg0.win 6).blk t).view.emb (ix2 r d) = (ix2 (qrow t r) d : S32768x512.Idx) := by
    unfold qrow; blk_ext [idx t]
  rw [show (((View.whole main_v3).slice (win0_6.rect t)).emb (ix2 r d)) = (ix2 (qrow t r) d : S32768x512.Idx) from hy]
  have e1 : ∀ (i : Fin 128) (x : Fin 512), (show FVec Ideal S128x512 .bf16 from iblk m c 1 t) (ix2 i x)
      = (show FVec Ideal S32768x512 .f32 from m ((c : Thread nD τ).loc main_arg0)) (ix2 (qrow t i) x) * AttnSpec.c := by
    intro i x
    refine Eq.trans ?_ (congrFun (q_scaled m c) (ix2 (qrow t i) x))
    unfold qrow; blk_ext [iblk, idx t]
  have e2 : ∀ (i : Fin 128) (x : Fin 128), (show FVec Ideal S128x128 .f32 from iblk m c 2 t) (ix2 i x)
      = (show FVec Ideal S32768x128 .f32 from m ((c : Thread nD τ).loc main_arg1)) (ix2 (qrow t i) x) := by
    intro i x; unfold qrow; blk_ext [iblk, V, idx t]
  have e3 : ∀ (i : Fin 128) (x : Fin 128), (show FVec Ideal S128x128 .f32 from iblk m c 3 t) (ix2 i x)
      = (show FVec Ideal S32768x128 .f32 from m ((c : Thread nD τ).loc main_arg1)) (ix2 (prow t i) x) := by
    intro i x; unfold prow; blk_ext [iblk, V, idx t]
  have e4 : ∀ (i : Fin 128) (x : Fin 128), (show FVec Ideal S128x128 .f32 from iblk m c 4 t) (ix2 i x)
      = (show FVec Ideal S32768x128 .f32 from m ((c : Thread nD τ).loc main_arg2)) (ix2 (qrow t i) x) := by
    intro i x; unfold qrow; blk_ext [iblk, V, idx t]
  have e5 : ∀ (i : Fin 128) (x : Fin 128), (show FVec Ideal S128x128 .f32 from iblk m c 5 t) (ix2 i x)
      = (show FVec Ideal S32768x128 .f32 from m ((c : Thread nD τ).loc main_arg2)) (ix2 (prow t i) x) := by
    intro i x; unfold prow; blk_ext [iblk, V, idx t]
  have e0 : iblk m c 0 t = m ((c : Thread nD τ).loc main_arg3) := by
    blk_ext! [iblk, V, idx t]
  have hr := r.isLt
  have key : ∀ (p : Fin 4) (x : S128x128.Idx) (w : EReal), (r : ℕ) = x 0 → (d : ℕ) = 128 * p + x 1 →
      (∀ i L : Fin 128, x = ix2 i L → w = attend (m ((c : Thread nD τ).loc main_arg0)) (m ((c : Thread nD τ).loc main_arg1)) (m ((c : Thread nD τ).loc main_arg2))
        (m ((c : Thread nD τ).loc main_arg3)) (qrow t i) ⟨2 * p + L / 64, by omega⟩ ⟨L % 64, by omega⟩) →
      w = spec (m ((c : Thread nD τ).loc main_arg0)) (m ((c : Thread nD τ).loc main_arg1)) (m ((c : Thread nD τ).loc main_arg2))
        (m ((c : Thread nD τ).loc main_arg3)) (ix2 (qrow t r) d) := by
    intro p x w h0 h1 hw
    obtain ⟨i, L, rfl⟩ : ∃ (i : Fin 128) (L : Fin 128), x = ix2 i L := ⟨x 0, x 1, eq_ix2 x⟩
    have hir : i = r := Fin.ext h0.symm
    have hd : (d : ℕ) = 128 * p + L := h1
    have hL := L.isLt
    subst hir
    rw [hw i L rfl]
    unfold spec
    have a1 : (⟨2 * (p : ℕ) + L / 64, by omega⟩ : Fin 8) = ⟨(d : ℕ) / 64, by omega⟩ := Fin.ext (by simp only; omega)
    have a2 : (⟨(L : ℕ) % 64, by omega⟩ : Fin 64) = ⟨(d : ℕ) % 64, by omega⟩ := Fin.ext (by simp only; omega)
    rw [a1, a2]
    rfl
  canon_tiles x h
  case piece0 =>
    refine key 3 x _ h0 h1 ?_
    rintro i L rfl
    rw [piece0]
    exact pair_at t 3 _ _ _ _ _ _ _ _ (pair28 (iblk m c 2 t)) (pair28 (iblk m c 3 t)) (pair28 (iblk m c 4 t)) (pair28 (iblk m c 5 t)) _ _ _ _ _ _ _
      (fun i x => (ld_q _ 3 _ i x).trans (e1 i _)) (fun j d => e2 j _) (fun j d => e3 j _) (fun j d => e4 j _) (fun j d => e5 j _)
      ((ld_s _ 6 _ _).trans (congrFun e0 _)) ((ld_s _ 7 _ _).trans (congrFun e0 _)) i L
  case piece1 =>
    refine key 2 x _ h0 h1 ?_
    rintro i L rfl
    rw [piece1]
    exact pair_at t 2 _ _ _ _ _ _ _ _ (pair28 (iblk m c 2 t)) (pair28 (iblk m c 3 t)) (pair28 (iblk m c 4 t)) (pair28 (iblk m c 5 t)) _ _ _ _ _ _ _
      (fun i x => (ld_q _ 2 _ i x).trans (e1 i _)) (fun j d => e2 j _) (fun j d => e3 j _) (fun j d => e4 j _) (fun j d => e5 j _)
      ((ld_s _ 4 _ _).trans (congrFun e0 _)) ((ld_s _ 5 _ _).trans (congrFun e0 _)) i L
  case piece2 =>
    refine key 1 x _ h0 h1 ?_
    rintro i L rfl
    exact pair_at t 1 _ _ _ _ _ _ _ _ (pair10 (iblk m c 2 t)) (pair10 (iblk m c 3 t)) (pair10 (iblk m c 4 t)) (pair10 (iblk m c 5 t)) _ _ _ _ _ _ _
      (fun i x => (ld_q _ 1 _ i x).trans (e1 i _)) (fun j d => (e2 j _).trans (zlane _ _ _)) (fun j d => (e3 j _).trans (zlane _ _ _))
      (fun j d => (e4 j _).trans (zlane _ _ _)) (fun j d => (e5 j _).trans (zlane _ _ _))
      ((ld_s _ 2 _ _).trans (congrFun e0 _)) ((ld_s _ 3 _ _).trans (congrFun e0 _)) i L
  case piece3 =>
    refine key 0 x _ h0 (h1.trans (by simp)) ?_
    rintro i L rfl
    rw [piece3]
    exact pair_at t 0 _ _ _ _ _ _ _ _ (pair10 (iblk m c 2 t)) (pair10 (iblk m c 3 t)) (pair10 (iblk m c 4 t)) (pair10 (iblk m c 5 t)) _ _ _ _ _ _ _
      (fun i x => (ld_q _ 0 _ i x).trans (e1 i _)) (fun j d => (e2 j _).trans (zlane _ _ _)) (fun j d => (e3 j _).trans (zlane _ _ _))
      (fun j d => (e4 j _).trans (zlane _ _ _)) (fun j d => (e5 j _).trans (zlane _ _ _))
      ((ld_s _ 0 _ _).trans (congrFun e0 _)) ((ld_s _ 1 _ _).trans (congrFun e0 _)) i L

end Cert.KernelIdeal.Attn

end
-- ==== Proof.AttnMask.lean ====
module

public import Idealize.ShloMosaic.Lib.Pointwise
public import Idealize.ShloMosaic.Lib.WordCmp
public import Idealize.ShloMosaic.Lib.Tactic.WordOmega

@[expose] public section

noncomputable section

open Idealize.ShloMosaic Idealize.ShloMosaic.TcCoe Idealize.SL.Sem

namespace Cert.AttnMask

/-- The reference's mask on words: a key of the block before is seen by the queries of lower row, and never in a
    sequence's first block; a key of the query's own block by the queries of its row and higher. -/
theorem mask_at (n : Fin 16) (i : Fin 128) (j : Fin 256) (a b : EReal) : Scalar.select
      (IntOp.andi
        (IntOp.andi
          (IntOp.cmpi CmpIPredicate.sge (IntOp.subi (BitVec.ofNat 32 i) (IntOp.subi (BitVec.ofNat 32 j) 128#32)) 0#32)
          (IntOp.cmpi CmpIPredicate.slt (IntOp.subi (BitVec.ofNat 32 i) (IntOp.subi (BitVec.ofNat 32 j) 128#32))
            128#32))
        (IntOp.ori (IntOp.cmpi CmpIPredicate.sgt (BitVec.ofNat 32 n) 0#32)
          (IntOp.cmpi CmpIPredicate.sge (IntOp.subi (BitVec.ofNat 32 j) 128#32) 0#32)))
      a b = if ((j : ℕ) < 128 ∧ (i : ℕ) < j ∧ 0 < (n : ℕ)) ∨ (128 ≤ (j : ℕ) ∧ (j : ℕ) - 128 ≤ (i : ℕ)) then a else b := by
  have hi := i.isLt
  have hj := j.isLt
  have hn := n.isLt
  have e1 : (IntOp.subi (BitVec.ofNat 32 j) 128#32).toNat = (j + (2 ^ 32 - 128)) % 2 ^ 32 := by
    simp only [IntOp.subi, BitVec.toNat_sub, BitVec.toNat_ofNat]; omega
  have e2 : (IntOp.subi (BitVec.ofNat 32 i) (IntOp.subi (BitVec.ofNat 32 j) 128#32)).toNat = (i + 128 + (2 ^ 32 - j)) % 2 ^ 32 := by
    rw [IntOp.subi, BitVec.toNat_sub, e1]; simp only [BitVec.toNat_ofNat]; omega
  generalize IntOp.subi (BitVec.ofNat 32 i) (IntOp.subi (BitVec.ofNat 32 j) 128#32) = w2 at *
  generalize IntOp.subi (BitVec.ofNat 32 j) 128#32 = w1 at *
  have c1 : IntOp.cmpi CmpIPredicate.sge w2 0#32 = if (j : ℕ) ≤ i + 128 then 1#1 else 0#1 := by
    split <;> word_omega
  have c2 : IntOp.cmpi CmpIPredicate.slt w2 128#32 = if (i : ℕ) < j then 1#1 else 0#1 := by
    split <;> word_omega
  have c3 : IntOp.cmpi CmpIPredicate.sgt (BitVec.ofNat 32 (n : ℕ)) 0#32 = if 0 < (n : ℕ) then 1#1 else 0#1 := by
    split <;> word_omega
  have c4 : IntOp.cmpi CmpIPredicate.sge w1 0#32 = if 128 ≤ (j : ℕ) then 1#1 else 0#1 := by
    split <;> word_omega
  rw [c1, c2, c3, c4]
  split_ifs <;> first | rfl | (exfalso; omega)

end Cert.AttnMask

end
-- ==== Proof.AttnRef.lean ====
module

public import proofs.«01_k».proof.Proof.Gen.ReferenceIdeal.Run
public import proofs.«01_k».proof.Proof.AttnMath
public import proofs.«01_k».proof.Proof.AttnMask
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value

/-- Keys (or values) of each block, the block before it in front (zeros before a sequence's first block). -/
def KB (k : FVec Ideal S32768x128 .f32) : FVec Ideal S16x16x256x2x64 .f32 :=
  concatenate S16x16x256x2x64 2 [⟨S16x16x128x2x64, (concatenate S16x16x128x2x64 1 [⟨S16x1x128x2x64, (broadcastInDim S16x1x128x2x64 ![] bcast_S_S16x1x128x2x64 (constant S_ .f32 0x00000000#32))⟩, ⟨S16x15x128x2x64, (extractStridedSlice S16x15x128x2x64 ![0, 0, 0, 0, 0] (shapeCast _ k shapeCasts_S32768x128_S16x16x128x2x64) slices_S16x16x128x2x64_S16x15x128x2x64_0_0_0_0_0)⟩] concatenates_S16x1x128x2x64_S16x15x128x2x64_S16x16x128x2x64_d1)⟩, ⟨S16x16x128x2x64, (shapeCast _ k shapeCasts_S32768x128_S16x16x128x2x64)⟩] concatenates_S16x16x128x2x64_S16x16x128x2x64_S16x16x256x2x64_d2

/-- Which key of the two blocks a query may attend to. -/
def MK : IVec S16x1x1x128x256 1 :=
  (broadcastInDim S16x1x1x128x256 ![0, 3, 4] bcast_S16x128x256_S16x1x1x128x256_0_3_4 (andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (broadcastInDim S128x1 ![0] bcast_S128_S128x1_0 (iotaInDim S128 32 0))) (broadcastInDim S128x256 ![0, 1] bcast_S1x256_S128x256_0_1 (subi (broadcastInDim S1x256 ![1] bcast_S256_S1x256_1 (iotaInDim S256 32 0)) (broadcastInDim S1x256 ![] bcast_S_S1x256 (constantI S_ 32 128#32))))) (broadcastInDim S128x256 ![] bcast_S_S128x256 (constantI S_ 32 0#32))) (cmpi .slt (subi (broadcastInDim S128x256 ![0, 1] bcast_S128x1_S128x256_0_1 (broadcastInDim S128x1 ![0] bcast_S128_S128x1_0 (iotaInDim S128 32 0))) (broadcastInDim S128x256 ![0, 1] bcast_S1x256_S128x256_0_1 (subi (broadcastInDim S1x256 ![1] bcast_S256_S1x256_1 (iotaInDim S256 32 0)) (broadcastInDim S1x256 ![] bcast_S_S1x256 (constantI S_ 32 128#32))))) (broadcastInDim S128x256 ![] bcast_S_S128x256 (constantI S_ 32 128#32)))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (cmpi .sge (broadcastInDim S1x1x256 ![1, 2] bcast_S1x256_S1x1x256_1_2 (subi (broadcastInDim S1x256 ![1] bcast_S256_S1x256_1 (iotaInDim S256 32 0)) (broadcastInDim S1x256 ![] bcast_S_S1x256 (constantI S_ 32 128#32)))) (broadcastInDim S1x1x256 ![] bcast_S_S1x1x256 (constantI S_ 32 0#32))))))))

/-- The products of keys and queries. -/
def QK (kb : FVec Ideal S16x16x256x2x64 .f32) (q : FVec Ideal S32768x512 .f32) : FVec Ideal S16x16x2x256x128x4 .f32 :=
  Host.dotGeneral dot_S16x16x256x2x64_S16x16x128x2x4x64_S16x16x2x256x128x4_4_5_2_24_013_013 none kb (shapeCast _ q shapeCasts_S32768x512_S16x16x128x2x4x64)

/-- The masked scores. -/
def SC (qk : FVec Ideal S16x16x2x256x128x4 .f32) : FVec Ideal S16x16x2x4x128x256 .f32 :=
  select (broadcastInDim S16x16x2x4x128x256 ![1, 2, 3, 4, 5] bcast_S16x1x1x128x256_S16x16x2x4x128x256_1_2_3_4_5 MK) (mulf (transpose S16x16x2x4x128x256 [0, 1, 2, 5, 4, 3] qk transposes_S16x16x2x256x128x4_S16x16x2x4x128x256_0_1_2_5_4_3) (broadcastInDim S16x16x2x4x128x256 ![] bcast_S_S16x16x2x4x128x256 (constant S_ .f32 0x3E000000#32))) (broadcastInDim S16x16x2x4x128x256 ![] bcast_S_S16x16x2x4x128x256 (id (constant S_ .f32 0xFF800000#32)))

/-- The sinks against the rows. -/
def SK (s : FVec Ideal S8 .f32) : FVec Ideal S16x16x2x4x128x1 .f32 :=
  broadcastInDim S16x16x2x4x128x1 ![0, 1, 2, 3, 4, 5] bcast_S1x1x2x4x1x1_S16x16x2x4x128x1_0_1_2_3_4_5 (broadcastInDim S1x1x2x4x1x1 ![2, 3, 4, 5] bcast_S2x4x1x1_S1x1x2x4x1x1_2_3_4_5 (shapeCast _ s shapeCasts_S8_S2x4x1x1))

/-- The largest of a row's scores. -/
def RD (sc : FVec Ideal S16x16x2x4x128x256 .f32) : FVec Ideal S16x16x2x4x128 .f32 :=
  Host.reduce FloatOps.maximumf sc (constant S_ .f32 0xFF800000#32) reducesTo_S16x16x2x4x128x256_S16x16x2x4x128_d5 h_S_

/-- One number for each row, against the rows. -/
def BC (x : FVec Ideal S16x16x2x4x128 .f32) : FVec Ideal S16x16x2x4x128x1 .f32 :=
  broadcastInDim S16x16x2x4x128x1 ![0, 1, 2, 3, 4] bcast_S16x16x2x4x128_S16x16x2x4x128x1_0_1_2_3_4 x

/-- The largest of a row's scores and its sink. -/
def MX (sc : FVec Ideal S16x16x2x4x128x256 .f32) (s : FVec Ideal S8 .f32) : FVec Ideal S16x16x2x4x128x1 .f32 :=
  maximumf (BC (RD sc)) (SK s)

/-- The exponentials of the scores. -/
def PR (sc : FVec Ideal S16x16x2x4x128x256 .f32) (mx : FVec Ideal S16x16x2x4x128x1 .f32) : FVec Ideal S16x16x2x4x128x256 .f32 :=
  Host.exp (subf sc (broadcastInDim S16x16x2x4x128x256 ![0, 1, 2, 3, 4, 5] bcast_S16x16x2x4x128x1_S16x16x2x4x128x256_0_1_2_3_4_5 mx))

/-- The softmax's denominators. -/
def DN (pr : FVec Ideal S16x16x2x4x128x256 .f32) (mx : FVec Ideal S16x16x2x4x128x1 .f32) (s : FVec Ideal S8 .f32) : FVec Ideal S16x16x2x4x128x1 .f32 :=
  addf (broadcastInDim S16x16x2x4x128x1 ![0, 1, 2, 3, 4] bcast_S16x16x2x4x128_S16x16x2x4x128x1_0_1_2_3_4 (Host.reduceAdd pr (constant S_ .f32 0x00000000#32) reducesTo_S16x16x2x4x128x256_S16x16x2x4x128_d5 h_S_)) (Host.exp (subf (SK s) mx))

/-- The weighted values. -/
def PV (vb : FVec Ideal S16x16x256x2x64 .f32) (pr : FVec Ideal S16x16x2x4x128x256 .f32) (dn : FVec Ideal S16x16x2x4x128x1 .f32) : FVec Ideal S16x16x2x64x4x128 .f32 :=
  Host.dotGeneral dot_S16x16x256x2x64_S16x16x2x4x128x256_S16x16x2x64x4x128_2_5_4_34_013_012 none vb (Host.divf pr (broadcastInDim S16x16x2x4x128x256 ![0, 1, 2, 3, 4, 5] bcast_S16x16x2x4x128x1_S16x16x2x4x128x256_0_1_2_3_4_5 dn))

/-- The weighted values in the result's layout. -/
def OUT (pv : FVec Ideal S16x16x2x64x4x128 .f32) : FVec Ideal S32768x512 .bf16 :=
  truncf .bf16 (shapeCast _ (transpose S16x16x128x2x4x64 [0, 1, 5, 2, 4, 3] pv transposes_S16x16x2x64x4x128_S16x16x128x2x4x64_0_1_5_2_4_3) shapeCasts_S16x16x128x2x4x64_S32768x512) bitsLt_bf16_f32

/-- The reference's result as one term of its four arguments. -/
def REF (q : FVec Ideal S32768x512 .f32) (k v : FVec Ideal S32768x128 .f32) (s : FVec Ideal S8 .f32) : FVec Ideal S32768x512 .bf16 :=
  OUT (PV (KB v) (PR (SC (QK (KB k) q)) (MX (SC (QK (KB k) q)) s))
    (DN (PR (SC (QK (KB k) q)) (MX (SC (QK (KB k) q)) s)) (MX (SC (QK (KB k) q)) s) s))

/-- The reference's result is that term. -/
theorem res_eq (m : (ℓ : Loc nD τ sig) → Buf (Elt Ideal) ℓ) (c : Dev nD) :
    res_main_v68 m c = REF (m ((c.tc : Thread nD τ).loc main_arg0)) (m ((c.tc : Thread nD τ).loc main_arg1)) (m ((c.tc : Thread nD τ).loc main_arg2)) (m ((c.tc : Thread nD τ).loc main_arg3)) := rfl

/-- The indices that drop to a row's are its 256 columns. -/
theorem fiber (b n : Fin 16) (g : Fin 2) (r : Fin 4) (i : Fin 128) (x : S16x16x2x4x128x256.Idx) :
    reducesTo_S16x16x2x4x128x256_S16x16x2x4x128_d5.drop x = ix5 b n g r i ↔ ∃ j : Fin 256, ix6 b n g r i j = x := by
  constructor
  · intro e
    refine ⟨x 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨j, rfl⟩
    funext a; apply Fin.ext
    match a with
    | ⟨0, _⟩ => rfl
    | ⟨1, _⟩ => rfl
    | ⟨2, _⟩ => rfl
    | ⟨3, _⟩ => rfl
    | ⟨4, _⟩ => rfl

theorem ofBits_neg_inf : Ideal.ofBits .f32 0xFF800000#32 = ⊥ := by simp [Ideal.ofBits, Ideal.ieee]

theorem PV_at (vb pr dn) (b : Fin 16) (n : Fin 16) (g : Fin 2) (d : Fin 64) (r : Fin 4) (i : Fin 128) :
    PV vb pr dn (ix6 b n g d r i) = ∑ x : Fin 256, vb (ix5 b n x g d) * Ideal.div (pr (ix6 b n g r i x)) (dn (ix6 b n g r i 0)) := by
  pointwise [PV]

theorem DN_at (pr mx s) (b : Fin 16) (n : Fin 16) (g : Fin 2)  (r : Fin 4) (i : Fin 128) :
    DN pr mx s (ix6 b n g r i 0) = (∑ x : Fin 256, pr (ix6 b n g r i x)) + Ideal.exp (s (ix1 ⟨g * 4 + r, by omega⟩) - mx (ix6 b n g r i 0)) := by
  pointwise [DN, SK]
  congr 1
  unfold Ideal.hostReduceAdd
  rw [zero_add]
  exact Finset.sum_filter_eq_sum_of_fiber _ (fun j : Fin 256 => ix6 b n g r i j) (fun _ _ e => congrFun e 5) (fiber b n g r i) pr

/-- A reduction by the larger of two, over the indices that `e` lists. -/
theorem reduce_max {s t u : Shape} {axes : List (Fin s.rank)} {κ : Type} [Fintype κ] (x : FVec Ideal s .f32) (z : FVec Ideal u .f32)
    (h : s.ReducesTo axes t) (hu : 0 < u.numel) (hz : ∀ k, z k = (⊥ : EReal)) (j : t.Idx) (e : κ → s.Idx) (he : Function.Injective e)
    (fib : ∀ i, h.drop i = j ↔ ∃ k, e k = i) :
    Host.reduce FloatOps.maximumf x z h hu j = Finset.univ.fold max ⊥ fun k => x (e k) := by
  refine (Host.reduce_eq_fold (max : EReal → EReal → EReal) x z h hu j).trans ?_
  rw [hz]
  exact Finset.fold_filter_eq_fold_of_fiber max _ e he fib _ x

theorem RD_at (sc) (b : Fin 16) (n : Fin 16) (g : Fin 2) (r : Fin 4) (i : Fin 128) :
    RD sc (ix5 b n g r i) = Finset.univ.fold max ⊥ fun x : Fin 256 => sc (ix6 b n g r i x) := by
  have hz : ∀ k, constant (F := Ideal) S_ .f32 0xFF800000#32 k = (⊥ : EReal) := fun _ => ofBits_neg_inf
  have hinj : Function.Injective (fun j : Fin 256 => (ix6 b n g r i j : S16x16x2x4x128x256.Idx)) := fun _ _ e => congrFun e 5
  unfold RD
  exact reduce_max sc _ _ _ hz _ _ hinj (fiber b n g r i)

theorem maximumf_at {s : Shape} (a b : FVec Ideal s .f32) (i : s.Idx) : maximumf a b i = max (a i) (b i) := rfl

theorem BC_at (x) (b : Fin 16) (n : Fin 16) (g : Fin 2) (r : Fin 4) (i : Fin 128) : BC x (ix6 b n g r i 0) = x (ix5 b n g r i) := by
  pointwise [BC]

theorem SK_at (s) (b : Fin 16) (n : Fin 16) (g : Fin 2) (r : Fin 4) (i : Fin 128) :
    SK s (ix6 b n g r i 0) = s (ix1 ⟨g * 4 + r, by omega⟩) := by
  pointwise [SK]

theorem MX_at (sc s) (b : Fin 16) (n : Fin 16) (g : Fin 2)  (r : Fin 4) (i : Fin 128) :
    MX sc s (ix6 b n g r i 0) = max (Finset.univ.fold max ⊥ fun x : Fin 256 => sc (ix6 b n g r i x)) (s (ix1 ⟨g * 4 + r, by omega⟩)) := by
  rw [MX, maximumf_at, BC_at, SK_at, RD_at]

theorem PR_at (sc mx) (b : Fin 16) (n : Fin 16) (g : Fin 2)  (r : Fin 4) (i : Fin 128) (x : Fin 256) :
    PR sc mx (ix6 b n g r i x) = Ideal.exp (sc (ix6 b n g r i x) - mx (ix6 b n g r i 0)) := by
  pointwise [PR]

theorem SC_at (q) (b : Fin 16) (n : Fin 16) (g : Fin 2)  (r : Fin 4) (i : Fin 128) (j : Fin 256) :
    SC q (ix6 b n g r i j) = if ((j : ℕ) < 128 ∧ (i : ℕ) < j ∧ 0 < (n : ℕ)) ∨ (128 ≤ (j : ℕ) ∧ (j : ℕ) - 128 ≤ (i : ℕ))
      then q (ix6 b n g j i r) * Ideal.ofBits FTy.f32 0x3E000000#32 else ⊥ := by
  pointwise [SC, MK]
  rw [AttnMask.mask_at]
  congr 1

theorem QK_at (kb q) (b : Fin 16) (n : Fin 16) (g : Fin 2)  (r : Fin 4) (i : Fin 128) (j : Fin 256) :
    QK kb q (ix6 b n g j i r) = ∑ x : Fin 64, kb (ix5 b n j g x) * q (ix2 ⟨b * 2048 + n * 128 + i, by omega⟩ ⟨g * 256 + r * 64 + x, by omega⟩) := by
  pointwise [QK]

theorem OUT_at (pv) (R : Fin 32768) (C : Fin 512) :
    OUT pv (ix2 R C) = pv (ix6 ⟨R / 2048, by omega⟩ ⟨R / 128 % 16, by omega⟩ ⟨C / 256, by omega⟩ ⟨C % 64, by omega⟩ ⟨C / 64 % 4, by omega⟩ ⟨R % 128, by omega⟩) := by
  pointwise [OUT]

theorem KB_at (k) (b : Fin 16) (n : Fin 16) (g : Fin 2)  (d : Fin 64) (j : Fin 256) :
    KB k (ix5 b n j g d) = if h : (j : ℕ) < 128 then if h' : (n : ℕ) < 1 then 0 else k (ix2 ⟨b * 2048 + (n - 1) * 128 + j, by omega⟩ ⟨g * 64 + d, by omega⟩)
    else k (ix2 ⟨b * 2048 + n * 128 + (j - 128), by omega⟩ ⟨g * 64 + d, by omega⟩) := by
  pointwise [KB]

end Cert.ReferenceIdeal.Attn

end
-- ==== Proof.AttnRefSpec.lean ====
module

public import proofs.«01_k».proof.Proof.AttnRef
public import proofs.«01_k».proof.Proof.AttnSpec

@[expose] public section

set_option maxRecDepth 16384

noncomputable section

open Idealize.ShloMosaic Idealize.ShloMosaic.TcCoe Idealize.SL.Sem

namespace Cert.ReferenceIdeal.Attn

open Cert.AttnMath Cert.AttnSpec

/-- The reference's masked score of a key of the two blocks. -/
theorem ref_score (q : FVec Ideal S32768x512 .f32) (k : FVec Ideal S32768x128 .f32) (R : Fin 32768) (C : Fin 512) (J : Fin 256) :
    SC (QK (KB k) q) (ix6 ⟨R / 2048, by omega⟩ ⟨R / 128 % 16, by omega⟩ ⟨C / 256, by omega⟩ ⟨C / 64 % 4, by omega⟩ ⟨R % 128, by omega⟩ J)
      = if ((J : ℕ) < 128 ∧ (R : ℕ) % 128 < J ∧ 0 < (R : ℕ) / 128 % 16) ∨ (128 ≤ (J : ℕ) ∧ (J : ℕ) - 128 ≤ (R : ℕ) % 128)
        then score q k R ⟨C / 64, by omega⟩ ⟨J % 128, by omega⟩ else ⊥ := by
  rw [SC_at]
  simp only
  split_ifs with h
  · rw [QK_at]
    refine (scaled 64 _ _).trans ?_
    unfold score
    rw [if_pos (by unfold ok; simp only; omega)]
    refine Finset.sum_congr rfl fun d _ => ?_
    have hd := d.isLt
    have hR := R.isLt
    have hC := C.isLt
    rw [KB_at]
    have e1 : ∀ (a a' : Fin 32768) (b b' : Fin 512), a = a' → b = b' → q (ix2 a b) = q (ix2 a' b') := by rintro _ _ _ _ rfl rfl; rfl
    have e2 : ∀ (a a' : Fin 32768) (b b' : Fin 128), a = a' → b = b' → k (ix2 a b) = k (ix2 a' b') := by rintro _ _ _ _ rfl rfl; rfl
    congr 1
    · congr 1
      exact e1 _ _ _ _ (Fin.ext (by simp only; omega)) (Fin.ext (by simp only; omega))
    · rcases h with ⟨h1, h2, h3⟩ | ⟨h1, h2⟩
      · rw [dif_pos h1, dif_neg (by simp only; omega)]
        refine e2 _ _ _ _ ?_ (Fin.ext (by simp only; omega))
        unfold keyRow
        rw [if_neg (by simp only; omega)]
        exact Fin.ext (by simp only; omega)
      · rw [dif_neg (by omega)]
        refine e2 _ _ _ _ ?_ (Fin.ext (by simp only; omega))
        unfold keyRow
        rw [if_pos (by simp only; omega)]
        exact Fin.ext (by simp only; omega)
  · rfl

/-- The reference's value of a key that is in the window. -/
theorem ref_value (v : FVec Ideal S32768x128 .f32) (R : Fin 32768) (C : Fin 512) (J : Fin 256)
    (h : ((J : ℕ) < 128 ∧ (R : ℕ) % 128 < J) ∨ (128 ≤ (J : ℕ) ∧ (J : ℕ) - 128 ≤ (R : ℕ) % 128)) :
    KB v (ix5 ⟨R / 2048, by omega⟩ ⟨R / 128 % 16, by omega⟩ J ⟨C / 256, by omega⟩ ⟨C % 64, by omega⟩)
      = value v R ⟨C / 64, by omega⟩ ⟨C % 64, by omega⟩ ⟨J % 128, by omega⟩ := by
  have hR := R.isLt
  have hC := C.isLt
  have e2 : ∀ (a a' : Fin 32768) (b b' : Fin 128), a = a' → b = b' → v (ix2 a b) = v (ix2 a' b') := by rintro _ _ _ _ rfl rfl; rfl
  rw [KB_at]
  unfold value
  have hok : ok R ⟨J % 128, by omega⟩ ↔ (J : ℕ) % 128 ≤ (R : ℕ) % 128 ∨ 0 < (R : ℕ) / 128 % 16 := Iff.rfl
  rcases h with ⟨h1, h2⟩ | ⟨h1, h2⟩
  · rw [dif_pos h1]
    split_ifs with h3 h4 h4
    · exfalso; rw [hok] at h4; simp only at h3; omega
    · rfl
    · refine e2 _ _ _ _ ?_ (Fin.ext (by simp only; omega))
      unfold keyRow
      rw [if_neg (by simp only; omega)]
      have h5 : ¬ (R : ℕ) / 128 % 16 < 1 := h3
      exact Fin.ext (by simp only; omega)
    · exfalso; rw [hok] at h4; simp only at h3; omega
  · rw [dif_neg (by omega), if_pos (hok.2 (by omega))]
    refine e2 _ _ _ _ ?_ (Fin.ext (by simp only; omega))
    unfold keyRow
    rw [if_pos (by simp only; omega)]
    exact Fin.ext (by simp only; omega)

/-- The reference is the attention over the window. -/
theorem ref_eq (q : FVec Ideal S32768x512 .f32) (k v : FVec Ideal S32768x128 .f32) (s : FVec Ideal S8 .f32)
    (hq : ∀ i, ∃ x : ℝ, q i = (x : EReal)) (hk : ∀ i, ∃ x : ℝ, k i = (x : EReal)) (hs : ∀ i, ∃ x : ℝ, s i = (x : EReal))
    (R : Fin 32768) (C : Fin 512) :
    REF q k v s (ix2 R C) = attend q k v s R ⟨C / 64, by omega⟩ ⟨C % 64, by omega⟩ := by
  have hR := R.isLt
  have hC := C.isLt
  unfold REF
  rw [OUT_at, PV_at, DN_at]
  simp only [PR_at, MX_at]
  have eh : (⟨(⟨(C : ℕ) / 256, by omega⟩ : Fin 2) * 4 + (⟨(C : ℕ) / 64 % 4, by omega⟩ : Fin 4), by simp only; omega⟩ : Fin 8) = ⟨C / 64, by omega⟩ :=
    Fin.ext (by simp only; omega)
  rw [eh]
  obtain ⟨x, hx⟩ := hs (ix1 ⟨C / 64, by omega⟩)
  refine row_of_halves (fun J => SC (QK (KB k) q) (ix6 ⟨R / 2048, by omega⟩ ⟨R / 128 % 16, by omega⟩ ⟨C / 256, by omega⟩ ⟨C / 64 % 4, by omega⟩ ⟨R % 128, by omega⟩ J))
    (fun J => KB v (ix5 ⟨R / 2048, by omega⟩ ⟨R / 128 % 16, by omega⟩ J ⟨C / 256, by omega⟩ ⟨C % 64, by omega⟩)) _ _ _
    (score_ne_top q k hq hk R _) (by rw [hx]; exact EReal.coe_ne_top _) (by rw [hx]; exact EReal.coe_ne_bot _) fun j => ?_
  have hj := j.isLt
  have m1 : (⟨(⟨(j : ℕ), by omega⟩ : Fin 256) % 128, by omega⟩ : Fin 128) = j := Fin.ext (by simp only; omega)
  have m2 : (⟨(⟨128 + (j : ℕ), by omega⟩ : Fin 256) % 128, by omega⟩ : Fin 128) = j := Fin.ext (by simp only; omega)
  simp only [ref_score]
  by_cases hc : (j : ℕ) ≤ R % 128
  · refine Or.inl ⟨if_neg (by omega), ?_, ?_⟩
    · rw [if_pos (by omega), m2]
    · rw [ref_value v R C _ (Or.inr (by simp only; omega)), m2]
  · refine Or.inr ⟨if_neg (by omega), ?_, ?_⟩
    · by_cases hn : 0 < (R : ℕ) / 128 % 16
      · rw [if_pos (by omega), m1]
      · rw [if_neg (by omega)]
        unfold score
        rw [if_neg (by unfold ok; omega)]
    · rw [ref_value v R C _ (Or.inl (by simp only; omega)), m1]

end Cert.ReferenceIdeal.Attn

end
-- ==== Proof.AttnClaim.lean ====
module

public import proofs.«01_k».proof.Defs
public import proofs.«01_k».proof.Proof.AttnValue
public import proofs.«01_k».proof.Proof.AttnRefSpec
public import proofs.«01_k».proof.Proof.Gen.ReferenceIdeal
public import proofs.«01_k».proof.Proof.Gen.ReferenceIdeal.Run
public import proofs.«01_k».proof.Proof.Gen.Pre_scores_finite
public import Idealize.ShloMosaic.Lib.Claim

@[expose] public section

set_option maxRecDepth 16384

noncomputable section

open Idealize.ShloMosaic Idealize.ShloMosaic.TcCoe Idealize.SL.Sem

namespace Cert.Attn.Claims

/-- A value whose magnitude is below infinity is a real number. -/
theorem real_of_below (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = r := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | top => simp [Ideal.cmp] at h
  | coe r => exact ⟨r, rfl⟩

/-- The precondition, read: every query, key and sink is a real number. -/
theorem reals (q : FVec Ideal Cert.Pre_scores_finite.S32768x512 .f32) (k v : FVec Ideal Cert.Pre_scores_finite.S32768x128 .f32)
    (s : FVec Ideal Cert.Pre_scores_finite.S8 .f32)
    (h : (Cert.Pre_scores_finite.fn (F := Ideal) q k v s).1 = (fun _ => 1#1)
      ∧ (Cert.Pre_scores_finite.fn (F := Ideal) q k v s).2.1 = (fun _ => 1#1)
      ∧ (Cert.Pre_scores_finite.fn (F := Ideal) q k v s).2.2 = (fun _ => 1#1)) :
    (∀ i, ∃ r : ℝ, q i = r) ∧ (∀ i, ∃ r : ℝ, k i = r) ∧ ∀ i, ∃ r : ℝ, s i = r :=
  ⟨fun i => real_of_below _ (congrFun h.1 i), fun i => real_of_below _ (congrFun h.2.1 i), fun i => real_of_below _ (congrFun h.2.2 i)⟩

/-- The reference's result is the attention's, under the precondition. -/
theorem ref_spec (q : FVec Ideal Cert.Pre_scores_finite.S32768x512 .f32) (k v : FVec Ideal Cert.Pre_scores_finite.S32768x128 .f32)
    (s : FVec Ideal Cert.Pre_scores_finite.S8 .f32)
    (h : (Cert.Pre_scores_finite.fn (F := Ideal) q k v s).1 = (fun _ => 1#1)
      ∧ (Cert.Pre_scores_finite.fn (F := Ideal) q k v s).2.1 = (fun _ => 1#1)
      ∧ (Cert.Pre_scores_finite.fn (F := Ideal) q k v s).2.2 = (fun _ => 1#1)) :
    Cert.ReferenceIdeal.Attn.REF q k v s = Cert.KernelIdeal.Attn.spec q k v s := by
  obtain ⟨hq, hk, hs⟩ := reals q k v s h
  funext y
  obtain ⟨R, C, rfl⟩ : ∃ (R : Fin 32768) (C : Fin 512), y = ix2 R C := ⟨y 0, y 1, eq_ix2 y⟩
  exact Cert.ReferenceIdeal.Attn.ref_eq q k v s hq hk hs R C

/-- The attention kernel and the plain mathematics of the attention, run on the same queries, keys, values and sinks,
the queries, keys and sinks being real numbers, end with equal results over the extended reals. -/
theorem algebraic : Cert.algebraic_KernelIdeal_ReferenceIdeal_pre_scores_finite := by
  intro m g m' g' hpre hagree
  refine ⟨fun c => Cert.KernelIdeal.Attn.spec (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · run_from Cert.KernelIdeal.Gen.run_main m g
    exact Cert.KernelIdeal.Attn.final m c
  · refine (θ_run Cert.ReferenceIdeal.defs _ _).mono (fun r h c => ⟨(h c).1.trans ?_, (h c).2⟩) (Cert.ReferenceIdeal.Value.run m' g')
    rw [Cert.ReferenceIdeal.Attn.res_eq, (hagree c).1, (hagree c).2.1, (hagree c).2.2.1, (hagree c).2.2.2]
    exact ref_spec _ _ _ _ (hpre c)

end Cert.Attn.Claims

end
-- ==== Proof.InprojSpec.lean ====
module

public import proofs.«01_k».proof.Proof.Gen.InprojIdeal.Launch
public import Idealize.ShloMosaic.Lib.Pointwise

@[expose] public section

set_option maxRecDepth 16384

noncomputable section

open Idealize.ShloMosaic Idealize.ShloMosaic.TcCoe Idealize.SL.Sem

namespace Cert.InprojSpec

open Cert.InprojIdeal Cert.InprojIdeal.Gen

/-- What is added to a mean square. -/
abbrev eps : EReal := Ideal.ofBits .f32 0x358637BD#32
/-- The scale of the queries. -/
abbrev sc : EReal := Ideal.ofBits .f32 0x3E000000#32

/-- A token's row `x`, normalised and weighted by `n`. -/
def xn (x n : Fin 1024 → EReal) (j : Fin 1024) : EReal :=
  x j * Ideal.rsqrt (Ideal.div (∑ k, x k * x k) (Ideal.ofBits .f32 0x44800000#32) + eps) * n j

/-- A token's projection. -/
def proj (x n : Fin 1024 → EReal) (w : Fin 1024 → Fin 2312 → EReal) (c : Fin 2312) : EReal := ∑ j, xn x n j * w j c

/-- The reciprocal root of the mean square of head `h` of the ten of queries and keys. -/
def inv (p : Fin 2312 → EReal) (h : Fin 10) : EReal :=
  Ideal.rsqrt (Ideal.div (∑ e : Fin 64, p ⟨h * 64 + e, by omega⟩ * p ⟨h * 64 + e, by omega⟩) (Ideal.ofBits .f32 0x42800000#32) + eps)

/-- The weights of the head norms: the queries' in eight heads, the keys' in two. -/
def gain (qg kg : Fin 64 → EReal) (c : Fin 640) : EReal :=
  if (c : ℕ) < 512 then qg ⟨c % 64, by omega⟩ else kg ⟨c % 64, by omega⟩

/-- The queries and keys, normalised head by head. -/
def nrm (p : Fin 2312 → EReal) (g : Fin 640 → EReal) (c : Fin 640) : EReal :=
  p ⟨c, by omega⟩ * inv p ⟨c / 64, by omega⟩ * g c

/-- The queries and keys, turned by their position's angles. -/
def rot (u : Fin 640 → EReal) (co si : Fin 32 → EReal) (c : Fin 640) : EReal :=
  if h : (c : ℕ) % 64 < 32
    then u c * co ⟨c % 64, h⟩ - u ⟨c + 32, by omega⟩ * si ⟨c % 64, h⟩
    else u c * co ⟨c % 64 - 32, by omega⟩ + u ⟨c - 32, by omega⟩ * si ⟨c % 64 - 32, by omega⟩

/-- The angles of positions and frequencies. -/
def ANG : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- Their cosines. -/
def CS : FVec Ideal S2048x32 .f32 := Host.cos ANG
/-- Their sines. -/
def SN : FVec Ideal S2048x32 .f32 := Host.sin ANG

/-- The projection of token `l` of sequence `b`. -/
def tok (x : FVec Ideal S16x2048x1024 .f32) (n : FVec Ideal S1x1024 .f32) (w : FVec Ideal S1x1024x2312 .f32) (b : Fin 16) (l : Fin 2048) : Fin 2312 → EReal :=
  proj (fun j => x (ix3 b l j)) (fun j => n (ix2 0 j)) (fun j c => w (ix3 0 j c))

/-- The weights of the head norms, read in their two arrays. -/
def gains (qg kg : FVec Ideal S1x64 .f32) : Fin 640 → EReal := gain (fun d => qg (ix2 0 d)) (fun d => kg (ix2 0 d))

/-- The turned queries and keys of token `l` of sequence `b`. -/
def qk (x : FVec Ideal S16x2048x1024 .f32) (n : FVec Ideal S1x1024 .f32) (w : FVec Ideal S1x1024x2312 .f32) (qg kg : FVec Ideal S1x64 .f32)
    (b : Fin 16) (l : Fin 2048) (c : Fin 640) : EReal :=
  rot (nrm (tok x n w b l) (gains qg kg)) (fun f => CS (ix2 l f)) (fun f => SN (ix2 l f)) c

/-- The sequence of a token in the flat order. -/
abbrev sq (R : Fin 32768) : Fin 16 := ⟨R / 2048, by omega⟩
/-- The position of a token in the flat order. -/
abbrev ps (R : Fin 32768) : Fin 2048 := ⟨R % 2048, by omega⟩

variable (x : FVec Ideal S16x2048x1024 .f32) (n : FVec Ideal S1x1024 .f32) (w : FVec Ideal S1x1024x2312 .f32) (qg kg : FVec Ideal S1x64 .f32)

/-- The queries, turned and scaled. -/
def QA : FVec Ideal S32768x512 .bf16 := fun y => qk x n w qg kg (sq (y 0)) (ps (y 0)) ⟨(y 1).val, by have h : (y 1).val < 512 := (y 1).isLt; omega⟩ * sc
/-- The keys, turned. -/
def KA : FVec Ideal S32768x128 .f32 := fun y => qk x n w qg kg (sq (y 0)) (ps (y 0)) ⟨512 + (y 1).val, by have h : (y 1).val < 128 := (y 1).isLt; omega⟩
/-- The values. -/
def VA : FVec Ideal S32768x128 .f32 := fun y => tok x n w (sq (y 0)) (ps (y 0)) ⟨640 + (y 1).val, by have h : (y 1).val < 128 := (y 1).isLt; omega⟩
/-- The gates. -/
def ZA : FVec Ideal S32768x512 .f32 := fun y => tok x n w (sq (y 0)) (ps (y 0)) ⟨768 + (y 1).val, by have h : (y 1).val < 512 := (y 1).isLt; omega⟩
/-- The convolution's inputs. -/
def XA : FVec Ideal S32768x1024 .f32 := fun y => tok x n w (sq (y 0)) (ps (y 0)) ⟨1280 + (y 1).val, by have h : (y 1).val < 1024 := (y 1).isLt; omega⟩
/-- The step sizes, in eight of 128 lanes. -/
def DA : FVec Ideal S32768x128 .f32 := fun y => if h : (y 1).val < 8 then tok x n w (sq (y 0)) (ps (y 0)) ⟨2304 + (y 1).val, by omega⟩ else 0

/-- The last 128 rows of each sequence, by heads. -/
def window (k : FVec Ideal S32768x128 .f32) : FVec Ideal S1x16x128x2x64 .f32 :=
  broadcastInDim S1x16x128x2x64 ![1, 2, 3, 4] bcast_S16x128x2x64_S1x16x128x2x64_1_2_3_4 (extractStridedSlice S16x128x2x64 ![0, 1920, 0, 0] (shapeCast _ k shapeCasts_S32768x128_S16x2048x2x64) slices_S16x2048x2x64_S16x128x2x64_0_1920_0_0)
/-- The last three rows of each sequence. -/
def lastRows (k : FVec Ideal S32768x1024 .f32) : FVec Ideal S1x16x3x1024 .f32 :=
  broadcastInDim S1x16x3x1024 ![1, 2, 3] bcast_S16x3x1024_S1x16x3x1024_1_2_3 (extractStridedSlice S16x3x1024 ![0, 2045, 0] (shapeCast _ k shapeCasts_S32768x1024_S16x2048x1024) slices_S16x2048x1024_S16x3x1024_0_2045_0)

end Cert.InprojSpec

end
-- ==== Proof.InprojKer.lean ====
module

public import proofs.«01_k».proof.Proof.Gen.InprojIdeal.Frame
public import proofs.«01_k».proof.Proof.InprojSpec
public import Idealize.ShloMosaic.Lib.Pointwise
public import Idealize.ShloMosaic.Lib.WordCmp
public import Idealize.ShloMosaic.Lib.KernelVsHost
public import Idealize.ShloMosaic.Lib.Tactic.WordOmega

@[expose] public section

set_option maxRecDepth 16384

noncomputable section

open Idealize.ShloMosaic Idealize.ShloMosaic.TcCoe Idealize.SL.Sem

namespace Cert.InprojIdeal.Inproj

open Cert.InprojIdeal Cert.InprojIdeal.Gen Cert.InprojSpec

/-- The normalised rows of a block. -/
theorem pay5_at (x : FVec Ideal S512x1024 .f32) (n : FVec Ideal S1x1024 .f32) (r : Fin 512) (j : Fin 1024) :
    k0_pay5 (F := Ideal) x n (ix2 r j) = xn (fun j => x (ix2 r j)) (fun j => n (ix2 0 j)) j := by
  unfold xn
  pointwise [k0_pay5]

theorem pay6_at (x : FVec Ideal S512x1024 .f32) (n : FVec Ideal S1x1024 .f32) (w : FVec Ideal S1024x128 .bf16) (r : Fin 512) (c : Fin 128) :
    k0_pay6 (F := Ideal) x n w (ix2 r c) = ∑ j, xn (fun j => x (ix2 r j)) (fun j => n (ix2 0 j)) j * w (ix2 j c) := by
  pointwise [k0_pay6, pay5_at]

theorem pay7_at (x : FVec Ideal S512x1024 .f32) (n : FVec Ideal S1x1024 .f32) (w : FVec Ideal S1024x512 .bf16) (r : Fin 512) (c : Fin 512) :
    k0_pay7 (F := Ideal) x n w (ix2 r c) = ∑ j, xn (fun j => x (ix2 r j)) (fun j => n (ix2 0 j)) j * w (ix2 j c) := by
  pointwise [k0_pay7, pay5_at]

theorem pay8_at (x : FVec Ideal S512x1024 .f32) (n : FVec Ideal S1x1024 .f32) (w : FVec Ideal S1024x1024 .bf16) (r : Fin 512) (c : Fin 1024) :
    k0_pay8 (F := Ideal) x n w (ix2 r c) = ∑ j, xn (fun j => x (ix2 r j)) (fun j => n (ix2 0 j)) j * w (ix2 j c) := by
  pointwise [k0_pay8, pay5_at]

theorem pay10_at (x : FVec Ideal S512x1024 .bf16) (w : FVec Ideal S1024x128 .bf16) (r : Fin 512) (c : Fin 128) :
    k0_pay10 (F := Ideal) x (k0_pay9 w) (constant S512x128 .f32 0x00000000#32) (ix2 r c) = ∑ j, x (ix2 r j) * w (ix2 j c) := by
  pointwise [k0_pay10, k0_pay9]

theorem pay14_at (r : Fin 512) (c : Fin 128) : k0_pay14 (ix2 r c) = if (c : ℕ) % 64 < 32 then 1#1 else 0#1 := by
  pointwise [k0_pay14]
  revert c; decide +kernel

/-- A block rotated along its lanes. -/
theorem rotate (s : BitVec 32) (n : ℕ) (hs : s.toNat = n) (hn : n < 128) (x : FVec Ideal S512x128 .f32) (r : Fin 512) (c : Fin 128) :
    dynamicRotate 1 s none x rotates_S512x128_d1 (ix2 r c) = x (ix2 r ⟨(c + 128 - n) % 128, by omega⟩) := by
  refine dynamicRotate_apply (1 : Fin 2) s x rotates_S512x128_d1 _ _ fun b => ?_
  match b with
  | ⟨0, _⟩ => rfl
  | ⟨1, _⟩ =>
    show ((c : ℕ) + 128 - n) % 128 = (c + 128 - s.toNat % 128) % 128
    rw [hs, Nat.mod_eq_of_lt hn]

/-- The turned block: each lane by its cosine, and its partner half a head away by its signed sine. -/
def turn (x co si : FVec Ideal S512x128 .f32) : FVec Ideal S512x128 .f32 :=
  addf (mulf x co) (mulf (select k0_pay14 (dynamicRotate 1 96#32 none x rotates_S512x128_d1) (dynamicRotate 1 32#32 none x rotates_S512x128_d1)) si)

theorem turn_at (x co si : FVec Ideal S512x128 .f32) (r : Fin 512) (c : Fin 128) :
    turn x co si (ix2 r c) = x (ix2 r c) * co (ix2 r c)
      + (if h : (c : ℕ) % 64 < 32 then x (ix2 r ⟨c + 32, by omega⟩) else x (ix2 r ⟨c - 32, by omega⟩)) * si (ix2 r c) := by
  have e : select k0_pay14 (dynamicRotate 1 96#32 none x rotates_S512x128_d1) (dynamicRotate 1 32#32 none x rotates_S512x128_d1) (ix2 r c)
      = if h : (c : ℕ) % 64 < 32 then x (ix2 r ⟨c + 32, by omega⟩) else x (ix2 r ⟨c - 32, by omega⟩) := by
    show Scalar.select (k0_pay14 (ix2 r c)) _ _ = _
    rw [rotate 96#32 96 rfl (by omega), rotate 32#32 32 rfl (by omega), pay14_at]
    have hc := c.isLt
    by_cases h : (c : ℕ) % 64 < 32
    · rw [if_pos h, dif_pos h]
      show x _ = x _
      exact congrArg x ((ix2_inj ..).2 ⟨rfl, Fin.ext (by show ((c : ℕ) + 128 - 96) % 128 = c + 32; omega)⟩)
    · rw [if_neg h, dif_neg h]
      show x _ = x _
      exact congrArg x ((ix2_inj ..).2 ⟨rfl, Fin.ext (by show ((c : ℕ) + 128 - 32) % 128 = c - 32; omega)⟩)
  show x (ix2 r c) * co (ix2 r c) + _ * si (ix2 r c) = _
  rw [e]

theorem eps_real : ∃ e : ℝ, 0 < e ∧ eps = (e : EReal) := by
  refine ⟨8796093 * 2 ^ (-43 : ℤ), by positivity, ?_⟩
  simp [eps, Ideal.ofBits, Ideal.ieee]

theorem sixtyfour : Ideal.ofBits .f32 0x42800000#32 = ((64 : ℝ) : EReal) := by
  simp [Ideal.ofBits, Ideal.ieee]
  rw [← EReal.coe_mul]; norm_num

theorem sixtyfourth : Ideal.ofBits .f32 0x3C800000#32 = ((1 / 64 : ℝ) : EReal) := by
  simp [Ideal.ofBits, Ideal.ieee]
  rw [← EReal.coe_mul]; norm_num

/-- A sixty-fourth of a number is its quotient by sixty-four. -/
theorem mul_sixtyfourth (x : EReal) : x * Ideal.ofBits .f32 0x3C800000#32 = Ideal.div x (Ideal.ofBits .f32 0x42800000#32) := by
  rw [sixtyfour, sixtyfourth, Ideal.div, if_neg (by norm_num)]
  rw [← EReal.coe_inv]; norm_num

/-- A sum over the columns of one head. -/
theorem head_sum (a : Fin 640 → EReal) (h : Fin 10) :
    ∑ k : Fin 640, a k * (if (k : ℕ) / 64 = h then 1 else 0) = ∑ e : Fin 64, a ⟨h * 64 + e, by omega⟩ := by
  simp only [mul_ite, mul_one, mul_zero]
  rw [← Finset.sum_filter]
  symm
  refine Finset.sum_nbij (fun e : Fin 64 => (⟨h * 64 + e, by omega⟩ : Fin 640)) ?_ ?_ ?_ ?_
  · intro e _; simp only [Finset.mem_filter, Finset.mem_univ, true_and]; omega
  · intro e _ e' _ he; have := congrArg Fin.val he; simp only at this; exact Fin.ext (by omega)
  · intro k hk
    have hk := (Finset.mem_filter.1 hk).2
    exact ⟨⟨k % 64, by omega⟩, Finset.mem_univ _, Fin.ext (by show (h : ℕ) * 64 + k % 64 = k; omega)⟩
  · intro e _; rfl

/-- A sum of real numbers is one. -/
theorem coe_sum {κ : Type} [Fintype κ] (f : κ → ℝ) : ((∑ k, f k : ℝ) : EReal) = ∑ k, (f k : EReal) := by
  classical
  refine Finset.induction_on (Finset.univ : Finset κ) (by simp) fun a t ha ih => ?_
  rw [Finset.sum_insert ha, Finset.sum_insert ha, EReal.coe_add, ih]

/-- The head norms through the two one-hot products, each in two parts of which the low one is zero. -/
theorem head_norm (p : Fin 640 → EReal) (hp : ∀ k, ∃ f : ℝ, p k = f) (red : Fin 640 → Fin 128 → EReal) (ex : Fin 128 → EReal) (c : Fin 640)
    (hred : ∀ k h, red k h = if (k : ℕ) / 64 = h then 1 else 0) (hex : ∀ h : Fin 128, ex h = if (c : ℕ) / 64 = h then 1 else 0) :
    (∑ x, Ideal.rsqrt ((∑ k, p k * p k * red k x + ∑ k, (p k * p k - p k * p k) * red k x) * Ideal.ofBits .f32 0x3C800000#32 + eps) * ex x
      + ∑ x, (Ideal.rsqrt ((∑ k, p k * p k * red k x + ∑ k, (p k * p k - p k * p k) * red k x) * Ideal.ofBits .f32 0x3C800000#32 + eps)
          - Ideal.rsqrt ((∑ k, p k * p k * red k x + ∑ k, (p k * p k - p k * p k) * red k x) * Ideal.ofBits .f32 0x3C800000#32 + eps)) * ex x)
      = Ideal.rsqrt (Ideal.div (∑ e : Fin 64, p ⟨(c / 64 : ℕ) * 64 + e, by omega⟩ * p ⟨(c / 64 : ℕ) * 64 + e, by omega⟩) (Ideal.ofBits .f32 0x42800000#32) + eps) := by
  choose f hf using hp
  have z : ∀ k, p k * p k - p k * p k = 0 := by
    intro k; rw [hf k, ← EReal.coe_mul, ← EReal.coe_sub, sub_self, EReal.coe_zero]
  simp only [z, zero_mul, Finset.sum_const_zero, add_zero]
  have hR : ∀ x, ∃ y : ℝ, Ideal.rsqrt ((∑ k, p k * p k * red k x) * Ideal.ofBits .f32 0x3C800000#32 + eps) = y := by
    intro x
    obtain ⟨e, he, ee⟩ := eps_real
    have hs : ∑ k, p k * p k * red k x = ((∑ k, f k * f k * (if (k : ℕ) / 64 = x then 1 else 0) : ℝ) : EReal) := by
      rw [coe_sum]
      refine Finset.sum_congr rfl fun k _ => ?_
      rw [hf k, hred, EReal.coe_mul, EReal.coe_mul]
      congr 1
      split <;> rfl
    have h0 : (0 : ℝ) ≤ ∑ k, f k * f k * (if (k : ℕ) / 64 = x then 1 else 0) :=
      Finset.sum_nonneg fun k _ => mul_nonneg (mul_self_nonneg _) (by split <;> norm_num)
    rw [hs, sixtyfourth, ee, ← EReal.coe_mul, ← EReal.coe_add, Ideal.rsqrt_coe]
    have h1 := mul_nonneg h0 (by norm_num : (0 : ℝ) ≤ 1 / 64)
    rw [if_neg (by linarith), if_neg (by linarith)]
    exact ⟨_, rfl⟩
  have zz : ∀ x, Ideal.rsqrt ((∑ k, p k * p k * red k x) * Ideal.ofBits .f32 0x3C800000#32 + eps)
      - Ideal.rsqrt ((∑ k, p k * p k * red k x) * Ideal.ofBits .f32 0x3C800000#32 + eps) = 0 := by
    intro x; obtain ⟨y, hy⟩ := hR x; rw [hy, ← EReal.coe_sub, sub_self, EReal.coe_zero]
  simp only [zz, zero_mul, Finset.sum_const_zero, add_zero]
  rw [Finset.sum_eq_single (⟨c / 64, by omega⟩ : Fin 128)]
  · rw [hex, if_pos rfl, mul_one, mul_sixtyfourth]
    congr 3
    simp only [hred]
    exact head_sum (fun k => p k * p k) ⟨c / 64, by omega⟩
  · intro x _ hx
    rw [hex, if_neg (fun e => hx (Fin.ext e.symm)), mul_zero]
  · intro h; exact absurd (Finset.mem_univ _) h

/-- The queries and keys of a block, normalised head by head. -/
theorem pay11_at (xb : FVec Ideal S512x1024 .bf16) (w : FVec Ideal S1024x640 .bf16) (red : FVec Ideal S640x128 .bf16) (ex : FVec Ideal S128x640 .bf16)
    (g : FVec Ideal S1x640 .f32) (r : Fin 512) (c : Fin 640) (P : Fin 2312 → EReal) (hP : ∀ k : Fin 640, ∑ j, xb (ix2 r j) * w (ix2 j k) = P ⟨k, by omega⟩)
    (hr : ∀ k : Fin 640, ∃ f : ℝ, P ⟨k, by omega⟩ = f) (hred : ∀ k h, red (ix2 k h) = if (k : ℕ) / 64 = h then 1 else 0)
    (hex : ∀ h c, ex (ix2 h c) = if (c : ℕ) / 64 = h then 1 else 0) (G : Fin 640 → EReal) (hg : ∀ c, g (ix2 0 c) = G c) :
    k0_pay11 (F := Ideal) xb w red red ex ex g (ix2 r c) = nrm P G c := by
  pointwise [k0_pay11]
  simp only [hP]
  rw [hg]
  unfold nrm InprojSpec.inv
  congr 2
  exact head_norm (fun k => P ⟨k, by omega⟩) (fun k => hr _) (fun k h => red (ix2 k h)) (fun h => ex (ix2 h c)) c hred (fun h => hex h c)

end Cert.InprojIdeal.Inproj

end
-- ==== Proof.InprojValue.lean ====
module

public import proofs.«01_k».proof.Proof.InprojKer
public import Idealize.ShloMosaic.Lib.Pointwise
public import Idealize.ShloMosaic.Lib.WordCmp
public import Idealize.ShloMosaic.Lib.Pipeline.ValueKit
public import Idealize.ShloMosaic.Lib.Pipeline.FrameTail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Inproj

open Cert.InprojIdeal Cert.InprojIdeal.Gen Cert.InprojSpec

variable (m : (ℓ : Loc nD τ sig) → Buf (Elt Ideal) ℓ)

/-- The tokens. -/
abbrev Ax (c : Dev nD) : FVec Ideal S16x2048x1024 .f32 := m ((c : Thread nD τ).loc main_arg0)
/-- The first norm's weights. -/
abbrev An (c : Dev nD) : FVec Ideal S1x1024 .f32 := m ((c : Thread nD τ).loc main_arg1)
/-- The projection's weights. -/
abbrev Aw (c : Dev nD) : FVec Ideal S1x1024x2312 .f32 := m ((c : Thread nD τ).loc main_arg2)
/-- The query norm's weights. -/
abbrev Aq (c : Dev nD) : FVec Ideal S1x64 .f32 := m ((c : Thread nD τ).loc main_arg3)
/-- The key norm's weights. -/
abbrev Ak (c : Dev nD) : FVec Ideal S1x64 .f32 := m ((c : Thread nD τ).loc main_arg4)

theorem V_x (c : Dev nD) (R : Fin 32768) (j : Fin 1024) : (show FVec Ideal S32768x1024 .f32 from V m c main_v35) (ix2 R j) = Ax m c (ix3 (sq R) (ps R) j) := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

theorem V_n (c : Dev nD) (j : Fin 1024) : (show FVec Ideal S1x1024 .f32 from V m c main_v4) (ix2 0 j) = An m c (ix2 0 j) := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

theorem V_wqk (c : Dev nD) (j : Fin 1024) (k : Fin 640) : (show FVec Ideal S1024x640 .bf16 from V m c main_v6) (ix2 j k) = Aw m c (ix3 0 j ⟨k, by omega⟩) := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

theorem V_wv (c : Dev nD) (j : Fin 1024) (k : Fin 128) : (show FVec Ideal S1024x128 .bf16 from V m c main_v8) (ix2 j k) = Aw m c (ix3 0 j ⟨640 + k, by omega⟩) := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

theorem V_wz (c : Dev nD) (j : Fin 1024) (k : Fin 512) : (show FVec Ideal S1024x512 .bf16 from V m c main_v10) (ix2 j k) = Aw m c (ix3 0 j ⟨768 + k, by omega⟩) := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

theorem V_wxbc (c : Dev nD) (j : Fin 1024) (k : Fin 1024) : (show FVec Ideal S1024x1024 .bf16 from V m c main_v12) (ix2 j k) = Aw m c (ix3 0 j ⟨1280 + k, by omega⟩) := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

theorem V_wdt (c : Dev nD) (j : Fin 1024) (k : Fin 128) : (show FVec Ideal S1024x128 .bf16 from V m c main_v15) (ix2 j k)
    = if h : (k : ℕ) < 8 then Aw m c (ix3 0 j ⟨2304 + k, by omega⟩) else 0 := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise
  rw [show FloatOps.sitofp (F := Ideal) FTy.f32 0#32 = 0 from by show (((0#32 : BitVec 32).toInt : ℝ) : EReal) = 0; simp]

/-- The head of a column, as the words compute it. -/
theorem head_word : ∀ k : Fin 640, Scalar.select
          (IntOp.andi
            (IntOp.cmpi CmpIPredicate.ne
              (if BitVec.ofNat 32 ↑k = 0 then (0 : BitVec 32) else if (BitVec.ofNat 32 ↑k).msb = true then -1 else 1)
              (if 64#32 = 0 then 0 else if BitVec.msb 64#32 = true then -1 else 1))
            (IntOp.cmpi CmpIPredicate.ne
              (IntOp.remsi ArithUnit.host (BitVec.ofNat 32 ↑k) 64#32) 0#32))
          (IntOp.subi (IntOp.divsi ArithUnit.host (BitVec.ofNat 32 ↑k) 64#32) 1#32)
          (IntOp.divsi ArithUnit.host (BitVec.ofNat 32 ↑k) 64#32) = BitVec.ofNat 32 (k / 64) := by decide +kernel

/-- Column `k` is of head `h`: one, or zero. -/
theorem onehot (k : Fin 640) (h : Fin 128) : (FloatOps.uitofp (F := Ideal) FTy.bf16
      (IntOp.cmpi CmpIPredicate.eq
        (Scalar.select
          (IntOp.andi
            (IntOp.cmpi CmpIPredicate.ne
              (if BitVec.ofNat 32 ↑k = 0 then (0 : BitVec 32) else if (BitVec.ofNat 32 ↑k).msb = true then -1 else 1)
              (if 64#32 = 0 then 0 else if BitVec.msb 64#32 = true then -1 else 1))
            (IntOp.cmpi CmpIPredicate.ne
              (IntOp.remsi ArithUnit.host (BitVec.ofNat 32 ↑k) 64#32) 0#32))
          (IntOp.subi (IntOp.divsi ArithUnit.host (BitVec.ofNat 32 ↑k) 64#32) 1#32)
          (IntOp.divsi ArithUnit.host (BitVec.ofNat 32 ↑k) 64#32))
        (BitVec.ofNat 32 ↑h)) : EReal) = if (k : ℕ) / 64 = h then 1 else 0 := by
  rw [head_word]
  have hk := k.isLt
  have hh := h.isLt
  by_cases e : (k : ℕ) / 64 = h
  · rw [if_pos e, e, show IntOp.cmpi CmpIPredicate.eq (BitVec.ofNat 32 (h : ℕ)) (BitVec.ofNat 32 (h : ℕ)) = 1#1 by simp [IntOp.cmpi]]
    show (((1#1 : BitVec 1).toNat : ℝ) : EReal) = 1
    simp
  · rw [if_neg e, show IntOp.cmpi CmpIPredicate.eq (BitVec.ofNat 32 ((k : ℕ) / 64)) (BitVec.ofNat 32 (h : ℕ)) = 0#1 by word_omega]
    show (((0#1 : BitVec 1).toNat : ℝ) : EReal) = 0
    simp

theorem V_qkn (c : Dev nD) (k : Fin 640) : (show FVec Ideal S1x640 .f32 from V m c main_v23) (ix2 0 k) = gains (Aq m c) (Ak m c) k := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise []
  after_results_simp
  pointwise [gains, gain]
  by_cases h : (k : ℕ) < 512
  · rw [dif_pos h, if_pos h]
  · rw [dif_neg h, if_neg h]
    exact congrArg (Ak m c) ((ix2_inj ..).2 ⟨rfl, Fin.ext (by show ((k : ℕ) - 512) % 64 = k % 64; omega)⟩)

theorem V_cos (c : Dev nD) (l : Fin 2048) (k : Fin 128) : (show FVec Ideal S2048x128 .f32 from V m c main_v59) (ix2 l k) = CS (ix2 l ⟨k % 32, by omega⟩) := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise []
  after_results_simp
  pointwise [CS, ANG]
  by_cases h : (k : ℕ) % 64 < 32
  · rw [dif_pos h, show (k : ℕ) % 32 = k % 64 by omega]
  · rw [dif_neg h, show (k : ℕ) % 32 = k % 64 - 32 by omega]

theorem V_sin (c : Dev nD) (l : Fin 2048) (k : Fin 128) : (show FVec Ideal S2048x128 .f32 from V m c main_v64) (ix2 l k)
    = if (k : ℕ) % 64 < 32 then - SN (ix2 l ⟨k % 32, by omega⟩) else SN (ix2 l ⟨k % 32, by omega⟩) := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise []
  after_results_simp
  pointwise [SN, ANG]
  by_cases h : (k : ℕ) % 64 < 32
  · rw [dif_pos h, if_pos h, show (k : ℕ) % 32 = k % 64 by omega]
  · rw [dif_neg h, if_neg h, show (k : ℕ) % 32 = k % 64 - 32 by omega]

theorem V_red (c : Dev nD) (k : Fin 640) (h : Fin 128) : (show FVec Ideal S640x128 .bf16 from V m c main_v32) (ix2 k h) = if (k : ℕ) / 64 = h then 1 else 0 := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise
  exact onehot k h

theorem V_exp (c : Dev nD) (k : Fin 640) (h : Fin 128) : (show FVec Ideal S128x640 .bf16 from V m c main_v34) (ix2 h k) = if (k : ℕ) / 64 = h then 1 else 0 := by
  unfold V V0
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise
  exact onehot k h

end Cert.InprojIdeal.Inproj

end
-- ==== Proof.InprojBlocks.lean ====
module

public import proofs.«01_k».proof.Proof.InprojValue

@[expose] public section

set_option maxRecDepth 16384

noncomputable section

open Idealize.ShloMosaic Idealize.ShloMosaic.TcCoe Idealize.SL.Sem
open Idealize.ShloMosaic.Pipeline (Dat)

namespace Cert.InprojIdeal.Inproj

open Cert.InprojIdeal Cert.InprojIdeal.Gen Cert.InprojSpec

variable (m : (ℓ : Loc nD τ sig) → Buf (Elt Ideal) ℓ)

/-- The token that row `r` of the point's block is. -/
def row (t : Fin cfg0.N) (r : Fin 512) : Fin 32768 :=
  ⟨t.val * 512 + r, by have h := lt_of_lt_of_eq t.isLt N_0; omega⟩

/-- The windows' block indices. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val % 4, 0]
    ∧ win0_9.index t = ![t.val % 4, 0] ∧ win0_10.index t = ![0, 0] ∧ win0_11.index t = ![0, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![t.val % 4, 0]
    ∧ win0_9.index t = ![t.val % 4, 0] ∧ win0_10.index t = ![0, 0] ∧ win0_11.index t = ![0, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0])

/-- The blocks of the point, read in the arguments. -/
theorem b_x (c : Dev nD) (t : Fin cfg0.N) (r : Fin 512) (j : Fin 1024) : (show FVec Ideal S512x1024 .f32 from iblk m c 0 t) (ix2 r j) = Ax m c (ix3 (sq (row t r)) (ps (row t r)) j) := by
  rw [← V_x]; unfold row; blk_ext [iblk, idx t]

theorem b_n (c : Dev nD) (t : Fin cfg0.N) (j : Fin 1024) : (show FVec Ideal S1x1024 .f32 from iblk m c 1 t) (ix2 0 j) = An m c (ix2 0 j) := by
  rw [← V_n]; blk_ext [iblk, idx t]

theorem b_wqk (c : Dev nD) (t : Fin cfg0.N) (j : Fin 1024) (k : Fin 640) : (show FVec Ideal S1024x640 .bf16 from iblk m c 2 t) (ix2 j k) = Aw m c (ix3 0 j ⟨k, by omega⟩) := by
  rw [← V_wqk]; blk_ext [iblk, idx t]

theorem b_wv (c : Dev nD) (t : Fin cfg0.N) (j : Fin 1024) (k : Fin 128) : (show FVec Ideal S1024x128 .bf16 from iblk m c 3 t) (ix2 j k) = Aw m c (ix3 0 j ⟨640 + k, by omega⟩) := by
  rw [← V_wv]; blk_ext [iblk, idx t]

theorem b_wz (c : Dev nD) (t : Fin cfg0.N) (j : Fin 1024) (k : Fin 512) : (show FVec Ideal S1024x512 .bf16 from iblk m c 4 t) (ix2 j k) = Aw m c (ix3 0 j ⟨768 + k, by omega⟩) := by
  rw [← V_wz]; blk_ext [iblk, idx t]

theorem b_wxbc (c : Dev nD) (t : Fin cfg0.N) (j : Fin 1024) (k : Fin 1024) : (show FVec Ideal S1024x1024 .bf16 from iblk m c 5 t) (ix2 j k) = Aw m c (ix3 0 j ⟨1280 + k, by omega⟩) := by
  rw [← V_wxbc]; blk_ext [iblk, idx t]

theorem b_wdt (c : Dev nD) (t : Fin cfg0.N) (j : Fin 1024) (k : Fin 128) : (show FVec Ideal S1024x128 .bf16 from iblk m c 6 t) (ix2 j k)
    = if h : (k : ℕ) < 8 then Aw m c (ix3 0 j ⟨2304 + k, by omega⟩) else 0 := by
  rw [← V_wdt]; blk_ext [iblk, idx t]

theorem b_qkn (c : Dev nD) (t : Fin cfg0.N) (k : Fin 640) : (show FVec Ideal S1x640 .f32 from iblk m c 7 t) (ix2 0 k) = gains (Aq m c) (Ak m c) k := by
  rw [← V_qkn]; blk_ext [iblk, idx t]

theorem b_cos (c : Dev nD) (t : Fin cfg0.N) (r : Fin 512) (k : Fin 128) : (show FVec Ideal S512x128 .f32 from iblk m c 8 t) (ix2 r k)
    = CS (ix2 (ps (row t r)) ⟨k % 32, by omega⟩) := by
  rw [← V_cos m c]
  have e : ps (row t r) = ⟨t.val % 4 * 512 + r, by omega⟩ := Fin.ext (by show (t.val * 512 + (r : ℕ)) % 2048 = t.val % 4 * 512 + r; omega)
  rw [e]; blk_ext [iblk, idx t]

theorem b_sin (c : Dev nD) (t : Fin cfg0.N) (r : Fin 512) (k : Fin 128) : (show FVec Ideal S512x128 .f32 from iblk m c 9 t) (ix2 r k)
    = if (k : ℕ) % 64 < 32 then - SN (ix2 (ps (row t r)) ⟨k % 32, by omega⟩) else SN (ix2 (ps (row t r)) ⟨k % 32, by omega⟩) := by
  rw [← V_sin m c]
  have e : ps (row t r) = ⟨t.val % 4 * 512 + r, by omega⟩ := Fin.ext (by show (t.val * 512 + (r : ℕ)) % 2048 = t.val % 4 * 512 + r; omega)
  rw [e]; blk_ext [iblk, idx t]

theorem b_red (c : Dev nD) (t : Fin cfg0.N) (k : Fin 640) (h : Fin 128) : (show FVec Ideal S640x128 .bf16 from iblk m c 10 t) (ix2 k h) = if (k : ℕ) / 64 = h then 1 else 0 := by
  rw [← V_red m c]; blk_ext [iblk, idx t]

theorem b_exp (c : Dev nD) (t : Fin cfg0.N) (h : Fin 128) (k : Fin 640) : (show FVec Ideal S128x640 .bf16 from iblk m c 11 t) (ix2 h k) = if (k : ℕ) / 64 = h then 1 else 0 := by
  rw [← V_exp m c]; blk_ext [iblk, idx t]

/-- A turned 128 lanes of the queries and keys. -/
theorem turn_rot (x co si : FVec Ideal S512x128 .f32) (r : Fin 512) (k : Fin 128) (p : Fin 5) (U : Fin 640 → EReal) (C S : Fin 32 → EReal)
    (hx : ∀ k : Fin 128, x (ix2 r k) = U ⟨128 * p + k, by omega⟩) (hc : ∀ k : Fin 128, co (ix2 r k) = C ⟨k % 32, by omega⟩)
    (hs : ∀ k : Fin 128, si (ix2 r k) = if (k : ℕ) % 64 < 32 then - S ⟨k % 32, by omega⟩ else S ⟨k % 32, by omega⟩) :
    turn x co si (ix2 r k) = rot U C S ⟨128 * p + k, by omega⟩ := by
  have hk := k.isLt
  rw [turn_at, hx, hc, hs]
  unfold rot
  by_cases h : (k : ℕ) % 64 < 32
  · rw [dif_pos h, if_pos h, hx, dif_pos (show (128 * (p : ℕ) + k) % 64 < 32 by omega), mul_neg, ← sub_eq_add_neg]
    have a1 : (⟨(k : ℕ) % 32, by omega⟩ : Fin 32) = ⟨(128 * (p : ℕ) + k) % 64, by omega⟩ := Fin.ext (by simp only; omega)
    rw [a1]
    rfl
  · rw [dif_neg h, if_neg h, hx, dif_neg (show ¬ (128 * (p : ℕ) + k) % 64 < 32 by omega)]
    have a1 : (⟨(k : ℕ) % 32, by omega⟩ : Fin 32) = ⟨(128 * (p : ℕ) + k) % 64 - 32, by omega⟩ := Fin.ext (by simp only; omega)
    have a2 : (⟨128 * (p : ℕ) + ((⟨k - 32, by omega⟩ : Fin 128) : ℕ), by simp only; omega⟩ : Fin 640) = ⟨128 * p + k - 32, by omega⟩ := Fin.ext (by simp only; omega)
    rw [a1, a2]

theorem piece0_at (v : FVec Ideal S512x640 .f32) (co si : FVec Ideal S512x128 .f32) (r : Fin 512) (k : Fin 128) :
    k0_pay15 (F := Ideal) v co si (ix2 r k) = turn (fun y => v (ix2 (y 0) ⟨128 * ((0 : Fin 5) : ℕ) + (y 1).val, by have h : (y 1).val < 128 := (y 1).isLt; omega⟩)) co si (ix2 r k) * sc := by
  have e : extractStridedSlice S512x128 ![0, 0] v slices_S512x640_o0_0_S512x128
      = (fun y => v (ix2 (y 0) ⟨128 * ((0 : Fin 5) : ℕ) + (y 1).val, by have h : (y 1).val < 128 := (y 1).isLt; omega⟩)) := by
    funext y; obtain ⟨r, k, rfl⟩ : ∃ (r : Fin 512) (k : Fin 128), y = ix2 r k := ⟨y 0, y 1, eq_ix2 y⟩
    pointwise
  rw [← e]
  have e1 : k0_pay12 (F := Ideal) co = co := by funext y; obtain ⟨r, k, rfl⟩ : ∃ (r : Fin 512) (k : Fin 128), y = ix2 r k := ⟨y 0, y 1, eq_ix2 y⟩; pointwise [k0_pay12]
  have e2 : k0_pay13 (F := Ideal) si = si := by funext y; obtain ⟨r, k, rfl⟩ : ∃ (r : Fin 512) (k : Fin 128), y = ix2 r k := ⟨y 0, y 1, eq_ix2 y⟩; pointwise [k0_pay13]
  unfold k0_pay15
  rw [e1, e2]
  rfl

theorem piece1_at (v : FVec Ideal S512x640 .f32) (co si : FVec Ideal S512x128 .f32) (r : Fin 512) (k : Fin 128) :
    k0_pay1 (F := Ideal) (k0_pay16 v co si) (ix2 r k) = turn (fun y => v (ix2 (y 0) ⟨128 * ((1 : Fin 5) : ℕ) + (y 1).val, by have h : (y 1).val < 128 := (y 1).isLt; omega⟩)) co si (ix2 r k)  * sc := by
  have e : extractStridedSlice S512x128 ![0, 128] v slices_S512x640_o0_128_S512x128
      = (fun y => v (ix2 (y 0) ⟨128 * ((1 : Fin 5) : ℕ) + (y 1).val, by have h : (y 1).val < 128 := (y 1).isLt; omega⟩)) := by
    funext y; obtain ⟨r, k, rfl⟩ : ∃ (r : Fin 512) (k : Fin 128), y = ix2 r k := ⟨y 0, y 1, eq_ix2 y⟩
    pointwise
  rw [← e]
  have e1 : k0_pay12 (F := Ideal) co = co := by funext y; obtain ⟨r, k, rfl⟩ : ∃ (r : Fin 512) (k : Fin 128), y = ix2 r k := ⟨y 0, y 1, eq_ix2 y⟩; pointwise [k0_pay12]
  have e2 : k0_pay13 (F := Ideal) si = si := by funext y; obtain ⟨r, k, rfl⟩ : ∃ (r : Fin 512) (k : Fin 128), y = ix2 r k := ⟨y 0, y 1, eq_ix2 y⟩; pointwise [k0_pay13]
  unfold k0_pay1 k0_pay16
  rw [e1, e2]
  rfl

theorem piece2_at (v : FVec Ideal S512x640 .f32) (co si : FVec Ideal S512x128 .f32) (r : Fin 512) (k : Fin 128) :
    k0_pay2 (F := Ideal) v (k0_pay12 co) (k0_pay13 si) k0_pay14 (ix2 r k) = turn (fun y => v (ix2 (y 0) ⟨128 * ((2 : Fin 5) : ℕ) + (y 1).val, by have h : (y 1).val < 128 := (y 1).isLt; omega⟩)) co si (ix2 r k)  * sc := by
  have e : extractStridedSlice S512x128 ![0, 256] v slices_S512x640_o0_256_S512x128
      = (fun y => v (ix2 (y 0) ⟨128 * ((2 : Fin 5) : ℕ) + (y 1).val, by have h : (y 1).val < 128 := (y 1).isLt; omega⟩)) := by
    funext y; obtain ⟨r, k, rfl⟩ : ∃ (r : Fin 512) (k : Fin 128), y = ix2 r k := ⟨y 0, y 1, eq_ix2 y⟩
    pointwise
  rw [← e]
  have e1 : k0_pay12 (F := Ideal) co = co := by funext y; obtain ⟨r, k, rfl⟩ : ∃ (r : Fin 512) (k : Fin 128), y = ix2 r k := ⟨y 0, y 1, eq_ix2 y⟩; pointwise [k0_pay12]
  have e2 : k0_pay13 (F := Ideal) si = si := by funext y; obtain ⟨r, k, rfl⟩ : ∃ (r : Fin 512) (k : Fin 128), y = ix2 r k := ⟨y 0, y 1, eq_ix2 y⟩; pointwise [k0_pay13]
  unfold k0_pay2
  rw [e1, e2]
  rfl

theorem piece3_at (v : FVec Ideal S512x640 .f32) (co si : FVec Ideal S512x128 .f32) (r : Fin 512) (k : Fin 128) :
    k0_pay3 (F := Ideal) v (k0_pay12 co) (k0_pay13 si) k0_pay14 (ix2 r k) = turn (fun y => v (ix2 (y 0) ⟨128 * ((3 : Fin 5) : ℕ) + (y 1).val, by have h : (y 1).val < 128 := (y 1).isLt; omega⟩)) co si (ix2 r k)  * sc := by
  have e : extractStridedSlice S512x128 ![0, 384] v slices_S512x640_o0_384_S512x128
      = (fun y => v (ix2 (y 0) ⟨128 * ((3 : Fin 5) : ℕ) + (y 1).val, by have h : (y 1).val < 128 := (y 1).isLt; omega⟩)) := by
    funext y; obtain ⟨r, k, rfl⟩ : ∃ (r : Fin 512) (k : Fin 128), y = ix2 r k := ⟨y 0, y 1, eq_ix2 y⟩
    pointwise
  rw [← e]
  have e1 : k0_pay12 (F := Ideal) co = co := by funext y; obtain ⟨r, k, rfl⟩ : ∃ (r : Fin 512) (k : Fin 128), y = ix2 r k := ⟨y 0, y 1, eq_ix2 y⟩; pointwise [k0_pay12]
  have e2 : k0_pay13 (F := Ideal) si = si := by funext y; obtain ⟨r, k, rfl⟩ : ∃ (r : Fin 512) (k : Fin 128), y = ix2 r k := ⟨y 0, y 1, eq_ix2 y⟩; pointwise [k0_pay13]
  unfold k0_pay3
  rw [e1, e2]
  rfl

theorem piece4_at (v : FVec Ideal S512x640 .f32) (co si : FVec Ideal S512x128 .f32) (r : Fin 512) (k : Fin 128) :
    k0_pay4 (F := Ideal) v (k0_pay12 co) (k0_pay13 si) k0_pay14 (ix2 r k) = turn (fun y => v (ix2 (y 0) ⟨128 * ((4 : Fin 5) : ℕ) + (y 1).val, by have h : (y 1).val < 128 := (y 1).isLt; omega⟩)) co si (ix2 r k)  := by
  have e : extractStridedSlice S512x128 ![0, 512] v slices_S512x640_o0_512_S512x128
      = (fun y => v (ix2 (y 0) ⟨128 * ((4 : Fin 5) : ℕ) + (y 1).val, by have h : (y 1).val < 128 := (y 1).isLt; omega⟩)) := by
    funext y; obtain ⟨r, k, rfl⟩ : ∃ (r : Fin 512) (k : Fin 128), y = ix2 r k := ⟨y 0, y 1, eq_ix2 y⟩
    pointwise
  rw [← e]
  have e1 : k0_pay12 (F := Ideal) co = co := by funext y; obtain ⟨r, k, rfl⟩ : ∃ (r : Fin 512) (k : Fin 128), y = ix2 r k := ⟨y 0, y 1, eq_ix2 y⟩; pointwise [k0_pay12]
  have e2 : k0_pay13 (F := Ideal) si = si := by funext y; obtain ⟨r, k, rfl⟩ : ∃ (r : Fin 512) (k : Fin 128), y = ix2 r k := ⟨y 0, y 1, eq_ix2 y⟩; pointwise [k0_pay13]
  unfold k0_pay4
  rw [e1, e2]
  rfl

end Cert.InprojIdeal.Inproj

end
-- ==== Proof.InprojFinal.lean ====
module

public import proofs.«01_k».proof.Proof.InprojBlocks

@[expose] public section

set_option maxRecDepth 16384

noncomputable section

open Idealize.ShloMosaic Idealize.ShloMosaic.TcCoe Idealize.SL.Sem
open Idealize.ShloMosaic.Pipeline (Dat)

namespace Cert.InprojIdeal.Inproj

open Cert.InprojIdeal Cert.InprojIdeal.Gen Cert.InprojSpec

variable (m : (ℓ : Loc nD τ sig) → Buf (Elt Ideal) ℓ)

set_option maxHeartbeats 2000000 in
/-- The array of the values that the kernel leaves. -/
theorem final_v (c : Dev nD) : (dats m 0 c).arrAt 14 (cfgs 0).N = VA (Ax m c) (An m c) (Aw m c) := by
  refine (dats m 0 c).arrAt_eq_of_covers 14 _ (by decide +kernel) fun t _ y => ?_
  blk_simp
  rw [after0_14]; unfold out0_14; frame_out
  obtain ⟨r, d, rfl⟩ : ∃ (r : Fin 512) (d : Fin 128), y = ix2 r d := ⟨y 0, y 1, eq_ix2 y⟩
  have hy : ((cfg0.win 14).blk t).view.emb (ix2 r d) = (ix2 (row t r) d : S32768x128.Idx) := by
    unfold row; blk_ext [idx t]
  rw [show (((View.whole main_v65_2).slice (win0_14.rect t)).emb (ix2 r d)) = (ix2 (row t r) d : S32768x128.Idx) from hy]
  refine (pay6_at _ _ _ r d).trans ?_
  simp only [b_x, b_n, b_wv]
  rfl

set_option maxHeartbeats 2000000 in
/-- The array of the gates that the kernel leaves. -/
theorem final_z (c : Dev nD) : (dats m 0 c).arrAt 15 (cfgs 0).N = ZA (Ax m c) (An m c) (Aw m c) := by
  refine (dats m 0 c).arrAt_eq_of_covers 15 _ (by decide +kernel) fun t _ y => ?_
  blk_simp
  rw [after0_15]; unfold out0_15; frame_out
  obtain ⟨r, d, rfl⟩ : ∃ (r : Fin 512) (d : Fin 512), y = ix2 r d := ⟨y 0, y 1, eq_ix2 y⟩
  have hy : ((cfg0.win 15).blk t).view.emb (ix2 r d) = (ix2 (row t r) d : S32768x512.Idx) := by
    unfold row; blk_ext [idx t]
  rw [show (((View.whole main_v65_3).slice (win0_15.rect t)).emb (ix2 r d)) = (ix2 (row t r) d : S32768x512.Idx) from hy]
  refine (pay7_at _ _ _ r d).trans ?_
  simp only [b_x, b_n, b_wz]
  rfl

set_option maxHeartbeats 2000000 in
/-- The array of the convolution's inputs that the kernel leaves. -/
theorem final_xbc (c : Dev nD) : (dats m 0 c).arrAt 16 (cfgs 0).N = XA (Ax m c) (An m c) (Aw m c) := by
  refine (dats m 0 c).arrAt_eq_of_covers 16 _ (by decide +kernel) fun t _ y => ?_
  blk_simp
  rw [after0_16]; unfold out0_16; frame_out
  obtain ⟨r, d, rfl⟩ : ∃ (r : Fin 512) (d : Fin 1024), y = ix2 r d := ⟨y 0, y 1, eq_ix2 y⟩
  have hy : ((cfg0.win 16).blk t).view.emb (ix2 r d) = (ix2 (row t r) d : S32768x1024.Idx) := by
    unfold row; blk_ext [idx t]
  rw [show (((View.whole main_v65_4).slice (win0_16.rect t)).emb (ix2 r d)) = (ix2 (row t r) d : S32768x1024.Idx) from hy]
  refine (pay8_at _ _ _ r d).trans ?_
  simp only [b_x, b_n, b_wxbc]
  rfl

set_option maxHeartbeats 2000000 in
/-- The array of the step sizes that the kernel leaves. -/
theorem final_dt (c : Dev nD) : (dats m 0 c).arrAt 17 (cfgs 0).N = DA (Ax m c) (An m c) (Aw m c) := by
  refine (dats m 0 c).arrAt_eq_of_covers 17 _ (by decide +kernel) fun t _ y => ?_
  blk_simp
  rw [after0_17]; unfold_out out0_17; frame_out
  obtain ⟨r, d, rfl⟩ : ∃ (r : Fin 512) (d : Fin 128), y = ix2 r d := ⟨y 0, y 1, eq_ix2 y⟩
  have hy : ((cfg0.win 17).blk t).view.emb (ix2 r d) = (ix2 (row t r) d : S32768x128.Idx) := by
    unfold row; blk_ext [idx t]
  rw [show (((View.whole main_v65_5).slice (win0_17.rect t)).emb (ix2 r d)) = (ix2 (row t r) d : S32768x128.Idx) from hy]
  refine (pay10_at _ _ r d).trans ?_
  simp only [pay5_at]
  simp only [b_x, b_n, b_wdt]
  show _ = if h : (d : ℕ) < 8 then _ else 0
  by_cases h : (d : ℕ) < 8
  · simp only [dif_pos h]
    rfl
  · simp only [dif_neg h, mul_zero, Finset.sum_const_zero]

/-- The normalised queries and keys of a block. -/
theorem normed (c : Dev nD) (t : Fin cfg0.N) (r : Fin 512) (k : Fin 640)
    (hr : ∀ k : Fin 640, ∃ f : ℝ, tok (Ax m c) (An m c) (Aw m c) (sq (row t r)) (ps (row t r)) ⟨k, by omega⟩ = f) :
    k0_pay11 (F := Ideal) (k0_pay5 (iblk m c 0 t) (iblk m c 1 t)) (iblk m c 2 t) (iblk m c 10 t) (iblk m c 10 t) (iblk m c 11 t) (iblk m c 11 t) (iblk m c 7 t) (ix2 r k)
      = nrm (tok (Ax m c) (An m c) (Aw m c) (sq (row t r)) (ps (row t r))) (gains (Aq m c) (Ak m c)) k := by
  refine pay11_at _ _ _ _ _ r k _ ?_ hr (b_red m c t) (b_exp m c t) _ (b_qkn m c t)
  intro k
  simp only [pay5_at]
  simp only [b_x, b_n, b_wqk]
  rfl

set_option maxHeartbeats 2000000 in
/-- The array of the keys that the kernel leaves. -/
theorem final_k (c : Dev nD) (hr : ∀ b l (k : Fin 640), ∃ f : ℝ, tok (Ax m c) (An m c) (Aw m c) b l ⟨k, by omega⟩ = f) :
    (dats m 0 c).arrAt 13 (cfgs 0).N = KA (Ax m c) (An m c) (Aw m c) (Aq m c) (Ak m c) := by
  refine (dats m 0 c).arrAt_eq_of_covers 13 _ (by decide +kernel) fun t _ y => ?_
  blk_simp
  rw [after0_13]; unfold_out out0_13; frame_out
  obtain ⟨r, d, rfl⟩ : ∃ (r : Fin 512) (d : Fin 128), y = ix2 r d := ⟨y 0, y 1, eq_ix2 y⟩
  have hy : ((cfg0.win 13).blk t).view.emb (ix2 r d) = (ix2 (row t r) d : S32768x128.Idx) := by
    unfold row; blk_ext [idx t]
  rw [show (((View.whole main_v65_1).slice (win0_13.rect t)).emb (ix2 r d)) = (ix2 (row t r) d : S32768x128.Idx) from hy]
  refine (piece4_at _ _ _ r d).trans ?_
  exact turn_rot _ _ _ r d 4 (nrm (tok (Ax m c) (An m c) (Aw m c) (sq (row t r)) (ps (row t r))) (gains (Aq m c) (Ak m c)))
      (fun f => CS (ix2 (ps (row t r)) f)) (fun f => SN (ix2 (ps (row t r)) f))
      (fun k => normed m c t r _ (hr _ _)) (fun k => b_cos m c t r k) (fun k => b_sin m c t r k)

set_option maxHeartbeats 2000000 in
/-- The array of the queries that the kernel leaves. -/
theorem final_q (c : Dev nD) (hr : ∀ b l (k : Fin 640), ∃ f : ℝ, tok (Ax m c) (An m c) (Aw m c) b l ⟨k, by omega⟩ = f) :
    (dats m 0 c).arrAt 12 (cfgs 0).N = QA (Ax m c) (An m c) (Aw m c) (Aq m c) (Ak m c) := by
  refine (dats m 0 c).arrAt_eq_of_covers 12 _ (by decide +kernel) fun t _ y => ?_
  blk_simp
  rw [after0_12]; unfold_out out0_12; frame_out
  obtain ⟨r, d, rfl⟩ : ∃ (r : Fin 512) (d : Fin 512), y = ix2 r d := ⟨y 0, y 1, eq_ix2 y⟩
  have hy : ((cfg0.win 12).blk t).view.emb (ix2 r d) = (ix2 (row t r) d : S32768x512.Idx) := by
    unfold row; blk_ext [idx t]
  rw [show (((View.whole main_v65_0).slice (win0_12.rect t)).emb (ix2 r d)) = (ix2 (row t r) d : S32768x512.Idx) from hy]
  have hrr := r.isLt
  have key : ∀ (p : Fin 5) (x : S512x128.Idx) (w : EReal), (r : ℕ) = x 0 → (d : ℕ) = 128 * p + x 1 →
      (∀ (i : Fin 512) (L : Fin 128), x = ix2 i L → w = qk (Ax m c) (An m c) (Aw m c) (Aq m c) (Ak m c) (sq (row t i)) (ps (row t i)) ⟨128 * p + L, by omega⟩ * sc) →
      w = QA (Ax m c) (An m c) (Aw m c) (Aq m c) (Ak m c) (ix2 (row t r) d) := by
    intro p x w h0 h1 hw
    obtain ⟨i, L, rfl⟩ : ∃ (i : Fin 512) (L : Fin 128), x = ix2 i L := ⟨x 0, x 1, eq_ix2 x⟩
    have hir : i = r := Fin.ext h0.symm
    have hd : (d : ℕ) = 128 * p + L := h1
    subst hir
    rw [hw i L rfl]
    have a1 : (⟨128 * (p : ℕ) + L, by omega⟩ : Fin 640) = ⟨(d : ℕ), by omega⟩ := Fin.ext hd.symm
    rw [a1]
    rfl
  canon_tiles x h
  case piece0 =>
    refine key 3 x _ h0 h1 ?_
    rintro i L rfl
    refine (piece3_at _ _ _ i L).trans (congrArg (· * sc) ?_)
    exact turn_rot _ _ _ i L 3 (nrm (tok (Ax m c) (An m c) (Aw m c) (sq (row t i)) (ps (row t i))) (gains (Aq m c) (Ak m c)))
      (fun f => CS (ix2 (ps (row t i)) f)) (fun f => SN (ix2 (ps (row t i)) f))
      (fun k => normed m c t i _ (hr _ _)) (fun k => b_cos m c t i k) (fun k => b_sin m c t i k)
  case piece1 =>
    refine key 2 x _ h0 h1 ?_
    rintro i L rfl
    refine (piece2_at _ _ _ i L).trans (congrArg (· * sc) ?_)
    exact turn_rot _ _ _ i L 2 (nrm (tok (Ax m c) (An m c) (Aw m c) (sq (row t i)) (ps (row t i))) (gains (Aq m c) (Ak m c)))
      (fun f => CS (ix2 (ps (row t i)) f)) (fun f => SN (ix2 (ps (row t i)) f))
      (fun k => normed m c t i _ (hr _ _)) (fun k => b_cos m c t i k) (fun k => b_sin m c t i k)
  case piece2 =>
    refine key 1 x _ h0 h1 ?_
    rintro i L rfl
    refine (piece1_at _ _ _ i L).trans (congrArg (· * sc) ?_)
    exact turn_rot _ _ _ i L 1 (nrm (tok (Ax m c) (An m c) (Aw m c) (sq (row t i)) (ps (row t i))) (gains (Aq m c) (Ak m c)))
      (fun f => CS (ix2 (ps (row t i)) f)) (fun f => SN (ix2 (ps (row t i)) f))
      (fun k => normed m c t i _ (hr _ _)) (fun k => b_cos m c t i k) (fun k => b_sin m c t i k)
  case piece3 =>
    refine key 0 x _ h0 (h1.trans (by simp)) ?_
    rintro i L rfl
    refine (piece0_at _ _ _ i L).trans (congrArg (· * sc) ?_)
    exact turn_rot _ _ _ i L 0 (nrm (tok (Ax m c) (An m c) (Aw m c) (sq (row t i)) (ps (row t i))) (gains (Aq m c) (Ak m c)))
      (fun f => CS (ix2 (ps (row t i)) f)) (fun f => SN (ix2 (ps (row t i)) f))
      (fun k => normed m c t i _ (hr _ _)) (fun k => b_cos m c t i k) (fun k => b_sin m c t i k)

end Cert.InprojIdeal.Inproj

end
-- ==== Proof.InprojTail.lean ====
module

public import proofs.«01_k».proof.Proof.InprojValue

@[expose] public section

set_option maxRecDepth 16384

noncomputable section

open Idealize.ShloMosaic Idealize.ShloMosaic.TcCoe Idealize.SL.Sem
open Idealize.ShloMosaic.Pipeline (Dat)

namespace Cert.InprojIdeal.Inproj

open Cert.InprojIdeal Cert.InprojIdeal.Gen Cert.InprojSpec

variable (m : (ℓ : Loc nD τ sig) → Buf (Elt Ideal) ℓ)

/-- What the lines after the kernel cut out of the keys. -/
theorem tail_13 (c : Dev nD) : Pipeline.afterTail₀ cfgs (dats m) 0 (V0 m) [hostOps1] c main_v69 = window ((dats m 0 c).arrAt 13 (cfgs 0).N) := by
  unfold Pipeline.afterTail₀
  simp only [hostOps1, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  have e := Pipeline.withArrays_arr spec0 launch0.win.arr_inj c (V0 m c) (fun w => (dats m 0 c).arrAt w (cfgs 0).N) 13
  exact congrArg window e

/-- What the lines after the kernel cut out of the values. -/
theorem tail_14 (c : Dev nD) : Pipeline.afterTail₀ cfgs (dats m) 0 (V0 m) [hostOps1] c main_v71 = window ((dats m 0 c).arrAt 14 (cfgs 0).N) := by
  unfold Pipeline.afterTail₀
  simp only [hostOps1, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  have e := Pipeline.withArrays_arr spec0 launch0.win.arr_inj c (V0 m c) (fun w => (dats m 0 c).arrAt w (cfgs 0).N) 14
  exact congrArg window e

/-- What the lines after the kernel cut out of the convolution's inputs. -/
theorem tail_16 (c : Dev nD) : Pipeline.afterTail₀ cfgs (dats m) 0 (V0 m) [hostOps1] c main_v74 = lastRows ((dats m 0 c).arrAt 16 (cfgs 0).N) := by
  unfold Pipeline.afterTail₀
  simp only [hostOps1, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  have e := Pipeline.withArrays_arr spec0 launch0.win.arr_inj c (V0 m c) (fun w => (dats m 0 c).arrAt w (cfgs 0).N) 16
  exact congrArg lastRows e

end Cert.InprojIdeal.Inproj

end
-- ==== Proof.InprojRef.lean ====
module

public import proofs.«01_k».proof.Proof.Gen.InprojRefIdeal
public import proofs.«01_k».proof.Proof.Gen.InprojRefIdeal.Run
public import proofs.«01_k».proof.Proof.InprojSpec
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.InprojRefIdeal.Inproj

open Cert.InprojRefIdeal Cert.InprojRefIdeal.Gen Cert.InprojRefIdeal.Value Cert.InprojSpec

/-- The normalised tokens. -/
def XN (x : FVec Ideal S16x2048x1024 .f32) (n : FVec Ideal S1x1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ n shapeCasts_S1x1024_S1024)))

/-- The projected tokens. -/
def PROJ (xn : FVec Ideal S16x2048x1024 .f32) (w : FVec Ideal S1x1024x2312 .f32) : FVec Ideal S16x2048x2312 .f32 :=
  Host.dotGeneral dot_S16x2048x1024_S1024x2312_S16x2048x2312_2_0_01_1_n_n none xn (shapeCast _ w shapeCasts_S1x1024x2312_S1024x2312)

/-- The queries of the projected tokens, by heads. -/
def HDq (p : FVec Ideal S16x2048x2312 .f32) : FVec Ideal S16x2048x8x64 .f32 :=
  shapeCast _ (extractStridedSlice S16x2048x512 ![0, 0, 0] p slices_S16x2048x2312_S16x2048x512_0_0_0) shapeCasts_S16x2048x512_S16x2048x8x64

/-- The queries normalised head by head. -/
def NMq (x : FVec Ideal S16x2048x8x64 .f32) (g : FVec Ideal S1x64 .f32) : FVec Ideal S16x2048x8x64 .f32 :=
  mulf (mulf x (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf x x) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 (shapeCast _ g shapeCasts_S1x64_S64)))

/-- A table against the queries. -/
def TBq (t : FVec Ideal S2048x32 .f32) : FVec Ideal S16x2048x8x32 .f32 :=
  broadcastInDim S16x2048x8x32 ![0, 1, 2, 3] bcast_S1x2048x1x32_S16x2048x8x32_0_1_2_3 (broadcastInDim S1x2048x1x32 ![1, 2, 3] bcast_S2048x1x32_S1x2048x1x32_1_2_3 (broadcastInDim S2048x1x32 ![0, 2] bcast_S2048x32_S2048x1x32_0_2 t))

/-- The queries turned by their positions' angles. -/
def RTq (x : FVec Ideal S16x2048x8x64 .f32) (co si : FVec Ideal S2048x32 .f32) : FVec Ideal S16x2048x8x64 .f32 :=
  concatenate S16x2048x8x64 3 [⟨S16x2048x8x32, (subf (mulf (extractStridedSlice S16x2048x8x32 ![0, 0, 0, 0] x slices_S16x2048x8x64_S16x2048x8x32_0_0_0_0) (TBq co)) (mulf (extractStridedSlice S16x2048x8x32 ![0, 0, 0, 32] x slices_S16x2048x8x64_S16x2048x8x32_0_0_0_32) (TBq si)))⟩, ⟨S16x2048x8x32, (addf (mulf (extractStridedSlice S16x2048x8x32 ![0, 0, 0, 32] x slices_S16x2048x8x64_S16x2048x8x32_0_0_0_32) (TBq co)) (mulf (extractStridedSlice S16x2048x8x32 ![0, 0, 0, 0] x slices_S16x2048x8x64_S16x2048x8x32_0_0_0_0) (TBq si)))⟩] concatenates_S16x2048x8x32_S16x2048x8x32_S16x2048x8x64_d3

/-- The keys of the projected tokens, by heads. -/
def HDk (p : FVec Ideal S16x2048x2312 .f32) : FVec Ideal S16x2048x2x64 .f32 :=
  shapeCast _ (extractStridedSlice S16x2048x128 ![0, 0, 512] p slices_S16x2048x2312_S16x2048x128_0_0_512) shapeCasts_S16x2048x128_S16x2048x2x64

/-- The keys normalised head by head. -/
def NMk (x : FVec Ideal S16x2048x2x64 .f32) (g : FVec Ideal S1x64 .f32) : FVec Ideal S16x2048x2x64 .f32 :=
  mulf (mulf x (broadcastInDim S16x2048x2x64 ![0, 1, 2, 3] bcast_S16x2048x2x1_S16x2048x2x64_0_1_2_3 (Host.rsqrt (addf (Host.divf (broadcastInDim S16x2048x2x1 ![0, 1, 2] bcast_S16x2048x2_S16x2048x2x1_0_1_2 (Host.reduceAdd (mulf x x) (constant S_ .f32 0x00000000#32) reducesTo_S16x2048x2x64_S16x2048x2_d3 h_S_)) (broadcastInDim S16x2048x2x1 ![] bcast_S_S16x2048x2x1 (constant S_ .f32 0x42800000#32))) (broadcastInDim S16x2048x2x1 ![] bcast_S_S16x2048x2x1 (constant S_ .f32 0x358637BD#32)))))) (broadcastInDim S16x2048x2x64 ![0, 1, 2, 3] bcast_S1x1x1x64_S16x2048x2x64_0_1_2_3 (broadcastInDim S1x1x1x64 ![3] bcast_S64_S1x1x1x64_3 (shapeCast _ g shapeCasts_S1x64_S64)))

/-- A table against the keys. -/
def TBk (t : FVec Ideal S2048x32 .f32) : FVec Ideal S16x2048x2x32 .f32 :=
  broadcastInDim S16x2048x2x32 ![0, 1, 2, 3] bcast_S1x2048x1x32_S16x2048x2x32_0_1_2_3 (broadcastInDim S1x2048x1x32 ![1, 2, 3] bcast_S2048x1x32_S1x2048x1x32_1_2_3 (broadcastInDim S2048x1x32 ![0, 2] bcast_S2048x32_S2048x1x32_0_2 t))

/-- The keys turned by their positions' angles. -/
def RTk (x : FVec Ideal S16x2048x2x64 .f32) (co si : FVec Ideal S2048x32 .f32) : FVec Ideal S16x2048x2x64 .f32 :=
  concatenate S16x2048x2x64 3 [⟨S16x2048x2x32, (subf (mulf (extractStridedSlice S16x2048x2x32 ![0, 0, 0, 0] x slices_S16x2048x2x64_S16x2048x2x32_0_0_0_0) (TBk co)) (mulf (extractStridedSlice S16x2048x2x32 ![0, 0, 0, 32] x slices_S16x2048x2x64_S16x2048x2x32_0_0_0_32) (TBk si)))⟩, ⟨S16x2048x2x32, (addf (mulf (extractStridedSlice S16x2048x2x32 ![0, 0, 0, 32] x slices_S16x2048x2x64_S16x2048x2x32_0_0_0_32) (TBk co)) (mulf (extractStridedSlice S16x2048x2x32 ![0, 0, 0, 0] x slices_S16x2048x2x64_S16x2048x2x32_0_0_0_0) (TBk si)))⟩] concatenates_S16x2048x2x32_S16x2048x2x32_S16x2048x2x64_d3

/-- The reference's queries, scaled. -/
def RQ (p : FVec Ideal S16x2048x2312 .f32) (g : FVec Ideal S1x64 .f32) : FVec Ideal S32768x512 .bf16 :=
  truncf .bf16 (shapeCast _ (mulf (RTq (NMq (HDq p) g) CS SN) (broadcastInDim S16x2048x8x64 ![] bcast_S_S16x2048x8x64 (constant S_ .f32 0x3E000000#32))) shapeCasts_S16x2048x8x64_S32768x512) bitsLt_bf16_f32

/-- The reference's keys. -/
def RK (p : FVec Ideal S16x2048x2312 .f32) (g : FVec Ideal S1x64 .f32) : FVec Ideal S32768x128 .f32 :=
  shapeCast _ (RTk (NMk (HDk p) g) CS SN) shapeCasts_S16x2048x2x64_S32768x128

/-- The last keys of each sequence. -/
def RWK (p : FVec Ideal S16x2048x2312 .f32) (g : FVec Ideal S1x64 .f32) : FVec Ideal S1x16x128x2x64 .f32 :=
  broadcastInDim S1x16x128x2x64 ![1, 2, 3, 4] bcast_S16x128x2x64_S1x16x128x2x64_1_2_3_4 (extractStridedSlice S16x128x2x64 ![0, 1920, 0, 0] (RTk (NMk (HDk p) g) CS SN) slices_S16x2048x2x64_S16x128x2x64_0_1920_0_0)

theorem res0_eq (m : (ℓ : Loc nD τ sig) → Buf (Elt Ideal) ℓ) (c : Dev nD) :
    res_main_v137 m c = RQ (PROJ (XN (m ((c.tc : Thread nD τ).loc main_arg0)) (m ((c.tc : Thread nD τ).loc main_arg1))) (m ((c.tc : Thread nD τ).loc main_arg2))) (m ((c.tc : Thread nD τ).loc main_arg3)) := rfl

theorem res1_eq (m : (ℓ : Loc nD τ sig) → Buf (Elt Ideal) ℓ) (c : Dev nD) :
    res_main_v138 m c = RK (PROJ (XN (m ((c.tc : Thread nD τ).loc main_arg0)) (m ((c.tc : Thread nD τ).loc main_arg1))) (m ((c.tc : Thread nD τ).loc main_arg2))) (m ((c.tc : Thread nD τ).loc main_arg4)) := rfl

theorem res6_eq (m : (ℓ : Loc nD τ sig) → Buf (Elt Ideal) ℓ) (c : Dev nD) :
    res_main_v143 m c = RWK (PROJ (XN (m ((c.tc : Thread nD τ).loc main_arg0)) (m ((c.tc : Thread nD τ).loc main_arg1))) (m ((c.tc : Thread nD τ).loc main_arg2))) (m ((c.tc : Thread nD τ).loc main_arg4)) := rfl

theorem XN_at (x n) (b : Fin 16) (l : Fin 2048) (j : Fin 1024) :
    XN x n (ix3 b l j) = xn (fun j => x (ix3 b l j)) (fun j => n (ix2 0 j)) j := by
  unfold xn
  pointwise [XN]

theorem PROJ_at (x w) (b : Fin 16) (l : Fin 2048) (c : Fin 2312) :
    PROJ x w (ix3 b l c) = ∑ j : Fin 1024, x (ix3 b l j) * w (ix3 0 j c) := by
  pointwise [PROJ]

theorem HDq_at (p) (b : Fin 16) (l : Fin 2048) (h : Fin 8) (d : Fin 64) :
    HDq p (ix4 b l h d) = p (ix3 b l ⟨0 + (h * 64 + d), by omega⟩) := by
  pointwise [HDq]

theorem NMq_at (x g) (b : Fin 16) (l : Fin 2048) (h : Fin 8) (d : Fin 64) :
    NMq x g (ix4 b l h d) = x (ix4 b l h d) * Ideal.rsqrt (Ideal.div (∑ e : Fin 64, x (ix4 b l h e) * x (ix4 b l h e)) (Ideal.ofBits .f32 0x42800000#32) + eps) * g (ix2 0 d) := by
  pointwise [NMq]

theorem TBq_at (t) (b : Fin 16) (l : Fin 2048) (h : Fin 8) (d : Fin 32) :
    TBq t (ix4 b l h d) = t (ix2 l d) := by
  pointwise [TBq]

theorem RTq_at (x co si) (b : Fin 16) (l : Fin 2048) (h : Fin 8) (d : Fin 64) :
    RTq x co si (ix4 b l h d) = if hd : (d : ℕ) < 32
      then x (ix4 b l h d) * co (ix2 l ⟨d, hd⟩) - x (ix4 b l h ⟨d + 32, by omega⟩) * si (ix2 l ⟨d, hd⟩)
      else x (ix4 b l h d) * co (ix2 l ⟨d - 32, by omega⟩) + x (ix4 b l h ⟨d - 32, by omega⟩) * si (ix2 l ⟨d - 32, by omega⟩) := by
  pointwise [RTq, TBq_at]
  by_cases hd : (d : ℕ) < 32
  · rw [dif_pos hd, dif_pos hd]
    congr 2; congr 1; exact (ix4_inj ..).2 ⟨rfl, rfl, rfl, Fin.ext (by show 32 + (d : ℕ) = d + 32; omega)⟩
  · rw [dif_neg hd, dif_neg hd]
    congr 2; congr 1; exact (ix4_inj ..).2 ⟨rfl, rfl, rfl, Fin.ext (by show 32 + ((d : ℕ) - 32) = d; omega)⟩

theorem HDk_at (p) (b : Fin 16) (l : Fin 2048) (h : Fin 2) (d : Fin 64) :
    HDk p (ix4 b l h d) = p (ix3 b l ⟨512 + (h * 64 + d), by omega⟩) := by
  pointwise [HDk]

theorem NMk_at (x g) (b : Fin 16) (l : Fin 2048) (h : Fin 2) (d : Fin 64) :
    NMk x g (ix4 b l h d) = x (ix4 b l h d) * Ideal.rsqrt (Ideal.div (∑ e : Fin 64, x (ix4 b l h e) * x (ix4 b l h e)) (Ideal.ofBits .f32 0x42800000#32) + eps) * g (ix2 0 d) := by
  pointwise [NMk]

theorem TBk_at (t) (b : Fin 16) (l : Fin 2048) (h : Fin 2) (d : Fin 32) :
    TBk t (ix4 b l h d) = t (ix2 l d) := by
  pointwise [TBk]

theorem RTk_at (x co si) (b : Fin 16) (l : Fin 2048) (h : Fin 2) (d : Fin 64) :
    RTk x co si (ix4 b l h d) = if hd : (d : ℕ) < 32
      then x (ix4 b l h d) * co (ix2 l ⟨d, hd⟩) - x (ix4 b l h ⟨d + 32, by omega⟩) * si (ix2 l ⟨d, hd⟩)
      else x (ix4 b l h d) * co (ix2 l ⟨d - 32, by omega⟩) + x (ix4 b l h ⟨d - 32, by omega⟩) * si (ix2 l ⟨d - 32, by omega⟩) := by
  pointwise [RTk, TBk_at]
  by_cases hd : (d : ℕ) < 32
  · rw [dif_pos hd, dif_pos hd]
    congr 2; congr 1; exact (ix4_inj ..).2 ⟨rfl, rfl, rfl, Fin.ext (by show 32 + (d : ℕ) = d + 32; omega)⟩
  · rw [dif_neg hd, dif_neg hd]
    congr 2; congr 1; exact (ix4_inj ..).2 ⟨rfl, rfl, rfl, Fin.ext (by show 32 + ((d : ℕ) - 32) = d; omega)⟩

end Cert.InprojRefIdeal.Inproj

end
-- ==== Proof.InprojRefSpec.lean ====
module

public import proofs.«01_k».proof.Proof.InprojRef

@[expose] public section

set_option maxRecDepth 16384

noncomputable section

open Idealize.ShloMosaic Idealize.ShloMosaic.TcCoe Idealize.SL.Sem
open Idealize.ShloMosaic.Pipeline (Dat)

namespace Cert.InprojRefIdeal.Inproj

open Cert.InprojRefIdeal Cert.InprojRefIdeal.Gen Cert.InprojRefIdeal.Value Cert.InprojSpec

variable (x : FVec Ideal S16x2048x1024 .f32) (n : FVec Ideal S1x1024 .f32) (w : FVec Ideal S1x1024x2312 .f32) (qg kg : FVec Ideal S1x64 .f32)

/-- The reference's projected tokens. -/
theorem PX_at (b : Fin 16) (l : Fin 2048) (c : Fin 2312) : PROJ (XN x n) w (ix3 b l c) = tok x n w b l c := by
  rw [PROJ_at]
  simp only [XN_at]
  rfl

/-- The reference's normalised queries. -/
theorem Nq_at (b : Fin 16) (l : Fin 2048) (h : Fin 8) (d : Fin 64) :
    NMq (HDq (PROJ (XN x n) w)) qg (ix4 b l h d) = nrm (tok x n w b l) (gains qg kg) ⟨0 + (h * 64 + d), by omega⟩ := by
  have hh := h.isLt
  have hd := d.isLt
  rw [NMq_at]
  simp only [HDq_at, PX_at]
  unfold nrm InprojSpec.inv gains gain
  rw [if_pos (show 0 + ((h : ℕ) * 64 + d) < 512 by omega)]
  have a1 : (⟨(0 + ((h : ℕ) * 64 + d)) % 64, by omega⟩ : Fin 64) = d := Fin.ext (by simp only; omega)
  have a2 : (0 + ((h : ℕ) * 64 + d)) / 64 * 64 = 0 + h * 64 := by omega
  have a3 : ∀ e : Fin 64, (⟨0 + ((h : ℕ) * 64 + e), by omega⟩ : Fin 2312) = ⟨(0 + ((h : ℕ) * 64 + d)) / 64 * 64 + e, by omega⟩ :=
    fun e => Fin.ext (by simp only; omega)
  simp only [a1, a3]

/-- The reference's turned queries. -/
theorem Tq_at (b : Fin 16) (l : Fin 2048) (h : Fin 8) (d : Fin 64) :
    RTq (NMq (HDq (PROJ (XN x n) w)) qg) CS SN (ix4 b l h d) = qk x n w qg kg b l ⟨0 + (h * 64 + d), by omega⟩ := by
  have hh := h.isLt
  have hd := d.isLt
  rw [RTq_at]
  simp only [Nq_at x n w qg kg]
  unfold qk rot
  have e : (0 + ((h : ℕ) * 64 + d)) % 64 = d := by omega
  by_cases hl : (d : ℕ) < 32
  · rw [dif_pos hl, dif_pos (show (0 + ((h : ℕ) * 64 + d)) % 64 < 32 by omega)]
    have a1 : (⟨(0 + ((h : ℕ) * 64 + d)) % 64, by omega⟩ : Fin 32) = ⟨d, hl⟩ := Fin.ext e
    have a2 : (⟨0 + ((h : ℕ) * 64 + d) + 32, by omega⟩ : Fin 640) = ⟨0 + (h * 64 + (d + 32)), by omega⟩ := Fin.ext (by simp only; omega)
    simp only [a1, a2]
  · rw [dif_neg hl, dif_neg (show ¬ (0 + ((h : ℕ) * 64 + d)) % 64 < 32 by omega)]
    have a1 : (⟨(0 + ((h : ℕ) * 64 + d)) % 64 - 32, by omega⟩ : Fin 32) = ⟨d - 32, by omega⟩ := Fin.ext (by simp only; omega)
    have a2 : (⟨0 + ((h : ℕ) * 64 + d) - 32, by omega⟩ : Fin 640) = ⟨0 + (h * 64 + (d - 32)), by omega⟩ := Fin.ext (by simp only; omega)
    simp only [a1, a2]

/-- The reference's normalised keys. -/
theorem Nk_at (b : Fin 16) (l : Fin 2048) (h : Fin 2) (d : Fin 64) :
    NMk (HDk (PROJ (XN x n) w)) kg (ix4 b l h d) = nrm (tok x n w b l) (gains qg kg) ⟨512 + (h * 64 + d), by omega⟩ := by
  have hh := h.isLt
  have hd := d.isLt
  rw [NMk_at]
  simp only [HDk_at, PX_at]
  unfold nrm InprojSpec.inv gains gain
  rw [if_neg (show ¬ 512 + ((h : ℕ) * 64 + d) < 512 by omega)]
  have a1 : (⟨(512 + ((h : ℕ) * 64 + d)) % 64, by omega⟩ : Fin 64) = d := Fin.ext (by simp only; omega)
  have a2 : (512 + ((h : ℕ) * 64 + d)) / 64 * 64 = 512 + h * 64 := by omega
  have a3 : ∀ e : Fin 64, (⟨512 + ((h : ℕ) * 64 + e), by omega⟩ : Fin 2312) = ⟨(512 + ((h : ℕ) * 64 + d)) / 64 * 64 + e, by omega⟩ :=
    fun e => Fin.ext (by simp only; omega)
  simp only [a1, a3]

/-- The reference's turned keys. -/
theorem Tk_at (b : Fin 16) (l : Fin 2048) (h : Fin 2) (d : Fin 64) :
    RTk (NMk (HDk (PROJ (XN x n) w)) kg) CS SN (ix4 b l h d) = qk x n w qg kg b l ⟨512 + (h * 64 + d), by omega⟩ := by
  have hh := h.isLt
  have hd := d.isLt
  rw [RTk_at]
  simp only [Nk_at x n w qg kg]
  unfold qk rot
  have e : (512 + ((h : ℕ) * 64 + d)) % 64 = d := by omega
  by_cases hl : (d : ℕ) < 32
  · rw [dif_pos hl, dif_pos (show (512 + ((h : ℕ) * 64 + d)) % 64 < 32 by omega)]
    have a1 : (⟨(512 + ((h : ℕ) * 64 + d)) % 64, by omega⟩ : Fin 32) = ⟨d, hl⟩ := Fin.ext e
    have a2 : (⟨512 + ((h : ℕ) * 64 + d) + 32, by omega⟩ : Fin 640) = ⟨512 + (h * 64 + (d + 32)), by omega⟩ := Fin.ext (by simp only; omega)
    simp only [a1, a2]
  · rw [dif_neg hl, dif_neg (show ¬ (512 + ((h : ℕ) * 64 + d)) % 64 < 32 by omega)]
    have a1 : (⟨(512 + ((h : ℕ) * 64 + d)) % 64 - 32, by omega⟩ : Fin 32) = ⟨d - 32, by omega⟩ := Fin.ext (by simp only; omega)
    have a2 : (⟨512 + ((h : ℕ) * 64 + d) - 32, by omega⟩ : Fin 640) = ⟨512 + (h * 64 + (d - 32)), by omega⟩ := Fin.ext (by simp only; omega)
    simp only [a1, a2]

/-- The reference's first result is the queries' array. -/
theorem RQ_eq : RQ (PROJ (XN x n) w) qg = QA x n w qg kg := by
  funext y
  obtain ⟨R, C, rfl⟩ : ∃ (R : Fin 32768) (C : Fin 512), y = ix2 R C := ⟨y 0, y 1, eq_ix2 y⟩
  pointwise [RQ]
  rw [Tq_at x n w qg kg]
  show _ = qk x n w qg kg (sq R) (ps R) _ * sc
  congr 2
  exact Fin.ext (by show 0 + ((C : ℕ) / 64 * 64 + C % 64) = C; omega)

/-- Its second is the keys' array. -/
theorem RK_eq : RK (PROJ (XN x n) w) kg = KA x n w qg kg := by
  funext y
  obtain ⟨R, C, rfl⟩ : ∃ (R : Fin 32768) (C : Fin 128), y = ix2 R C := ⟨y 0, y 1, eq_ix2 y⟩
  pointwise [RK]
  rw [Tk_at x n w qg kg]
  show _ = qk x n w qg kg (sq R) (ps R) _
  congr 1
  exact Fin.ext (by show 512 + ((C : ℕ) / 64 * 64 + C % 64) = 512 + C; omega)

/-- The reference's values. -/
def RV (p : FVec Ideal S16x2048x2312 .f32) : FVec Ideal S32768x128 .f32 :=
  shapeCast _ (shapeCast _ (extractStridedSlice S16x2048x128 ![0, 0, 640] p slices_S16x2048x2312_S16x2048x128_0_0_640) shapeCasts_S16x2048x128_S16x2048x2x64) shapeCasts_S16x2048x2x64_S32768x128
/-- The reference's gates. -/
def RZ (p : FVec Ideal S16x2048x2312 .f32) : FVec Ideal S32768x512 .f32 :=
  shapeCast _ (extractStridedSlice S16x2048x512 ![0, 0, 768] p slices_S16x2048x2312_S16x2048x512_0_0_768) shapeCasts_S16x2048x512_S32768x512
/-- The reference's inputs of the convolution. -/
def RX (p : FVec Ideal S16x2048x2312 .f32) : FVec Ideal S32768x1024 .f32 :=
  shapeCast _ (extractStridedSlice S16x2048x1024 ![0, 0, 1280] p slices_S16x2048x2312_S16x2048x1024_0_0_1280) shapeCasts_S16x2048x1024_S32768x1024

theorem RV_eq : RV (PROJ (XN x n) w) = VA x n w := by
  funext y
  obtain ⟨R, C, rfl⟩ : ∃ (R : Fin 32768) (C : Fin 128), y = ix2 R C := ⟨y 0, y 1, eq_ix2 y⟩
  pointwise [RV, PX_at]
  rfl

theorem RZ_eq : RZ (PROJ (XN x n) w) = ZA x n w := by
  funext y
  obtain ⟨R, C, rfl⟩ : ∃ (R : Fin 32768) (C : Fin 512), y = ix2 R C := ⟨y 0, y 1, eq_ix2 y⟩
  pointwise [RZ, PX_at]
  rfl

theorem RX_eq : RX (PROJ (XN x n) w) = XA x n w := by
  funext y
  obtain ⟨R, C, rfl⟩ : ∃ (R : Fin 32768) (C : Fin 1024), y = ix2 R C := ⟨y 0, y 1, eq_ix2 y⟩
  pointwise [RX, PX_at]
  rfl

/-- The reference's step sizes. -/
def RD (p : FVec Ideal S16x2048x2312 .f32) : FVec Ideal S32768x128 .f32 :=
  shapeCast _ (pad S16x2048x128 ![0, 0, 0] ![0, 0, 120] ![0, 0, 0] (extractStridedSlice S16x2048x8 ![0, 0, 2304] p slices_S16x2048x2312_S16x2048x8_0_0_2304) (sitofp .f32 (constantI S_ 32 0#32)) pads_S16x2048x8_S16x2048x128_000_000_01200 h_S_) shapeCasts_S16x2048x128_S32768x128

theorem zeroWord : FloatOps.sitofp (F := Ideal) FTy.f32 0#32 = 0 := by
  show (((0#32 : BitVec 32).toInt : ℝ) : EReal) = 0
  simp

theorem RD_if (T : Fin 16 → Fin 2048 → Fin 2312 → EReal) (R : Fin 32768) (C : Fin 128) :
    (if h : (R : ℕ) / 2048 < 16 ∧ (R : ℕ) % 2048 < 2048 ∧ (C : ℕ) < 8 then T ⟨R / 2048, h.1⟩ ⟨R % 2048, h.2.1⟩ ⟨2304 + C, by omega⟩
      else FloatOps.sitofp (F := Ideal) FTy.f32 0#32) = if h : (C : ℕ) < 8 then T (sq R) (ps R) ⟨2304 + C, by omega⟩ else 0 := by
  have hR := R.isLt
  by_cases h : (C : ℕ) < 8
  · have hc : (R : ℕ) / 2048 < 16 ∧ (R : ℕ) % 2048 < 2048 ∧ (C : ℕ) < 8 := ⟨by omega, by omega, h⟩
    rw [dif_pos h, dif_pos hc]
  · rw [dif_neg h, dif_neg fun q => h q.2.2]
    exact zeroWord

theorem RD_eq : RD (PROJ (XN x n) w) = DA x n w := by
  funext y
  obtain ⟨R, C, rfl⟩ : ∃ (R : Fin 32768) (C : Fin 128), y = ix2 R C := ⟨y 0, y 1, eq_ix2 y⟩
  pointwise [RD, PX_at]
  exact RD_if _ R C

/-- The last values of each sequence. -/
def RWV (p : FVec Ideal S16x2048x2312 .f32) : FVec Ideal S1x16x128x2x64 .f32 :=
  broadcastInDim S1x16x128x2x64 ![1, 2, 3, 4] bcast_S16x128x2x64_S1x16x128x2x64_1_2_3_4 (extractStridedSlice S16x128x2x64 ![0, 1920, 0, 0] (shapeCast _ (extractStridedSlice S16x2048x128 ![0, 0, 640] p slices_S16x2048x2312_S16x2048x128_0_0_640) shapeCasts_S16x2048x128_S16x2048x2x64) slices_S16x2048x2x64_S16x128x2x64_0_1920_0_0)
/-- The last inputs of the convolution of each sequence. -/
def RWX (p : FVec Ideal S16x2048x2312 .f32) : FVec Ideal S1x16x3x1024 .f32 :=
  broadcastInDim S1x16x3x1024 ![1, 2, 3] bcast_S16x3x1024_S1x16x3x1024_1_2_3 (extractStridedSlice S16x3x1024 ![0, 2045, 0] (extractStridedSlice S16x2048x1024 ![0, 0, 1280] p slices_S16x2048x2312_S16x2048x1024_0_0_1280) slices_S16x2048x1024_S16x3x1024_0_2045_0)

theorem RWV_eq : RWV (PROJ (XN x n) w) = window (VA x n w) := by
  rw [← RV_eq]
  unfold RWV window RV
  rw [shapeCast_shapeCast]

theorem RWX_eq : RWX (PROJ (XN x n) w) = lastRows (XA x n w) := by
  rw [← RX_eq]
  unfold RWX lastRows RX
  rw [shapeCast_shapeCast]

/-- The reference's last keys are the keys' array cut. -/
theorem RWK_eq : RWK (PROJ (XN x n) w) kg = window (KA x n w qg kg) := by
  rw [← RK_eq]
  unfold RWK window RK
  rw [shapeCast_shapeCast]

end Cert.InprojRefIdeal.Inproj

end
-- ==== Proof.InprojClaim.lean ====
module

public import proofs.«01_k».proof.Defs
public import proofs.«01_k».proof.Proof.InprojFinal
public import proofs.«01_k».proof.Proof.InprojTail
public import proofs.«01_k».proof.Proof.InprojRefSpec
public import proofs.«01_k».proof.Proof.AttnClaim
public import proofs.«01_k».proof.Proof.Gen.Pre_inputs_finite
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Projection

open Cert.InprojSpec

/-- A sum of squares one of whose terms is infinite is infinite. -/
theorem sum_top (x : Fin 1024 → EReal) (j : Fin 1024) (hj : x j * x j = ⊤) : ∑ k, x k * x k = ⊤ := by
  have h0 : ∀ k ∈ (Finset.univ : Finset (Fin 1024)), 0 ≤ x k * x k := by
    intro k _
    rcases le_total 0 (x k) with h | h
    · exact mul_nonneg h h
    · rw [← neg_mul_neg]
      exact mul_nonneg (EReal.neg_nonneg.2 h) (EReal.neg_nonneg.2 h)
  exact top_le_iff.1 (hj ▸ Finset.single_le_sum h0 (Finset.mem_univ j))

/-- A column of the projection is real when the first norm's weights and the column's are: a token with an infinite entry has
an infinite mean square, and its normalised entries are zero. -/
theorem tok_real (x : FVec Ideal Cert.InprojIdeal.S16x2048x1024 .f32) (n : FVec Ideal Cert.InprojIdeal.S1x1024 .f32) (w : FVec Ideal Cert.InprojIdeal.S1x1024x2312 .f32)
    (k : Fin 2312) (hn : ∀ j, ∃ r : ℝ, n (ix2 0 j) = r) (hw : ∀ j, ∃ r : ℝ, w (ix3 0 j k) = r) (b : Fin 16) (l : Fin 2048) :
    ∃ f : ℝ, tok x n w b l k = f := by
  choose nr hnr using hn
  choose wr hwr using hw
  have hc : Ideal.ofBits .f32 0x44800000#32 = ((1024 : ℝ) : EReal) := by
    simp [Ideal.ofBits, Ideal.ieee]
    rw [← EReal.coe_mul]; norm_num
  obtain ⟨e, he, ee⟩ := Cert.InprojIdeal.Inproj.eps_real
  by_cases hx : ∀ j : Fin 1024, ∃ r : ℝ, x (ix3 b l j) = r
  · choose xr hxr using hx
    have hinv : ∃ y : ℝ, Ideal.rsqrt (Ideal.div (∑ k : Fin 1024, x (ix3 b l k) * x (ix3 b l k)) (Ideal.ofBits .f32 0x44800000#32) + eps) = y := by
      have hs : ∑ k : Fin 1024, x (ix3 b l k) * x (ix3 b l k) = ((∑ k : Fin 1024, xr k * xr k : ℝ) : EReal) := by
        rw [Cert.InprojIdeal.Inproj.coe_sum]
        exact Finset.sum_congr rfl fun k _ => by rw [hxr, EReal.coe_mul]
      have h0 : (0 : ℝ) ≤ ∑ k : Fin 1024, xr k * xr k := Finset.sum_nonneg fun k _ => mul_self_nonneg _
      rw [hs, hc, ee, Ideal.div, if_neg (by norm_num), ← EReal.coe_inv, ← EReal.coe_mul, ← EReal.coe_add, Ideal.rsqrt_coe]
      have h1 := mul_nonneg h0 (by norm_num : (0 : ℝ) ≤ (1024 : ℝ)⁻¹)
      rw [if_neg (by linarith), if_neg (by linarith)]
      exact ⟨_, rfl⟩
    obtain ⟨y, hy⟩ := hinv
    refine ⟨∑ j : Fin 1024, xr j * y * nr j * wr j, ?_⟩
    rw [Cert.InprojIdeal.Inproj.coe_sum]
    unfold tok proj xn
    simp only [hy]
    refine Finset.sum_congr rfl fun j _ => ?_
    rw [hxr, hnr, hwr, EReal.coe_mul, EReal.coe_mul, EReal.coe_mul]
  · obtain ⟨j, hj⟩ := not_forall.1 hx
    have hj2 : x (ix3 b l j) * x (ix3 b l j) = ⊤ := by
      generalize x (ix3 b l j) = a at hj
      induction a using EReal.rec with
      | bot => rfl
      | top => rfl
      | coe r => exact absurd ⟨r, rfl⟩ hj
    have hinv : Ideal.rsqrt (Ideal.div (∑ k : Fin 1024, x (ix3 b l k) * x (ix3 b l k)) (Ideal.ofBits .f32 0x44800000#32) + eps) = 0 := by
      rw [sum_top (fun k => x (ix3 b l k)) j hj2, hc, ee, Ideal.div, if_neg (by norm_num), ← EReal.coe_inv, EReal.top_mul_coe_of_pos (by norm_num), EReal.top_add_coe]
      rfl
    refine ⟨0, ?_⟩
    unfold tok proj xn
    simp only [hinv, mul_zero, zero_mul, Finset.sum_const_zero, EReal.coe_zero]

/-- The precondition, read: the projected queries and keys are real numbers. -/
theorem reals (x : FVec Ideal Cert.Pre_inputs_finite.S16x2048x1024 .f32) (n : FVec Ideal Cert.Pre_inputs_finite.S1x1024 .f32)
    (w : FVec Ideal Cert.Pre_inputs_finite.S1x1024x2312 .f32) (qg kg : FVec Ideal Cert.Pre_inputs_finite.S1x64 .f32)
    (h : (Cert.Pre_inputs_finite.fn (F := Ideal) x n w qg kg).1 = (fun _ => 1#1)
      ∧ (Cert.Pre_inputs_finite.fn (F := Ideal) x n w qg kg).2 = (fun _ => 1#1)) (b : Fin 16) (l : Fin 2048) (k : Fin 640) :
    ∃ f : ℝ, tok x n w b l ⟨k, by omega⟩ = f := by
  refine tok_real x n w _ (fun j => Cert.Attn.Claims.real_of_below _ (congrFun h.1 (ix2 0 j))) (fun j => ?_) b l
  obtain ⟨r, hr⟩ := Cert.Attn.Claims.real_of_below _ (congrFun h.2 (ix3 0 j k))
  refine ⟨r, Eq.trans ?_ hr⟩
  pointwise

open Cert.InprojIdeal Cert.InprojIdeal.Gen in
set_option maxHeartbeats 4000000 in
/-- Every run of the kernel's program ends with the nine arrays. -/
theorem kernel_run (m : (ℓ : Loc nD τ sig) → Buf (Elt Ideal) ℓ) (g : Dev nD → PrngReg)
    (hr : ∀ (c : Dev nD) b l (k : Fin 640), ∃ f : ℝ, tok (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) b l ⟨k, by omega⟩ = f) :
    θ_run (Cert.InprojIdeal.defs (F := Ideal)) (onTc (τ := τ) (main (F := Ideal))) ⟨m, fun _ => 0, g⟩ (fun r => ∀ c : Dev nD,
      r.2.mem ((c.tc : Thread nD τ).loc main_v65_0) = QA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))
      ∧ r.2.mem ((c.tc : Thread nD τ).loc main_v65_1) = KA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))
      ∧ r.2.mem ((c.tc : Thread nD τ).loc main_v65_2) = VA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))
      ∧ r.2.mem ((c.tc : Thread nD τ).loc main_v65_3) = ZA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))
      ∧ r.2.mem ((c.tc : Thread nD τ).loc main_v65_4) = XA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))
      ∧ r.2.mem ((c.tc : Thread nD τ).loc main_v65_5) = DA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))
      ∧ r.2.mem ((c.tc : Thread nD τ).loc main_v69) = window (KA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)))
      ∧ r.2.mem ((c.tc : Thread nD τ).loc main_v71) = window (VA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)))
      ∧ r.2.mem ((c.tc : Thread nD τ).loc main_v74) = lastRows (XA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h c).1 12).trans (Inproj.final_q m c (hr c)),
    ((h c).1 13).trans (Inproj.final_k m c (hr c)),
    ((h c).1 14).trans (Inproj.final_v m c),
    ((h c).1 15).trans (Inproj.final_z m c),
    ((h c).1 16).trans (Inproj.final_xbc m c),
    ((h c).1 17).trans (Inproj.final_dt m c),
    ((h c).2 main_v69 (Pipeline.mem_restRefs_of main_v69 (by decide) (by decide))).trans ((Inproj.tail_13 m c).trans (congrArg window (Inproj.final_k m c (hr c)))),
    ((h c).2 main_v71 (Pipeline.mem_restRefs_of main_v71 (by decide) (by decide))).trans ((Inproj.tail_14 m c).trans (congrArg window (Inproj.final_v m c))),
    ((h c).2 main_v74 (Pipeline.mem_restRefs_of main_v74 (by decide) (by decide))).trans ((Inproj.tail_16 m c).trans (congrArg lastRows (Inproj.final_xbc m c))),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m g)

open Cert.InprojRefIdeal Cert.InprojRefIdeal.Value Cert.InprojRefIdeal.Inproj in
/-- Every run of the reference's program ends with the nine arrays. -/
theorem ref_run (m : (ℓ : Loc nD τ sig) → Buf (Elt Ideal) ℓ) (g : Dev nD → PrngReg) :
    θ_run (Cert.InprojRefIdeal.defs (F := Ideal)) (onTc (τ := τ) (main (F := Ideal))) ⟨m, fun _ => 0, g⟩ (fun r => ∀ c : Dev nD,
      r.2.mem ((c.tc : Thread nD τ).loc main_v137) = QA (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))
      ∧ r.2.mem ((c.tc : Thread nD τ).loc main_v138) = KA (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))
      ∧ r.2.mem ((c.tc : Thread nD τ).loc main_v139) = VA (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread nD τ).loc main_v140) = ZA (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread nD τ).loc main_v141) = XA (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread nD τ).loc main_v142) = DA (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2))
      ∧ r.2.mem ((c.tc : Thread nD τ).loc main_v143) = window (KA (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)))
      ∧ r.2.mem ((c.tc : Thread nD τ).loc main_v144) = window (VA (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)))
      ∧ r.2.mem ((c.tc : Thread nD τ).loc main_v145) = lastRows (XA (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h c).1.trans ((res0_eq m c).trans (RQ_eq _ _ _ _ _)),
    (h c).2.1.trans ((res1_eq m c).trans (RK_eq _ _ _ _ _)),
    (h c).2.2.1.trans (RV_eq _ _ _),
    (h c).2.2.2.1.trans (RZ_eq _ _ _),
    (h c).2.2.2.2.1.trans (RX_eq _ _ _),
    (h c).2.2.2.2.2.1.trans (RD_eq _ _ _),
    (h c).2.2.2.2.2.2.1.trans ((res6_eq m c).trans (RWK_eq _ _ _ _ _)),
    (h c).2.2.2.2.2.2.2.1.trans (RWV_eq _ _ _),
    (h c).2.2.2.2.2.2.2.2.1.trans (RWX_eq _ _ _),
    (h c).2.2.2.2.2.2.2.2.2⟩) (run m g)

/-- The projection kernel with the lines around it and the plain mathematics of the norm, the projection, the head norms and
the rotary embedding, run on the same inputs, the first norm's weights and the projection's columns of queries and keys being real numbers, end with
nine equal results over the extended reals. -/
theorem algebraic : Cert.algebraic_InprojIdeal_InprojRefIdeal_pre_inputs_finite := by
  intro m g m' g' hpre hagree
  refine ⟨fun c => QA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)), fun c => KA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)), fun c => VA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)), fun c => ZA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)), fun c => XA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)), fun c => DA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)), fun c => window (KA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))), fun c => window (VA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))), fun c => lastRows (XA (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))), ?_, ?_⟩
  · exact kernel_run m g fun c b l k => reals _ _ _ _ _ (hpre c) b l k
  · have h := ref_run m' g'
    simp only [fun c => (hagree c).1, fun c => (hagree c).2.1, fun c => (hagree c).2.2.1, fun c => (hagree c).2.2.2.1, fun c => (hagree c).2.2.2.2] at h ⊢
    exact h

end Cert.Projection

end
-- ==== Proof.OutprojSpec.lean ====
module

public import Idealize.ShloMosaic.Lib.Pointwise

@[expose] public section

noncomputable section

open Idealize.ShloMosaic Idealize.ShloMosaic.TcCoe Idealize.SL.Sem

namespace Cert.OutprojSpec

/-- A token's residual: its input `x`, and its mixed heads `a` and `s` through the output weights `w`. -/
def res (x : Fin 1024 → EReal) (a s : Fin 512 → EReal) (w : Fin 1024 → Fin 1024 → EReal) (d : Fin 1024) : EReal :=
  x d + (∑ k : Fin 512, a k * w ⟨k, by omega⟩ d + ∑ k : Fin 512, s k * w ⟨512 + k, by omega⟩ d)

/-- A row `x` over the root of its mean square, weighted by `n`. -/
def rms (x n : Fin 1024 → EReal) (d : Fin 1024) : EReal :=
  x d * Ideal.rsqrt (Ideal.div (∑ k, x k * x k) (Ideal.ofBits .f32 0x44800000#32) + Ideal.ofBits .f32 0x358637BD#32) * n d

/-- A sum over two halves laid side by side. -/
theorem sum_halves (f : Fin 1024 → EReal) :
    ∑ k, f k = ∑ k : Fin 512, f ⟨k, by omega⟩ + ∑ k : Fin 512, f ⟨512 + k, by omega⟩ :=
  Fin.sum_univ_add (a := 512) (b := 512) f

end Cert.OutprojSpec

end
-- ==== Proof.OutprojValue.lean ====
module

public import proofs.«01_k».proof.Proof.Gen.OutprojIdeal.Value
public import proofs.«01_k».proof.Proof.OutprojSpec
public import Idealize.ShloMosaic.Lib.Pointwise
public import Idealize.ShloMosaic.Lib.Pipeline.ValueKit
public import Idealize.ShloMosaic.Lib.Pipeline.FrameTail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutprojIdeal.Outp

open Cert.OutprojIdeal Cert.OutprojIdeal.Gen Cert.OutprojSpec

variable (m : (ℓ : Loc nD τ sig) → Buf (Elt Ideal) ℓ)

/-- The layer's input. -/
abbrev Ax (c : Dev nD) : FVec Ideal S32768x1024 .f32 := m ((c : Thread nD τ).loc main_arg0)
/-- The attention heads. -/
abbrev Aa (c : Dev nD) : FVec Ideal S32768x512 .bf16 := m ((c : Thread nD τ).loc main_arg1)
/-- The recurrent heads. -/
abbrev As (c : Dev nD) : FVec Ideal S32768x512 .bf16 := m ((c : Thread nD τ).loc main_arg2)
/-- The output projection's weights. -/
abbrev Aw (c : Dev nD) : FVec Ideal S1024x1024 .f32 := m ((c : Thread nD τ).loc main_arg3)
/-- The second norm's weights. -/
abbrev An (c : Dev nD) : FVec Ideal S1024 .f32 := m ((c : Thread nD τ).loc main_arg4)

/-- The residual of token `R`. -/
def hrow (X : FVec Ideal S32768x1024 .f32) (A S : FVec Ideal S32768x512 .bf16) (W : FVec Ideal S1024x1024 .f32) (R : Fin 32768) : Fin 1024 → EReal :=
  res (fun k => X (ix2 R k)) (fun k => A (ix2 R k)) (fun k => S (ix2 R k)) (fun k d => W (ix2 k d))

/-- The residuals. -/
def HA (X : FVec Ideal S32768x1024 .f32) (A S : FVec Ideal S32768x512 .bf16) (W : FVec Ideal S1024x1024 .f32) : FVec Ideal S32768x1024 .f32 :=
  fun i => hrow X A S W (i 0) (i 1)

/-- The normalised tokens. -/
def TA (X : FVec Ideal S32768x1024 .f32) (A S : FVec Ideal S32768x512 .bf16) (W : FVec Ideal S1024x1024 .f32) (N : FVec Ideal S1024 .f32) : FVec Ideal S32768x1024 .bf16 :=
  fun i => rms (hrow X A S W (i 0)) (fun k => N (ix1 k)) (i 1)

theorem V_wa (c : Dev nD) (k : Fin 512) (d : Fin 1024) : (show FVec Ideal S512x1024 .bf16 from V m c main_v1) (ix2 k d) = Aw m c (ix2 ⟨k, by omega⟩ d) := by
  unfold V
  simp only [hostOps0, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

theorem V_ws (c : Dev nD) (k : Fin 512) (d : Fin 1024) : (show FVec Ideal S512x1024 .bf16 from V m c main_v3) (ix2 k d) = Aw m c (ix2 ⟨512 + k, by omega⟩ d) := by
  unfold V
  simp only [hostOps0, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

theorem V_n (c : Dev nD) (d : Fin 1024) : (show FVec Ideal S1x1024 .f32 from V m c main_v4) (ix2 0 d) = An m c (ix1 d) := by
  unfold V
  simp only [hostOps0, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

/-- The token that row `r` of the point's block is. -/
def row (t : Fin cfg0.N) (r : Fin 512) : Fin 32768 :=
  ⟨t.val * 512 + r, by have h := lt_of_lt_of_eq t.isLt N_0; omega⟩

/-- The windows' block indices. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_9.index t = ![t.val, 0] ∧ win0_10.index t = ![t.val, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_9.index t = ![t.val, 0] ∧ win0_10.index t = ![t.val, 0])

/-- The blocks of the point, read in the arguments. -/
theorem b_x (c : Dev nD) (t : Fin cfg0.N) (r : Fin 512) (j : Fin 1024) : (show FVec Ideal S512x1024 .f32 from iblk m c 0 t) (ix2 r j) = Ax m c (ix2 (row t r) j) := by
  unfold row; blk_ext [iblk, V, idx t]

theorem b_a (c : Dev nD) (t : Fin cfg0.N) (r : Fin 512) (j : Fin 512) : (show FVec Ideal S512x512 .bf16 from iblk m c 1 t) (ix2 r j) = Aa m c (ix2 (row t r) j) := by
  unfold row; blk_ext [iblk, V, idx t]

theorem b_s (c : Dev nD) (t : Fin cfg0.N) (r : Fin 512) (j : Fin 512) : (show FVec Ideal S512x512 .bf16 from iblk m c 2 t) (ix2 r j) = As m c (ix2 (row t r) j) := by
  unfold row; blk_ext [iblk, V, idx t]

theorem b_wa (c : Dev nD) (t : Fin cfg0.N) (k : Fin 512) (d : Fin 1024) : (show FVec Ideal S512x1024 .bf16 from iblk m c 3 t) (ix2 k d) = Aw m c (ix2 ⟨k, by omega⟩ d) := by
  rw [← V_wa]; blk_ext [iblk, idx t]

theorem b_ws (c : Dev nD) (t : Fin cfg0.N) (k : Fin 512) (d : Fin 1024) : (show FVec Ideal S512x1024 .bf16 from iblk m c 4 t) (ix2 k d) = Aw m c (ix2 ⟨512 + k, by omega⟩ d) := by
  rw [← V_ws]; blk_ext [iblk, idx t]

theorem b_n (c : Dev nD) (t : Fin cfg0.N) (d : Fin 1024) : (show FVec Ideal S1x1024 .f32 from iblk m c 5 t) (ix2 0 d) = An m c (ix1 d) := by
  rw [← V_n]; blk_ext [iblk, idx t]

/-- The residual of a block's row. -/
theorem pay2_at (x : FVec Ideal S512x1024 .f32) (a s : FVec Ideal S512x512 .bf16) (wa ws : FVec Ideal S512x1024 .bf16) (r : Fin 512) (d : Fin 1024) :
    k0_pay2 (F := Ideal) x a wa s ws (ix2 r d) = x (ix2 r d) + (∑ k, a (ix2 r k) * wa (ix2 k d) + ∑ k, s (ix2 r k) * ws (ix2 k d)) := by
  rw [← add_assoc]
  pointwise [k0_pay2]

/-- The normalised residual of a block's row. -/
theorem pay4_at (x : FVec Ideal S512x1024 .f32) (a s : FVec Ideal S512x512 .bf16) (wa ws : FVec Ideal S512x1024 .bf16) (n : FVec Ideal S1x1024 .f32) (r : Fin 512) (d : Fin 1024) :
    k0_pay4 (F := Ideal) x a wa s ws n (ix2 r d) = rms (fun d => k0_pay2 (F := Ideal) x a wa s ws (ix2 r d)) (fun d => n (ix2 0 d)) d := by
  unfold rms k0_pay4 k0_pay3
  generalize k0_pay2 (F := Ideal) x a wa s ws = h
  pointwise

theorem hrow_at (c : Dev nD) (t : Fin cfg0.N) (r : Fin 512) (d : Fin 1024) :
    k0_pay2 (F := Ideal) (iblk m c 0 t) (iblk m c 1 t) (iblk m c 3 t) (iblk m c 2 t) (iblk m c 4 t) (ix2 r d)
      = hrow (Ax m c) (Aa m c) (As m c) (Aw m c) (row t r) d := by
  refine (pay2_at _ _ _ _ _ r d).trans ?_
  simp only [b_x, b_a, b_s, b_wa, b_ws]
  rfl

set_option maxHeartbeats 2000000 in
/-- The array of the residuals that the kernel leaves. -/
theorem final_h (c : Dev nD) : (dats m 0 c).arrAt 9 (cfgs 0).N = HA (Ax m c) (Aa m c) (As m c) (Aw m c) := by
  refine (dats m 0 c).arrAt_eq_of_covers 9 _ (by decide +kernel) fun t _ y => ?_
  blk_simp
  rw [after0_9]; unfold out0_9; frame_out
  obtain ⟨r, d, rfl⟩ : ∃ (r : Fin 512) (d : Fin 1024), y = ix2 r d := ⟨y 0, y 1, eq_ix2 y⟩
  have hy : ((cfg0.win 9).blk t).view.emb (ix2 r d) = (ix2 (row t r) d : S32768x1024.Idx) := by
    unfold row; blk_ext [idx t]
  rw [show (((View.whole main_v23_0).slice (win0_9.rect t)).emb (ix2 r d)) = (ix2 (row t r) d : S32768x1024.Idx) from hy]
  exact hrow_at m c t r d

set_option maxHeartbeats 2000000 in
/-- The array of the normalised tokens that the kernel leaves. -/
theorem final_t (c : Dev nD) : (dats m 0 c).arrAt 10 (cfgs 0).N = TA (Ax m c) (Aa m c) (As m c) (Aw m c) (An m c) := by
  refine (dats m 0 c).arrAt_eq_of_covers 10 _ (by decide +kernel) fun t _ y => ?_
  blk_simp
  rw [after0_10]; unfold out0_10; frame_out
  obtain ⟨r, d, rfl⟩ : ∃ (r : Fin 512) (d : Fin 1024), y = ix2 r d := ⟨y 0, y 1, eq_ix2 y⟩
  have hy : ((cfg0.win 10).blk t).view.emb (ix2 r d) = (ix2 (row t r) d : S32768x1024.Idx) := by
    unfold row; blk_ext [idx t]
  rw [show (((View.whole main_v23_1).slice (win0_10.rect t)).emb (ix2 r d)) = (ix2 (row t r) d : S32768x1024.Idx) from hy]
  refine (pay4_at _ _ _ _ _ _ r d).trans ?_
  simp only [hrow_at, b_n]
  rfl

end Cert.OutprojIdeal.Outp

end
-- ==== Proof.OutprojClaim.lean ====
module

public import proofs.«01_k».proof.Defs
public import proofs.«01_k».proof.Proof.OutprojValue
public import proofs.«01_k».proof.Proof.Gen.OutprojRefIdeal
public import proofs.«01_k».proof.Proof.Gen.OutprojRefIdeal.Run
public import Idealize.ShloMosaic.Lib.Claim

@[expose] public section

set_option maxRecDepth 16384

noncomputable section

open Idealize.ShloMosaic Idealize.ShloMosaic.TcCoe Idealize.SL.Sem

namespace Cert.OutprojRefIdeal.Outp

open Cert.OutprojRefIdeal Cert.OutprojRefIdeal.Gen Cert.OutprojSpec

/-- The residuals as the reference computes them. -/
def RH (X : FVec Ideal S32768x1024 .f32) (A S : FVec Ideal S32768x512 .bf16) (W : FVec Ideal S1024x1024 .f32) : FVec Ideal S32768x1024 .f32 :=
  addf X (Host.dotGeneral dot_S32768x1024_S1024x1024_S32768x1024_1_0_0_1_n_n none (concatenate S32768x1024 1 [⟨S32768x512, (extf .f32 A bitsLt_bf16_f32)⟩, ⟨S32768x512, (extf .f32 S bitsLt_bf16_f32)⟩] concatenates_S32768x512_S32768x512_S32768x1024_d1) W)

/-- The normalised tokens as the reference computes them from the residuals. -/
def RT (H : FVec Ideal S32768x1024 .f32) (N : FVec Ideal S1024 .f32) : FVec Ideal S32768x1024 .bf16 :=
  truncf .bf16 (mulf (mulf H (broadcastInDim S32768x1024 ![0, 1] bcast_S32768x1_S32768x1024_0_1 (Host.rsqrt (addf (Host.divf (broadcastInDim S32768x1 ![0] bcast_S32768_S32768x1_0 (Host.reduceAdd (mulf H H) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 N))) bitsLt_bf16_f32

theorem RH_eq (X : FVec Ideal S32768x1024 .f32) (A S : FVec Ideal S32768x512 .bf16) (W : FVec Ideal S1024x1024 .f32) :
    RH X A S W = OutprojIdeal.Outp.HA X A S W := by
  refine funext fun i => ?_
  obtain ⟨R, d, rfl⟩ : ∃ (R : Fin 32768) (d : Fin 1024), i = ix2 R d := ⟨i 0, i 1, eq_ix2 i⟩
  show X _ + (Host.dotGeneral dot_S32768x1024_S1024x1024_S32768x1024_1_0_0_1_n_n none _ W (ix2 R d) : EReal) = X _ + _
  refine congrArg _ ?_
  refine Eq.trans (b := ∑ k : Fin 1024, (if h : (k : ℕ) < 512 then A (ix2 R ⟨k, h⟩) else S (ix2 R ⟨k - 512, by omega⟩)) * W (ix2 k d)) ?_ ?_
  · pointwise
  · rw [sum_halves]
    refine congrArg₂ (· + ·) (Finset.sum_congr rfl fun k _ => ?_) (Finset.sum_congr rfl fun k _ => ?_)
    · rw [dif_pos k.isLt]; rfl
    · rw [dif_neg (by show ¬ (512 + (k : ℕ) < 512); omega)]
      exact congrArg (fun q : Fin 512 => S (ix2 R q) * W (ix2 ⟨512 + k, by omega⟩ d)) (Fin.ext (by show 512 + (k : ℕ) - 512 = k; omega))

theorem RT_at (H : FVec Ideal S32768x1024 .f32) (N : FVec Ideal S1024 .f32) (R : Fin 32768) (d : Fin 1024) :
    RT H N (ix2 R d) = rms (fun d => H (ix2 R d)) (fun k => N (ix1 k)) d := by
  unfold rms
  pointwise [RT]

theorem RT_eq (X : FVec Ideal S32768x1024 .f32) (A S : FVec Ideal S32768x512 .bf16) (W : FVec Ideal S1024x1024 .f32) (N : FVec Ideal S1024 .f32) :
    RT (RH X A S W) N = OutprojIdeal.Outp.TA X A S W N := by
  refine funext fun i => ?_
  obtain ⟨R, d, rfl⟩ : ∃ (R : Fin 32768) (d : Fin 1024), i = ix2 R d := ⟨i 0, i 1, eq_ix2 i⟩
  rw [RH_eq]
  exact RT_at _ _ R d

end Cert.OutprojRefIdeal.Outp

namespace Cert.OutputProjection

/-- The output projection's kernel and the plain mathematics of the projection and the second norm, run on the same nine
arrays, end with equal residuals and equal normalised tokens over the extended reals. -/
theorem algebraic : Cert.algebraic_OutprojIdeal_OutprojRefIdeal := by
  pair_intro
  · run_from Cert.OutprojIdeal.Gen.run_main m g
  · run_from Cert.OutprojRefIdeal.Value.run m' g'
    · refine (Cert.OutprojRefIdeal.Outp.RH_eq _ _ _ _).trans ?_
      rw [(hagree c).2.1, (hagree c).2.2.1]
      exact (Cert.OutprojIdeal.Outp.final_h m c).symm
    · refine (Cert.OutprojRefIdeal.Outp.RT_eq _ _ _ _ _).trans ?_
      rw [(hagree c).2.1, (hagree c).2.2.1]
      exact (Cert.OutprojIdeal.Outp.final_t m c).symm

end Cert.OutputProjection

end
-- ==== Proof.AttnSampleValue.lean ====
module

public import proofs.«01_k».proof.Proof.Gen.AttnSampleIdeal.Value
public import Idealize.ShloMosaic.Lib.Pointwise
public import Idealize.ShloMosaic.Lib.Pipeline.ValueKit
public import Idealize.ShloMosaic.Lib.Pipeline.FrameTail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnSampleIdeal.Samp

open Cert.AttnSampleIdeal Cert.AttnSampleIdeal.Gen

variable (m : (ℓ : Loc nD τ sig) → Buf (Elt Ideal) ℓ)

/-- The new keys. -/
abbrev Ak (c : Dev nD) : FVec Ideal S128x128 .f32 := m ((c : Thread nD τ).loc main_arg1)
/-- The new values. -/
abbrev Av (c : Dev nD) : FVec Ideal S128x128 .f32 := m ((c : Thread nD τ).loc main_arg2)
/-- The window's keys. -/
abbrev Awk (c : Dev nD) : FVec Ideal S1x128x128x2x64 .f32 := m ((c : Thread nD τ).loc main_arg3)
/-- The window's values. -/
abbrev Awv (c : Dev nD) : FVec Ideal S1x128x128x2x64 .f32 := m ((c : Thread nD τ).loc main_arg4)

/-- The window `W` of a sample moved on by one position, the new row `n` behind it. -/
def shifted (W : FVec Ideal S1x128x128x2x64 .f32) (n : FVec Ideal S128x128 .f32) (b p l : Fin 128) : EReal :=
  if h : (p : ℕ) < 127 then W (ix5 0 b ⟨p + 1, by omega⟩ ⟨l / 64, by omega⟩ ⟨l % 64, by omega⟩) else n (ix2 b l)

/-- The windows of all samples moved on. -/
def SH (W : FVec Ideal S1x128x128x2x64 .f32) (n : FVec Ideal S128x128 .f32) : FVec Ideal S128x128x128 .f32 :=
  fun i => shifted W n (i 0) (i 1) (i 2)

/-- The window's keys as the call takes them, the two heads side by side. -/
theorem V_wk (c : Dev nD) (b p l : Fin 128) : (show FVec Ideal S128x128x128 .f32 from V m c main_v20) (ix3 b p l)
    = Awk m c (ix5 0 b p ⟨l / 64, by omega⟩ ⟨l % 64, by omega⟩) := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

/-- The window's values as the call takes them. -/
theorem V_wv (c : Dev nD) (b p l : Fin 128) : (show FVec Ideal S128x128x128 .f32 from V m c main_v22) (ix3 b p l)
    = Awv m c (ix5 0 b p ⟨l / 64, by omega⟩ ⟨l % 64, by omega⟩) := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

/-- The new keys as the call takes them. -/
theorem V_k (c : Dev nD) (b l : Fin 128) : (show FVec Ideal S128x1x128 .f32 from V m c main_v23) (ix3 b 0 l) = Ak m c (ix2 b l) := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

/-- The new values as the call takes them. -/
theorem V_v (c : Dev nD) (b l : Fin 128) : (show FVec Ideal S128x1x128 .f32 from V m c main_v24) (ix3 b 0 l) = Av m c (ix2 b l) := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

/-- The sample that place `r` of the point's block is. -/
def row (t : Fin cfg0.N) (r : Fin 8) : Fin 128 :=
  ⟨t.val * 8 + r, by have h := lt_of_lt_of_eq t.isLt N_0; omega⟩

/-- The windows' block indices. -/
theorem idx : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![0, 0] ∧ win0_6.index t = ![t.val, 0, 0] ∧ win0_7.index t = ![t.val, 0, 0] ∧ win0_8.index t = ![t.val, 0] :=
  (by decide +kernel : ∀ t : Fin grid0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![0, 0] ∧ win0_6.index t = ![t.val, 0, 0] ∧ win0_7.index t = ![t.val, 0, 0] ∧ win0_8.index t = ![t.val, 0])

theorem b_wk (c : Dev nD) (t : Fin cfg0.N) (r : Fin 8) (p l : Fin 128) : (show FVec Ideal S8x128x128 .f32 from iblk m c 1 t) (ix3 r p l)
    = Awk m c (ix5 0 (row t r) p ⟨l / 64, by omega⟩ ⟨l % 64, by omega⟩) := by
  rw [← V_wk]; unfold row; blk_ext [iblk, idx t]

theorem b_wv (c : Dev nD) (t : Fin cfg0.N) (r : Fin 8) (p l : Fin 128) : (show FVec Ideal S8x128x128 .f32 from iblk m c 3 t) (ix3 r p l)
    = Awv m c (ix5 0 (row t r) p ⟨l / 64, by omega⟩ ⟨l % 64, by omega⟩) := by
  rw [← V_wv]; unfold row; blk_ext [iblk, idx t]

theorem b_k (c : Dev nD) (t : Fin cfg0.N) (r : Fin 8) (l : Fin 128) : (show FVec Ideal S8x1x128 .f32 from iblk m c 2 t) (ix3 r 0 l) = Ak m c (ix2 (row t r) l) := by
  rw [← V_k]; unfold row; blk_ext [iblk, idx t]

theorem b_v (c : Dev nD) (t : Fin cfg0.N) (r : Fin 8) (l : Fin 128) : (show FVec Ideal S8x1x128 .f32 from iblk m c 4 t) (ix3 r 0 l) = Av m c (ix2 (row t r) l) := by
  rw [← V_v]; unfold row; blk_ext [iblk, idx t]

/-- A block of windows moved on. -/
def shBlk (w : FVec Ideal S8x128x128 .f32) (n : FVec Ideal S8x1x128 .f32) (r : Fin 8) (p l : Fin 128) : EReal :=
  if h : (p : ℕ) < 127 then w (ix3 r ⟨p + 1, by omega⟩ l) else n (ix3 r 0 l)

theorem sh_k (c : Dev nD) (t : Fin cfg0.N) (r : Fin 8) (p l : Fin 128) : shBlk (iblk m c 1 t) (iblk m c 2 t) r p l = shifted (Awk m c) (Ak m c) (row t r) p l := by
  unfold shBlk shifted
  split
  · exact b_wk m c t r _ l
  · exact b_k m c t r l

theorem sh_v (c : Dev nD) (t : Fin cfg0.N) (r : Fin 8) (p l : Fin 128) : shBlk (iblk m c 3 t) (iblk m c 4 t) r p l = shifted (Awv m c) (Av m c) (row t r) p l := by
  unfold shBlk shifted
  split
  · exact b_wv m c t r _ l
  · exact b_v m c t r l

theorem back_old (v : FVec Ideal S1x127x128 .f32) (x : S1x127x128.Idx) :
    shapeCast S1x127x128 (shapeCast S127x128 v shapeCasts_S1x127x128_S127x128) shapeCasts_S127x128_S1x127x128 x = v x := by
  obtain ⟨a, p, l, rfl⟩ : ∃ (a : Fin 1) (p : Fin 127) (l : Fin 128), x = ix3 a p l := ⟨x 0, x 1, x 2, eq_ix3 x⟩
  obtain rfl : a = 0 := Subsingleton.elim _ _
  pointwise

theorem back_new (v : FVec Ideal S1x1x128 .f32) (x : S1x1x128.Idx) :
    shapeCast S1x1x128 (shapeCast S1x128 v shapeCasts_S1x1x128_S1x128) shapeCasts_S1x128_S1x1x128 x = v x := by
  obtain ⟨a, p, l, rfl⟩ : ∃ (a p : Fin 1) (l : Fin 128), x = ix3 a p l := ⟨x 0, x 1, x 2, eq_ix3 x⟩
  obtain rfl : a = 0 := Subsingleton.elim _ _
  obtain rfl : p = 0 := Subsingleton.elim _ _
  pointwise

/-- What is stored of the old window is the moved window there. -/
theorem old_piece (w : FVec Ideal S8x128x128 .f32) (n : FVec Ideal S8x1x128 .f32) (o : ℕ) (inb : ∀ a, ![o, 1, 0] a + ![1, 127, 128] a ≤ S8x128x128.size a)
    (x : S1x127x128.Idx) (y : S8x128x128.Idx) (h0 : (y 0 : ℕ) = o + (x 0 : ℕ)) (h1 : (y 1 : ℕ) = x 1) (h2 : (y 2 : ℕ) = x 2) :
    (show EReal from View.ld (Val := Elt Ideal) (e' := .f32) w (Rect.unit ![o, 1, 0] ![1, 127, 128] inb) x) = shBlk w n (y 0) (y 1) (y 2) := by
  have hx : (x 1 : ℕ) < 127 := (x 1).isLt
  unfold shBlk
  rw [dif_pos (by omega)]
  refine congrArg w (funext fun a => Fin.ext ?_)
  fin_cases a
  · exact (Rect.idx_unit_val ..).trans h0.symm
  · exact (Rect.idx_unit_val ..).trans (by show 1 + (x 1 : ℕ) = (y 1 : ℕ) + 1; omega)
  · exact (Rect.idx_unit_val ..).trans (by show 0 + (x 2 : ℕ) = (y 2 : ℕ); omega)

/-- What is stored of the new row is the moved window's last row. -/
theorem new_piece (w : FVec Ideal S8x128x128 .f32) (n : FVec Ideal S8x1x128 .f32) (o : ℕ) (inb : ∀ a, ![o, 0, 0] a + ![1, 1, 128] a ≤ S8x1x128.size a)
    (x : S1x1x128.Idx) (y : S8x128x128.Idx) (h0 : (y 0 : ℕ) = o + (x 0 : ℕ)) (h1 : (y 1 : ℕ) = 127 + x 1) (h2 : (y 2 : ℕ) = x 2) :
    (show EReal from View.ld (Val := Elt Ideal) (e' := .f32) n (Rect.unit ![o, 0, 0] ![1, 1, 128] inb) x) = shBlk w n (y 0) (y 1) (y 2) := by
  have hx : (x 1 : ℕ) < 1 := (x 1).isLt
  unfold shBlk
  rw [dif_neg (by omega)]
  refine congrArg n (funext fun a => Fin.ext ?_)
  fin_cases a
  · exact (Rect.idx_unit_val ..).trans h0.symm
  · exact (Rect.idx_unit_val ..).trans (by show 0 + (x 1 : ℕ) = 0; omega)
  · exact (Rect.idx_unit_val ..).trans (by show 0 + (x 2 : ℕ) = (y 2 : ℕ); omega)

set_option maxHeartbeats 2000000 in
/-- The block of keys that a point leaves. -/
theorem canon_k (c : Dev nD) (t : Fin cfg0.N) (y : S8x128x128.Idx) : (dats m 0 c).after 6 t y = shBlk (iblk m c 1 t) (iblk m c 2 t) (y 0) (y 1) (y 2) := by
  rw [after0_6]; unfold Gen.outsAt0; frame_out
  generalize iblk m c 1 t = w
  generalize iblk m c 2 t = n
  canon_tiles x h using (View.cover_of_tiledBy _ ![1, 1, 128] (by sl_kernel_rfl) y)
  all_goals open_payloads
  all_goals first
    | exact (back_new _ x).trans (new_piece w n _ _ x y (by omega) (by omega) (by omega))
    | exact (back_old _ x).trans (old_piece w n _ _ x y (by omega) (by omega) (by omega))

set_option maxHeartbeats 2000000 in
/-- The block of values that a point leaves. -/
theorem canon_v (c : Dev nD) (t : Fin cfg0.N) (y : S8x128x128.Idx) : (dats m 0 c).after 7 t y = shBlk (iblk m c 3 t) (iblk m c 4 t) (y 0) (y 1) (y 2) := by
  rw [after0_7]; unfold Gen.outsAt0; frame_out
  generalize iblk m c 3 t = w
  generalize iblk m c 4 t = n
  canon_tiles x h using (View.cover_of_tiledBy _ ![1, 1, 128] (by sl_kernel_rfl) y)
  all_goals open_payloads
  all_goals first
    | exact (back_new _ x).trans (new_piece w n _ _ x y (by omega) (by omega) (by omega))
    | exact (back_old _ x).trans (old_piece w n _ _ x y (by omega) (by omega) (by omega))

set_option maxHeartbeats 2000000 in
/-- The keys' windows that the kernel leaves. -/
theorem final_k (c : Dev nD) : (dats m 0 c).arrAt 6 (cfgs 0).N = SH (Awk m c) (Ak m c) := by
  refine (dats m 0 c).arrAt_eq_of_covers 6 _ (by decide +kernel) fun t _ y => ?_
  blk_simp
  obtain ⟨r, p, l, rfl⟩ : ∃ (r : Fin 8) (p l : Fin 128), y = ix3 r p l := ⟨y 0, y 1, y 2, eq_ix3 y⟩
  have hy : ((cfg0.win 6).blk t).view.emb (ix3 r p l) = (ix3 (row t r) p l : S128x128x128.Idx) := by
    unfold row; blk_ext [idx t]
  rw [show (((View.whole main_v25_0).slice (win0_6.rect t)).emb (ix3 r p l)) = (ix3 (row t r) p l : S128x128x128.Idx) from hy]
  exact (canon_k m c t (ix3 r p l)).trans (sh_k m c t r p l)

set_option maxHeartbeats 2000000 in
/-- The values' windows that the kernel leaves. -/
theorem final_v (c : Dev nD) : (dats m 0 c).arrAt 7 (cfgs 0).N = SH (Awv m c) (Av m c) := by
  refine (dats m 0 c).arrAt_eq_of_covers 7 _ (by decide +kernel) fun t _ y => ?_
  blk_simp
  obtain ⟨r, p, l, rfl⟩ : ∃ (r : Fin 8) (p l : Fin 128), y = ix3 r p l := ⟨y 0, y 1, y 2, eq_ix3 y⟩
  have hy : ((cfg0.win 7).blk t).view.emb (ix3 r p l) = (ix3 (row t r) p l : S128x128x128.Idx) := by
    unfold row; blk_ext [idx t]
  rw [show (((View.whole main_v25_1).slice (win0_7.rect t)).emb (ix3 r p l)) = (ix3 (row t r) p l : S128x128x128.Idx) from hy]
  exact (canon_v m c t (ix3 r p l)).trans (sh_v m c t r p l)

end Cert.AttnSampleIdeal.Samp

end
-- ==== Proof.AttnSampleClaim.lean ====
module

public import proofs.«01_k».proof.Defs
public import proofs.«01_k».proof.Proof.AttnSampleValue
public import proofs.«01_k».proof.Proof.Gen.AttnSampleRefIdeal
public import proofs.«01_k».proof.Proof.Gen.AttnSampleRefIdeal.Run
public import Idealize.ShloMosaic.Lib.Claim

@[expose] public section

set_option maxRecDepth 16384

noncomputable section

open Idealize.ShloMosaic Idealize.ShloMosaic.TcCoe Idealize.SL.Sem

namespace Cert.AttnSampleRefIdeal.Samp

open Cert.AttnSampleRefIdeal Cert.AttnSampleRefIdeal.Gen

/-- The windows as the reference moves them on: the new row set behind the old window, and the last 128 rows taken. -/
def RW (W : FVec Ideal S1x128x128x2x64 .f32) (n : FVec Ideal S128x128 .f32) : FVec Ideal S128x128x128 .f32 :=
  shapeCast S128x128x128 (extractStridedSlice S128x128x2x64 ![0, 1, 0, 0] (concatenate S128x129x2x64 1 [⟨S128x128x2x64, shapeCast S128x128x2x64 W shapeCasts_S1x128x128x2x64_S128x128x2x64⟩, ⟨S128x1x2x64, shapeCast S128x1x2x64 n shapeCasts_S128x128_S128x1x2x64⟩] concatenates_S128x128x2x64_S128x1x2x64_S128x129x2x64_d1) slices_S128x129x2x64_S128x128x2x64_0_1_0_0) shapeCasts_S128x128x2x64_S128x128x128

theorem RW_eq (W : FVec Ideal S1x128x128x2x64 .f32) (n : FVec Ideal S128x128 .f32) : RW W n = AttnSampleIdeal.Samp.SH W n := by
  refine funext fun i => ?_
  obtain ⟨b, p, l, rfl⟩ : ∃ (b p l : Fin 128), i = ix3 b p l := ⟨i 0, i 1, i 2, eq_ix3 i⟩
  show _ = AttnSampleIdeal.Samp.shifted W n b p l
  unfold AttnSampleIdeal.Samp.shifted
  pointwise [RW]
  by_cases hp : (p : ℕ) < 127
  · rw [dif_pos (by omega), dif_pos hp]
    exact congrArg (fun q : Fin 128 => W (ix5 0 b q ⟨l / 64, by omega⟩ ⟨l % 64, by omega⟩)) (Fin.ext (Nat.add_comm 1 p))
  · rw [dif_neg (by omega), dif_neg hp]

end Cert.AttnSampleRefIdeal.Samp

namespace Cert.SampleWindows

/-- The samples' attention kernel and the plain mathematics, run on the same six arrays, end with equal windows of keys and
of values over the extended reals. -/
theorem algebraic : Cert.algebraic_AttnSampleIdeal_AttnSampleRefIdeal := by
  pair_intro
  · run_from Cert.AttnSampleIdeal.Gen.run_main m g
    · exact Cert.AttnSampleIdeal.Gen.V_main_arg0 m c
    · exact Cert.AttnSampleIdeal.Gen.V_main_arg1 m c
    · exact Cert.AttnSampleIdeal.Gen.V_main_arg2 m c
    · exact Cert.AttnSampleIdeal.Gen.V_main_arg3 m c
    · exact Cert.AttnSampleIdeal.Gen.V_main_arg4 m c
    · exact Cert.AttnSampleIdeal.Gen.V_main_arg5 m c
  · run_from Cert.AttnSampleRefIdeal.Value.run m' g'
    · refine (Cert.AttnSampleRefIdeal.Samp.RW_eq _ _).trans ?_
      rw [(hagree c).2.1, (hagree c).2.2.2.1]
      exact (Cert.AttnSampleIdeal.Samp.final_k m c).symm
    · refine (Cert.AttnSampleRefIdeal.Samp.RW_eq _ _).trans ?_
      rw [(hagree c).2.2.1, (hagree c).2.2.2.2.1]
      exact (Cert.AttnSampleIdeal.Samp.final_v m c).symm

end Cert.SampleWindows

end
-- ==== Proof.SsdSampleValue.lean ====
module

public import proofs.«01_k».proof.Proof.Gen.SsdSampleIdeal.Value
public import Idealize.ShloMosaic.Lib.Pointwise
public import Idealize.ShloMosaic.Lib.Pipeline.ValueKit
public import Idealize.ShloMosaic.Lib.Pipeline.FrameTail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SsdSampleIdeal.Conv

open Cert.SsdSampleIdeal Cert.SsdSampleIdeal.Gen

variable (m : (ℓ : Loc nD τ sig) → Buf (Elt Ideal) ℓ)

/-- The new inputs of the convolution. -/
abbrev Ax (c : Dev nD) : FVec Ideal S128x1024 .f32 := m ((c : Thread nD τ).loc main_arg0)
/-- The last three inputs of the convolution before them. -/
abbrev Ap (c : Dev nD) : FVec Ideal S1x128x3x1024 .f32 := m ((c : Thread nD τ).loc main_arg3)

/-- The last three inputs `P` of a sample moved on by one position, the new input `x` behind them. -/
def shifted (P : FVec Ideal S1x128x3x1024 .f32) (x : FVec Ideal S128x1024 .f32) (j : Fin 3) (b : Fin 128) (l : Fin 1024) : EReal :=
  if h : (j : ℕ) < 2 then P (ix4 0 b ⟨j + 1, by omega⟩ l) else x (ix2 b l)

/-- The convolution's states of all samples moved on, the position leading. -/
def SH (P : FVec Ideal S1x128x3x1024 .f32) (x : FVec Ideal S128x1024 .f32) : FVec Ideal S3x128x1024 .f32 :=
  fun i => shifted P x (i 0) (i 1) (i 2)

/-- The convolution's state as the call takes it, the position leading. -/
theorem V_p (c : Dev nD) (j : Fin 3) (b : Fin 128) (l : Fin 1024) : (show FVec Ideal S3x128x1024 .f32 from V m c main_v16) (ix3 j b l)
    = Ap m c (ix4 0 b j l) := by
  unfold V
  simp only [hostOps0, hostOps0_1, hostOps0_2, hostOps0_3, hostOps0_4, List.flatten_cons, List.flatten_nil, List.append_nil, List.cons_append, List.nil_append,
    StableHlo.TRef.nullary, StableHlo.TRef.unary, StableHlo.TRef.binary, StableHlo.TRef.ternary, StableHlo.TRef.toBuf, StableHlo.TRef.ofBuf, cast_eq]
  after_results_simp
  pointwise

/-- The sample that place `r` of the point's block is. -/
def row (t : Fin cfg0.N) (r : Fin 16) : Fin 128 :=
  ⟨t.val * 16 + r, by have h := lt_of_lt_of_eq t.isLt N_0; omega⟩

/-- The block indices of the windows used here. -/
theorem idx : ∀ t : Fin cfg0.N, win0_0.index t = ![t.val, 0] ∧ win0_3.index t = ![0, t.val, 0] ∧ win0_12.index t = ![0, t.val, 0] :=
  (by decide +kernel : ∀ t : Fin grid0.N, win0_0.index t = ![t.val, 0] ∧ win0_3.index t = ![0, t.val, 0] ∧ win0_12.index t = ![0, t.val, 0])

theorem b_p (c : Dev nD) (t : Fin cfg0.N) (j : Fin 3) (r : Fin 16) (l : Fin 1024) : (show FVec Ideal S3x16x1024 .f32 from iblk m c 3 t) (ix3 j r l)
    = Ap m c (ix4 0 (row t r) j l) := by
  rw [← V_p]; unfold row; blk_ext [iblk, idx t]

theorem b_x (c : Dev nD) (t : Fin cfg0.N) (r : Fin 16) (l : Fin 1024) : (show FVec Ideal S16x1024 .f32 from iblk m c 0 t) (ix2 r l)
    = Ax m c (ix2 (row t r) l) := by
  show _ = m ((c : Thread nD τ).loc main_arg0) (ix2 (row t r) l)
  rw [← V_main_arg0 m c]; unfold row; blk_ext [iblk, idx t]

/-- A block of convolution states moved on. -/
def shBlk (p : FVec Ideal S3x16x1024 .f32) (x : FVec Ideal S16x1024 .f32) (j : Fin 3) (r : Fin 16) (l : Fin 1024) : EReal :=
  if h : (j : ℕ) < 2 then p (ix3 ⟨j + 1, by omega⟩ r l) else x (ix2 r l)

theorem sh_c (c : Dev nD) (t : Fin cfg0.N) (j : Fin 3) (r : Fin 16) (l : Fin 1024) :
    shBlk (iblk m c 3 t) (iblk m c 0 t) j r l = shifted (Ap m c) (Ax m c) j (row t r) l := by
  unfold shBlk shifted
  split
  · exact b_p m c t _ r l
  · exact b_x m c t r l

/-- Dropping and restoring the leading unit axis changes nothing. -/
theorem back (v : FVec Ideal S1x16x1024 .f32) (x : S1x16x1024.Idx) :
    shapeCast S1x16x1024 (shapeCast S16x1024 v shapeCasts_S1x16x1024_S16x1024) shapeCasts_S16x1024_S1x16x1024 x = v x := by
  obtain ⟨a, r, l, rfl⟩ : ∃ (a : Fin 1) (r : Fin 16) (l : Fin 1024), x = ix3 a r l := ⟨x 0, x 1, x 2, eq_ix3 x⟩
  obtain rfl : a = 0 := Subsingleton.elim _ _
  pointwise

/-- What is stored of the old state is the moved state there. -/
theorem old_piece (p : FVec Ideal S3x16x1024 .f32) (n : FVec Ideal S16x1024 .f32) (o : ℕ) (inb : ∀ a, ![o + 1, 0, 0] a + ![1, 16, 1024] a ≤ S3x16x1024.size a)
    (x : S1x16x1024.Idx) (y : S3x16x1024.Idx) (h0 : (y 0 : ℕ) = o + (x 0 : ℕ)) (h1 : (y 1 : ℕ) = x 1) (h2 : (y 2 : ℕ) = x 2) :
    (show EReal from View.ld (Val := Elt Ideal) (e' := .f32) p (Rect.unit ![o + 1, 0, 0] ![1, 16, 1024] inb) x) = shBlk p n (y 0) (y 1) (y 2) := by
  have hx : (x 0 : ℕ) < 1 := (x 0).isLt
  have ho : o + 1 + 1 ≤ 3 := inb 0
  unfold shBlk
  rw [dif_pos (by omega)]
  refine congrArg p (funext fun a => Fin.ext ?_)
  fin_cases a
  · exact (Rect.idx_unit_val ..).trans (by show o + 1 + (x 0 : ℕ) = (y 0 : ℕ) + 1; omega)
  · exact (Rect.idx_unit_val ..).trans (by show 0 + (x 1 : ℕ) = (y 1 : ℕ); omega)
  · exact (Rect.idx_unit_val ..).trans (by show 0 + (x 2 : ℕ) = (y 2 : ℕ); omega)

/-- What is stored of the new input is the moved state's last position. -/
theorem new_piece (p : FVec Ideal S3x16x1024 .f32) (n : FVec Ideal S16x1024 .f32)
    (x : S1x16x1024.Idx) (y : S3x16x1024.Idx) (h0 : (y 0 : ℕ) = 2 + (x 0 : ℕ)) (h1 : (y 1 : ℕ) = x 1) (h2 : (y 2 : ℕ) = x 2) :
    shapeCast S1x16x1024 n shapeCasts_S16x1024_S1x16x1024 x = shBlk p n (y 0) (y 1) (y 2) := by
  unfold shBlk
  rw [dif_neg (by omega)]
  obtain ⟨a, r, l, rfl⟩ : ∃ (a : Fin 1) (r : Fin 16) (l : Fin 1024), x = ix3 a r l := ⟨x 0, x 1, x 2, eq_ix3 x⟩
  obtain rfl : a = 0 := Subsingleton.elim _ _
  have e1 : (y 1 : Fin 16) = r := Fin.ext h1
  have e2 : (y 2 : Fin 1024) = l := Fin.ext h2
  refine Eq.trans (b := n (ix2 r l)) ?_ (by rw [← e1, ← e2])
  pointwise

set_option maxHeartbeats 2000000 in
/-- The block of convolution states that a point leaves. -/
theorem canon_c (c : Dev nD) (t : Fin cfg0.N) (y : S3x16x1024.Idx) : (dats m 0 c).after 12 t y = shBlk (iblk m c 3 t) (iblk m c 0 t) (y 0) (y 1) (y 2) := by
  rw [after0_12]
  generalize iblk m c 0 t = n
  generalize iblk m c 3 t = p
  unfold out0_12
  canon_tiles x h using (cover0_12 _ _ _ y)
  all_goals open_payloads
  · exact new_piece p n x y h0 h1 h2
  · exact (back _ x).trans (old_piece p n 1 inb_S3x16x1024_S1x16x1024_2_0_0 x y h0 h1 h2)
  · exact (back _ x).trans (old_piece p n 0 inb_S3x16x1024_S1x16x1024_1_0_0 x y (h0.trans (Nat.zero_add _).symm) h1 h2)

set_option maxHeartbeats 2000000 in
/-- The convolution's states that the kernel leaves. -/
theorem final_c (c : Dev nD) : (dats m 0 c).arrAt 12 (cfgs 0).N = SH (Ap m c) (Ax m c) := by
  refine (dats m 0 c).arrAt_eq_of_covers 12 _ (by decide +kernel) fun t _ y => ?_
  blk_simp
  obtain ⟨j, r, l, rfl⟩ : ∃ (j : Fin 3) (r : Fin 16) (l : Fin 1024), y = ix3 j r l := ⟨y 0, y 1, y 2, eq_ix3 y⟩
  have hy : ((cfg0.win 12).blk t).view.emb (ix3 j r l) = (ix3 j (row t r) l : S3x128x1024.Idx) := by
    unfold row; blk_ext [idx t]
  rw [show (((View.whole main_v19_1).slice (win0_12.rect t)).emb (ix3 j r l)) = (ix3 j (row t r) l : S3x128x1024.Idx) from hy]
  exact (canon_c m c t (ix3 j r l)).trans (sh_c m c t j r l)

end Cert.SsdSampleIdeal.Conv

end
-- ==== Proof.SsdSampleClaim.lean ====
module

public import proofs.«01_k».proof.Defs
public import proofs.«01_k».proof.Proof.SsdSampleValue
public import proofs.«01_k».proof.Proof.Gen.SsdSampleRefIdeal
public import proofs.«01_k».proof.Proof.Gen.SsdSampleRefIdeal.Run
public import Idealize.ShloMosaic.Lib.Claim

@[expose] public section

set_option maxRecDepth 16384

noncomputable section

open Idealize.ShloMosaic Idealize.ShloMosaic.TcCoe Idealize.SL.Sem

namespace Cert.SsdSampleRefIdeal.Conv

open Cert.SsdSampleRefIdeal Cert.SsdSampleRefIdeal.Gen

/-- The convolution's states as the reference moves them on: the new input set behind the last three, and the last three of
the four taken, the position leading. -/
def RC (P : FVec Ideal S1x128x3x1024 .f32) (x : FVec Ideal S128x1024 .f32) : FVec Ideal S3x128x1024 .f32 :=
  transpose S3x128x1024 [1, 0, 2] (extractStridedSlice S128x3x1024 ![0, 1, 0] (concatenate S128x4x1024 1 [⟨S128x3x1024, shapeCast S128x3x1024 P shapeCasts_S1x128x3x1024_S128x3x1024⟩, ⟨S128x1x1024, shapeCast S128x1x1024 x shapeCasts_S128x1024_S128x1x1024⟩] concatenates_S128x3x1024_S128x1x1024_S128x4x1024_d1) slices_S128x4x1024_S128x3x1024_0_1_0) transposes_S128x3x1024_S3x128x1024_1_0_2

theorem RC_eq (P : FVec Ideal S1x128x3x1024 .f32) (x : FVec Ideal S128x1024 .f32) : RC P x = SsdSampleIdeal.Conv.SH P x := by
  refine funext fun i => ?_
  obtain ⟨j, b, l, rfl⟩ : ∃ (j : Fin 3) (b : Fin 128) (l : Fin 1024), i = ix3 j b l := ⟨i 0, i 1, i 2, eq_ix3 i⟩
  show _ = SsdSampleIdeal.Conv.shifted P x j b l
  unfold SsdSampleIdeal.Conv.shifted
  pointwise [RC]
  by_cases hj : (j : ℕ) < 2
  · rw [dif_pos (by omega), dif_pos hj]
    exact congrArg (fun q : Fin 3 => P (ix4 0 b q l)) (Fin.ext (Nat.add_comm 1 j))
  · rw [dif_neg (by omega), dif_neg hj]

end Cert.SsdSampleRefIdeal.Conv

namespace Cert.SampleRecurrence

set_option maxHeartbeats 2000000 in
/-- The samples' recurrence kernel and the plain mathematics, run on the same eleven arrays, end with equal states of the
convolution over the extended reals. -/
theorem algebraic : Cert.algebraic_SsdSampleIdeal_SsdSampleRefIdeal := by
  pair_intro
  · run_from Cert.SsdSampleIdeal.Gen.run_main m g
    · exact Cert.SsdSampleIdeal.Gen.V_main_arg3 m c
    · exact Cert.SsdSampleIdeal.Gen.V_main_arg4 m c
    · exact Cert.SsdSampleIdeal.Gen.V_main_arg5 m c
    · exact Cert.SsdSampleIdeal.Gen.V_main_arg6 m c
    · exact Cert.SsdSampleIdeal.Gen.V_main_arg7 m c
    · exact Cert.SsdSampleIdeal.Gen.V_main_arg8 m c
    · exact Cert.SsdSampleIdeal.Gen.V_main_arg9 m c
    · exact Cert.SsdSampleIdeal.Gen.V_main_arg10 m c
  · run_from Cert.SsdSampleRefIdeal.Value.run m' g'
    refine (Cert.SsdSampleRefIdeal.Conv.RC_eq _ _).trans ?_
    rw [(hagree c).2.2.2.1]
    exact (Cert.SsdSampleIdeal.Conv.final_c m c).symm

end Cert.SampleRecurrence

end
-- ==== Proof.MoeSampleMath.lean ====
module

public import proofs.«01_k».proof.Proof.Gen.MoeSampleIdeal.Skeleton
public import proofs.«01_k».proof.Proof.Gen.MoeSampleRefIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.MoeSampleIdeal.Ffn

open Cert.MoeSampleIdeal Cert.MoeSampleIdeal.Gen

/-- What one pair of experts adds to a row: the 256 hidden lanes (the first 128 the pair's first expert's, the
    others the second's), each `silu (gate) · up · weight`, against the pair's rows of the down projection. -/
def pairAdd (v0 : FVec Ideal S128x1024 .bf16) (w1 : FVec Ideal S1x1024x512 .bf16) (ca cb : FVec Ideal S128x1 .f32)
    (w2 : FVec Ideal S1x256x1024 .bf16) (r : Fin 128) (d : Fin 1024) : EReal :=
  ∑ x : Fin 256,
    ((∑ k : Fin 1024, v0 (ix2 r k) * w1 (ix3 0 k ⟨x, by omega⟩)) *
          Ideal.logistic (∑ k : Fin 1024, v0 (ix2 r k) * w1 (ix3 0 k ⟨x, by omega⟩)) *
        ∑ k : Fin 1024, v0 (ix2 r k) * w1 (ix3 0 k ⟨256 + x, by omega⟩)) *
      (if (x : ℕ) < 128 then ca (ix2 r 0) else cb (ix2 r 0)) *
    w2 (ix3 0 x d)

/-- The lane mask is set on the first 128 lanes. -/
theorem mask_at (x : Fin 256) (a b : EReal) :
    Scalar.select (IntOp.cmpi CmpIPredicate.slt (BitVec.ofNat 32 (x : ℕ)) 128#32) a b = if (x : ℕ) < 128 then a else b := by
  have hx := x.isLt
  by_cases h : (x : ℕ) < 128
  · rw [if_pos h]
    have : IntOp.cmpi CmpIPredicate.slt (BitVec.ofNat 32 (x : ℕ)) 128#32 = 1#1 := by word_cmp
    rw [this]; rfl
  · rw [if_neg h]
    have : IntOp.cmpi CmpIPredicate.slt (BitVec.ofNat 32 (x : ℕ)) 128#32 = 0#1 := by word_cmp
    rw [this]; rfl

/-- One pair's step: the accumulator plus what the pair adds. -/
theorem step_at (v0 : FVec Ideal S128x1024 .bf16) (w1 : FVec Ideal S1x1024x512 .bf16) (ca cb : FVec Ideal S128x1 .f32)
    (acc : FVec Ideal S128x1024 .f32) (w2 : FVec Ideal S1x256x1024 .bf16) (r : Fin 128) (d : Fin 1024) :
    k0_pay5 (F := Ideal) v0 k0_pay2 w1 ca cb acc w2 (ix2 r d) = acc (ix2 r d) + pairAdd v0 w1 ca cb w2 r d := by
  pointwise [k0_pay5, k0_pay2]
  simp only [mask_at]
  rfl

section Variants
variable (v0 : FVec Ideal S128x1024 .bf16) (w1 : FVec Ideal S1x1024x512 .bf16) (ca cb : FVec Ideal S128x1 .f32)
    (acc : FVec Ideal S128x1024 .f32) (w2 : FVec Ideal S1x256x1024 .bf16)

/-- The same step, spelt with other intermediate values. -/
theorem pay4_eq : k0_pay4 (F := Ideal) v0 w1 ca cb acc w2 = k0_pay5 v0 k0_pay2 w1 ca cb acc w2 := rfl
/-- The same step, spelt with other intermediate values. -/
theorem pay9_eq : k0_pay9 (F := Ideal) (k0_pay6 v0 w1) (k0_pay7 k0_pay2 ca cb) (k0_pay8 v0 w1) acc w2 = k0_pay5 v0 k0_pay2 w1 ca cb acc w2 := rfl
/-- The same step, spelt with other intermediate values. -/
theorem pay11_eq : k0_pay11 (F := Ideal) (k0_pay10 v0 k0_pay2 w1 ca cb acc w2) = k0_pay5 v0 k0_pay2 w1 ca cb acc w2 := rfl
/-- The same step, spelt with other intermediate values. -/
theorem pay12_eq : k0_pay12 (F := Ideal) v0 k0_pay2 w1 ca cb acc w2 = k0_pay5 v0 k0_pay2 w1 ca cb acc w2 := rfl
/-- The same step, spelt with other intermediate values. -/
theorem pay14_eq : k0_pay14 (F := Ideal) k0_pay2 (k0_pay13 v0 w1) ca cb acc w2 = k0_pay5 v0 k0_pay2 w1 ca cb acc w2 := rfl
/-- The same step, spelt with other intermediate values. -/
theorem pay16_eq : k0_pay16 (F := Ideal) acc (k0_pay15 v0 k0_pay2 w1 ca cb) w2 = k0_pay5 v0 k0_pay2 w1 ca cb acc w2 := rfl
/-- The same step, spelt with other intermediate values. -/
theorem pay17_eq : k0_pay17 (F := Ideal) v0 k0_pay2 w1 ca cb acc w2 = k0_pay5 v0 k0_pay2 w1 ca cb acc w2 := rfl
/-- The same step, spelt with other intermediate values. -/
theorem pay19_eq : k0_pay19 (F := Ideal) k0_pay2 (k0_pay18 v0 w1) ca cb acc w2 = k0_pay5 v0 k0_pay2 w1 ca cb acc w2 := rfl
/-- The same step, spelt with other intermediate values. -/
theorem pay21_eq : k0_pay21 (F := Ideal) (k0_pay20 v0 k0_pay2 w1 ca cb) acc w2 = k0_pay5 v0 k0_pay2 w1 ca cb acc w2 := rfl
/-- The same step, spelt with other intermediate values. -/
theorem pay22_eq : k0_pay22 (F := Ideal) v0 k0_pay2 w1 ca cb acc w2 = k0_pay5 v0 k0_pay2 w1 ca cb acc w2 := rfl
/-- The same step, spelt with other intermediate values. -/
theorem pay23_eq : k0_pay23 (F := Ideal) v0 k0_pay2 w1 ca cb acc w2 = k0_pay5 v0 k0_pay2 w1 ca cb acc w2 := rfl
/-- The same step, spelt with other intermediate values. -/
theorem pay27_eq : k0_pay27 (F := Ideal) (k0_pay24 v0 w1) (k0_pay25 k0_pay2 ca cb) (k0_pay26 v0 w1) acc w2 = k0_pay5 v0 k0_pay2 w1 ca cb acc w2 := rfl
/-- The same step, spelt with other intermediate values. -/
theorem pay29_eq : k0_pay29 (F := Ideal) (k0_pay28 v0 k0_pay2 w1 ca cb acc w2) = k0_pay5 v0 k0_pay2 w1 ca cb acc w2 := rfl
/-- The same step, spelt with other intermediate values. -/
theorem pay30_eq : k0_pay30 (F := Ideal) v0 k0_pay2 w1 ca cb acc w2 = k0_pay5 v0 k0_pay2 w1 ca cb acc w2 := rfl
/-- The same step, spelt with other intermediate values. -/
theorem pay1_eq : k0_pay1 (F := Ideal) k0_pay2 (k0_pay31 v0 w1) ca cb acc w2 = k0_pay5 v0 k0_pay2 w1 ca cb acc w2 := rfl

end Variants

/-- The reference's result as one term of its six arguments. -/
def REF (h : FVec Ideal S128x1024 .f32) (t : FVec Ideal S128x1024 .bf16) (cm : FVec Ideal S128x128 .f32)
    (wg wu : FVec Ideal S32x1024x128 .f32) (wd : FVec Ideal S32x128x1024 .f32) : FVec Ideal S128x1024 .f32 :=
  addf h (Host.dotGeneral Cert.MoeSampleRefIdeal.dot_S128x32x128_S32x128x1024_S128x1024_12_01_0_2_n_n none
    (mulf (mulf (mulf (Host.dotGeneral Cert.MoeSampleRefIdeal.dot_S128x1024_S32x1024x128_S128x32x128_1_1_0_02_n_n none (extf .f32 t Cert.MoeSampleRefIdeal.Gen.bitsLt_bf16_f32) wg)
      (Host.divf (broadcastInDim Cert.MoeSampleRefIdeal.S128x32x128 ![] Cert.MoeSampleRefIdeal.Gen.bcast_S_S128x32x128 (constant Cert.MoeSampleRefIdeal.S_ .f32 0x3F800000#32))
        (addf (broadcastInDim Cert.MoeSampleRefIdeal.S128x32x128 ![] Cert.MoeSampleRefIdeal.Gen.bcast_S_S128x32x128 (constant Cert.MoeSampleRefIdeal.S_ .f32 0x3F800000#32))
          (Host.exp (Host.negf (Host.dotGeneral Cert.MoeSampleRefIdeal.dot_S128x1024_S32x1024x128_S128x32x128_1_1_0_02_n_n none (extf .f32 t Cert.MoeSampleRefIdeal.Gen.bitsLt_bf16_f32) wg))))))
      (Host.dotGeneral Cert.MoeSampleRefIdeal.dot_S128x1024_S32x1024x128_S128x32x128_1_1_0_02_n_n none (extf .f32 t Cert.MoeSampleRefIdeal.Gen.bitsLt_bf16_f32) wu))
      (broadcastInDim Cert.MoeSampleRefIdeal.S128x32x128 ![0, 1, 2] Cert.MoeSampleRefIdeal.Gen.bcast_S128x32x1_S128x32x128_0_1_2
        (broadcastInDim Cert.MoeSampleRefIdeal.S128x32x1 ![0, 1] Cert.MoeSampleRefIdeal.Gen.bcast_S128x32_S128x32x1_0_1
          (extractStridedSlice Cert.MoeSampleRefIdeal.S128x32 ![0, 32] cm Cert.MoeSampleRefIdeal.Gen.slices_S128x128_S128x32_0_32)))) wd)

/-- The contribution of expert `e`, hidden lane `f`, to the result at row `R`, lane `d`. -/
def term (t : FVec Ideal S128x1024 .bf16) (cm : FVec Ideal S128x128 .f32)
    (wg wu : FVec Ideal S32x1024x128 .f32) (wd : FVec Ideal S32x128x1024 .f32) (R : Fin 128) (d : Fin 1024)
    (e : Fin 32) (f : Fin 128) : EReal :=
  ((∑ k : Fin 1024, t (ix2 R k) * wg (ix3 e k f)) * Ideal.logistic (∑ k : Fin 1024, t (ix2 R k) * wg (ix3 e k f)) *
      ∑ k : Fin 1024, t (ix2 R k) * wu (ix3 e k f)) *
    cm (ix2 R ⟨32 + (e : ℕ), by omega⟩) *
  wd (ix3 e f d)

/-- The reference at an index: the residual plus every expert's contribution. -/
theorem ref_at (h : FVec Ideal S128x1024 .f32) (t : FVec Ideal S128x1024 .bf16) (cm : FVec Ideal S128x128 .f32)
    (wg wu : FVec Ideal S32x1024x128 .f32) (wd : FVec Ideal S32x128x1024 .f32) (R : Fin 128) (d : Fin 1024) :
    REF h t cm wg wu wd (ix2 R d) = h (ix2 R d) + ∑ e : Fin 32, ∑ f : Fin 128, term t cm wg wu wd R d e f := by
  unfold term Ideal.logistic
  pointwise [REF]

/-- Sixteen additions in a row are one sum. -/
theorem chain (h : EReal) (P : Fin 16 → EReal) :
    h + P 0 + P 1 + P 2 + P 3 + P 4 + P 5 + P 6 + P 7 + P 8 + P 9 + P 10 + P 11 + P 12 + P 13 + P 14 + P 15 = h + ∑ p, P p := by
  simp only [Fin.sum_univ_succ, Fin.sum_univ_zero, add_zero, ← add_assoc]
  rfl

/-- The experts taken two by two, the hidden lanes of a pair in one row of 256. -/
theorem pairs (F : Fin 32 → Fin 128 → EReal) :
    ∑ e, ∑ f, F e f = ∑ p : Fin 16, (∑ f : Fin 128, F ⟨p * 2 + 0, by omega⟩ f + ∑ f : Fin 128, F ⟨p * 2 + 1, by omega⟩ f) := by
  rw [Fin.sum_univ_tiles 16 2 rfl (fun e : Fin 32 => ∑ f, F e f)]
  refine Finset.sum_congr rfl fun p _ => ?_
  rw [Fin.sum_univ_two]
  rfl

/-- What a pair adds is its two experts' contributions, when its operands are the pair's rows and columns. -/
theorem pairAdd_eq (v0 : FVec Ideal S128x1024 .bf16) (w1 : FVec Ideal S1x1024x512 .bf16) (ca cb : FVec Ideal S128x1 .f32)
    (w2 : FVec Ideal S1x256x1024 .bf16) (r : Fin 128) (d : Fin 1024)
    (t : FVec Ideal S128x1024 .bf16) (cm : FVec Ideal S128x128 .f32)
    (wg wu : FVec Ideal S32x1024x128 .f32) (wd : FVec Ideal S32x128x1024 .f32) (R : Fin 128) (p : Fin 16)
    (ht : ∀ k, v0 (ix2 r k) = t (ix2 R k))
    (hg0 : ∀ k (f : Fin 128), w1 (ix3 0 k ⟨f, by omega⟩) = wg (ix3 ⟨p * 2 + 0, by omega⟩ k f))
    (hg1 : ∀ k (f : Fin 128), w1 (ix3 0 k ⟨128 + f, by omega⟩) = wg (ix3 ⟨p * 2 + 1, by omega⟩ k f))
    (hu0 : ∀ k (f : Fin 128), w1 (ix3 0 k ⟨256 + f, by omega⟩) = wu (ix3 ⟨p * 2 + 0, by omega⟩ k f))
    (hu1 : ∀ k (f : Fin 128), w1 (ix3 0 k ⟨384 + f, by omega⟩) = wu (ix3 ⟨p * 2 + 1, by omega⟩ k f))
    (hca : ca (ix2 r 0) = cm (ix2 R ⟨32 + (p * 2 + 0), by omega⟩))
    (hcb : cb (ix2 r 0) = cm (ix2 R ⟨32 + (p * 2 + 1), by omega⟩))
    (hd0 : ∀ (f : Fin 128), w2 (ix3 0 ⟨f, by omega⟩ d) = wd (ix3 ⟨p * 2 + 0, by omega⟩ f d))
    (hd1 : ∀ (f : Fin 128), w2 (ix3 0 ⟨128 + f, by omega⟩ d) = wd (ix3 ⟨p * 2 + 1, by omega⟩ f d)) :
    pairAdd v0 w1 ca cb w2 r d
      = ∑ f : Fin 128, term t cm wg wu wd R d ⟨p * 2 + 0, by omega⟩ f
        + ∑ f : Fin 128, term t cm wg wu wd R d ⟨p * 2 + 1, by omega⟩ f := by
  unfold pairAdd
  rw [Fin.sum_univ_two_halves 128 128 rfl]
  refine congrArg₂ (· + ·) (Finset.sum_congr rfl fun f _ => ?_) (Finset.sum_congr rfl fun f _ => ?_)
  · unfold term
    have h : ((f : Fin 128) : ℕ) < 128 := f.isLt
    simp only [Fin.val_castLE, h, if_true, ht, hg0, hu0, hca, hd0]
  · unfold term
    have h : ¬ (128 + (f : ℕ) < 128) := by omega
    have e : ∀ (h' : 256 + (128 + (f : ℕ)) < 512), (⟨256 + (128 + (f : ℕ)), h'⟩ : Fin 512) = ⟨384 + (f : ℕ), by omega⟩ :=
      fun _ => Fin.ext (by show 256 + (128 + (f : ℕ)) = 384 + f; omega)
    simp only [h, if_false, ht, hg1, hu1, hcb, hd1, e]

end Cert.MoeSampleIdeal.Ffn
-- ==== Proof.MoeSampleWeights.lean ====
module

public import proofs.«01_k».proof.Proof.Gen.MoeSampleIdeal.Value
public import proofs.«01_k».proof.Proof.MoeSampleMath
public import proofs.«01_k».proof.Proof.Gen.MoeSampleRefIdeal.Run
public import Idealize.ShloMosaic.Lib.Pointwise
public import Idealize.ShloMosaic.Lib.Pipeline.ValueKit
public import Idealize.ShloMosaic.Lib.Pipeline.FrameTail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MoeSampleIdeal.Ffn

open Cert.MoeSampleIdeal Cert.MoeSampleIdeal.Gen

variable (m : (ℓ : Loc nD τ sig) → Buf (Elt Ideal) ℓ)

/-- Where each window's block sits at every grid point. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![t.val, 0] :=
  (by decide +kernel : ∀ t : Fin grid0.N, _)

/-- The gate and up weights as the kernel finds them. -/
abbrev W1 (c : Dev nD) : FVec Ideal S16x1024x512 .bf16 := V m c main_v11
/-- The down weights as the kernel finds them. -/
abbrev W2 (c : Dev nD) : FVec Ideal S16x256x1024 .bf16 := V m c main_v13
/-- The gate weights. -/
abbrev Wg (c : Dev nD) : FVec Ideal S32x1024x128 .f32 := m ((c : Thread nD τ).loc main_arg3)
/-- The up weights. -/
abbrev Wu (c : Dev nD) : FVec Ideal S32x1024x128 .f32 := m ((c : Thread nD τ).loc main_arg4)
/-- The down weights. -/
abbrev Wd (c : Dev nD) : FVec Ideal S32x128x1024 .f32 := m ((c : Thread nD τ).loc main_arg5)

/-- The joined gate and up weights as one term of the two arguments. -/
def joined (wg wu : FVec Ideal S32x1024x128 .f32) : FVec Ideal S16x1024x512 .bf16 :=
  truncf .bf16 (concatenate S16x1024x512 2
    [⟨S16x1024x128, shapeCast S16x1024x128 (extractStridedSlice S16x1x1024x128 ![0, 0, 0, 0] (shapeCast S16x2x1024x128 wg shapeCasts_S32x1024x128_S16x2x1024x128) slices_S16x2x1024x128_S16x1x1024x128_0_0_0_0) shapeCasts_S16x1x1024x128_S16x1024x128⟩,
     ⟨S16x1024x128, shapeCast S16x1024x128 (extractStridedSlice S16x1x1024x128 ![0, 1, 0, 0] (shapeCast S16x2x1024x128 wg shapeCasts_S32x1024x128_S16x2x1024x128) slices_S16x2x1024x128_S16x1x1024x128_0_1_0_0) shapeCasts_S16x1x1024x128_S16x1024x128⟩,
     ⟨S16x1024x128, shapeCast S16x1024x128 (extractStridedSlice S16x1x1024x128 ![0, 0, 0, 0] (shapeCast S16x2x1024x128 wu shapeCasts_S32x1024x128_S16x2x1024x128) slices_S16x2x1024x128_S16x1x1024x128_0_0_0_0) shapeCasts_S16x1x1024x128_S16x1024x128⟩,
     ⟨S16x1024x128, shapeCast S16x1024x128 (extractStridedSlice S16x1x1024x128 ![0, 1, 0, 0] (shapeCast S16x2x1024x128 wu shapeCasts_S32x1024x128_S16x2x1024x128) slices_S16x2x1024x128_S16x1x1024x128_0_1_0_0) shapeCasts_S16x1x1024x128_S16x1024x128⟩]
    concatenates_S16x1024x128_S16x1024x128_S16x1024x128_S16x1024x128_S16x1024x512_d2) bitsLt_bf16_f32

/-- The kernel finds the joined weights. -/
theorem W1_eq (c : Dev nD) : W1 m c = joined (Wg m c) (Wu m c) := by
  unfold W1 V hostOps0
  after_region_results
  rfl

/-- Lanes of the joined weights (g0). -/
theorem joined_g0 (wg wu : FVec Ideal S32x1024x128 .f32) (p : Fin 16) (k : Fin 1024) (f : Fin 128) :
    joined wg wu (ix3 p k ⟨f, by omega⟩) = wg (ix3 ⟨p * 2 + 0, by omega⟩ k f) := by
  have hf := f.isLt
  pointwise [joined]

/-- Lanes of the joined weights (g1). -/
theorem joined_g1 (wg wu : FVec Ideal S32x1024x128 .f32) (p : Fin 16) (k : Fin 1024) (f : Fin 128) :
    joined wg wu (ix3 p k ⟨128 + f, by omega⟩) = wg (ix3 ⟨p * 2 + 1, by omega⟩ k f) := by
  have hf := f.isLt
  pointwise [joined]

/-- Lanes of the joined weights (u0). -/
theorem joined_u0 (wg wu : FVec Ideal S32x1024x128 .f32) (p : Fin 16) (k : Fin 1024) (f : Fin 128) :
    joined wg wu (ix3 p k ⟨256 + f, by omega⟩) = wu (ix3 ⟨p * 2 + 0, by omega⟩ k f) := by
  have hf := f.isLt
  pointwise [joined]
  rw [dif_neg (show ¬ 256 + (f : ℕ) < 128 by omega), dif_neg (show ¬ 256 + (f : ℕ) - 128 < 128 by omega), dif_pos (show 256 + (f : ℕ) - 128 - 128 < 128 by omega)]
  exact congrArg wu ((ix3_inj ..).2 ⟨rfl, rfl, Fin.ext (by show 256 + (f : ℕ) - 128 - 128 = f; omega)⟩)

/-- Lanes of the joined weights (u1). -/
theorem joined_u1 (wg wu : FVec Ideal S32x1024x128 .f32) (p : Fin 16) (k : Fin 1024) (f : Fin 128) :
    joined wg wu (ix3 p k ⟨384 + f, by omega⟩) = wu (ix3 ⟨p * 2 + 1, by omega⟩ k f) := by
  have hf := f.isLt
  pointwise [joined]
  rw [dif_neg (show ¬ 384 + (f : ℕ) < 128 by omega), dif_neg (show ¬ 384 + (f : ℕ) - 128 < 128 by omega), dif_neg (show ¬ 384 + (f : ℕ) - 128 - 128 < 128 by omega)]
  exact congrArg wu ((ix3_inj ..).2 ⟨rfl, rfl, Fin.ext (by show 384 + (f : ℕ) - 128 - 128 - 128 = f; omega)⟩)

/-- Rows of the joined down weights, read in the argument (d0). -/
theorem W2_d0 (c : Dev nD) (p : Fin 16) (f : Fin 128) (d : Fin 1024) :
    W2 m c (ix3 p ⟨f, by omega⟩ d) = Wd m c (ix3 ⟨p * 2 + 0, by omega⟩ f d) := by
  have hf := f.isLt
  unfold W2
  entry_read
  pointwise
  refine congrArg (Wd m c) ((ix3_inj ..).2 ⟨Fin.ext ?_, Fin.ext ?_, rfl⟩)
  · show (p : ℕ) * 2 + (f) / 128 = p * 2 + 0; omega
  · show (f) % 128 = (f : ℕ); omega

/-- Rows of the joined down weights, read in the argument (d1). -/
theorem W2_d1 (c : Dev nD) (p : Fin 16) (f : Fin 128) (d : Fin 1024) :
    W2 m c (ix3 p ⟨128 + f, by omega⟩ d) = Wd m c (ix3 ⟨p * 2 + 1, by omega⟩ f d) := by
  have hf := f.isLt
  unfold W2
  entry_read
  pointwise
  refine congrArg (Wd m c) ((ix3_inj ..).2 ⟨Fin.ext ?_, Fin.ext ?_, rfl⟩)
  · show (p : ℕ) * 2 + (128 + f) / 128 = p * 2 + 1; omega
  · show (128 + f) % 128 = (f : ℕ); omega

end Cert.MoeSampleIdeal.Ffn
-- ==== Proof.MoeSampleValue.lean ====
module

public import proofs.«01_k».proof.Proof.Gen.MoeSampleIdeal.Value
public import proofs.«01_k».proof.Proof.MoeSampleMath
public import proofs.«01_k».proof.Proof.MoeSampleWeights
public import proofs.«01_k».proof.Proof.Gen.MoeSampleRefIdeal.Run
public import Idealize.ShloMosaic.Lib.Pointwise
public import Idealize.ShloMosaic.Lib.Pipeline.ValueKit
public import Idealize.ShloMosaic.Lib.Pipeline.FrameTail
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MoeSampleIdeal.Ffn

open Cert.MoeSampleIdeal Cert.MoeSampleIdeal.Gen

variable (m : (ℓ : Loc nD τ sig) → Buf (Elt Ideal) ℓ)

/-- The row of the arrays that row `r` of the point's blocks is. -/
def row (t : Fin cfg0.N) (r : Fin 128) : Fin 128 :=
  ⟨t.val * 128 + r, by have h := lt_of_lt_of_eq t.isLt N_0; omega⟩

/-- The accumulator starts as the residual. -/
theorem pay3_at (h : FVec Ideal S128x1024 .f32) (r : Fin 128) (d : Fin 1024) : k0_pay3 (F := Ideal) h (ix2 r d) = h (ix2 r d) := by
  pointwise [k0_pay3]

/-- One pair's gate and up weights, read out of the joined array. -/
theorem ld_w1 (X : FVec Ideal S16x1024x512 .bf16) (p : Fin 16) (inb) (k : Fin 1024) (f : Fin 512) :
    View.ld (Val := Elt Ideal) (e' := .bf16) X (Rect.unit (s := S16x1024x512) ![p, 0, 0] ![1, 1024, 512] inb) (ix3 0 k f) = X (ix3 p k f) := by
  pointwise

/-- One pair's down weights, read out of the joined array. -/
theorem ld_w2 (X : FVec Ideal S16x256x1024 .bf16) (p : Fin 16) (inb) (k : Fin 256) (f : Fin 1024) :
    View.ld (Val := Elt Ideal) (e' := .bf16) X (Rect.unit (s := S16x256x1024) ![p, 0, 0] ![1, 256, 1024] inb) (ix3 0 k f) = X (ix3 p k f) := by
  pointwise

/-- One expert's column of the routing weights. -/
theorem ld_cm (X : FVec Ideal S128x128 .f32) (p : Fin 128) (inb) (r : Fin 128) :
    View.ld (Val := Elt Ideal) (e' := .f32) X (Rect.unit (s := S128x128) ![0, p] ![128, 1] inb) (ix2 r 0) = X (ix2 r p) := by
  pointwise

/-- What the kernel's step `p` adds, in terms of the arguments: the contributions of experts `2p` and `2p + 1`. -/
theorem pair_at (c : Dev nD) (x1 : FVec Ideal S128x1024 .bf16) (x2 : FVec Ideal S128x128 .f32) (r : Fin 128) (d : Fin 1024)
    (T : FVec Ideal S128x1024 .bf16) (cm : FVec Ideal S128x128 .f32) (R : Fin 128) (p : Fin 16)
    (e1 : ∀ k, x1 (ix2 r k) = T (ix2 R k)) (e2 : ∀ k, x2 (ix2 r k) = cm (ix2 R k)) (i1 i2 i3 i4) :
    pairAdd x1 (View.ld (Val := Elt Ideal) (e' := .bf16) (joined (Wg m c) (Wu m c)) (Rect.unit (s := S16x1024x512) ![p, 0, 0] ![1, 1024, 512] i1))
        (View.ld (Val := Elt Ideal) (e' := .f32) x2 (Rect.unit (s := S128x128) ![0, 32 + (p * 2 + 0)] ![128, 1] i2))
        (View.ld (Val := Elt Ideal) (e' := .f32) x2 (Rect.unit (s := S128x128) ![0, 32 + (p * 2 + 1)] ![128, 1] i3))
        (View.ld (Val := Elt Ideal) (e' := .bf16) (W2 m c) (Rect.unit (s := S16x256x1024) ![p, 0, 0] ![1, 256, 1024] i4)) r d
      = ∑ f : Fin 128, term T cm (Wg m c) (Wu m c) (Wd m c) R d ⟨p * 2 + 0, by omega⟩ f
        + ∑ f : Fin 128, term T cm (Wg m c) (Wu m c) (Wd m c) R d ⟨p * 2 + 1, by omega⟩ f :=
  pairAdd_eq _ _ _ _ _ r d T cm _ _ _ R p e1
    (fun k f => (ld_w1 _ p _ k _).trans (joined_g0 _ _ p k f)) (fun k f => (ld_w1 _ p _ k _).trans (joined_g1 _ _ p k f))
    (fun k f => (ld_w1 _ p _ k _).trans (joined_u0 _ _ p k f)) (fun k f => (ld_w1 _ p _ k _).trans (joined_u1 _ _ p k f))
    ((ld_cm _ ⟨32 + (p * 2 + 0), by omega⟩ _ r).trans (e2 _)) ((ld_cm _ ⟨32 + (p * 2 + 1), by omega⟩ _ r).trans (e2 _))
    (fun f => (ld_w2 _ p _ _ d).trans (W2_d0 m c p f d)) (fun f => (ld_w2 _ p _ _ d).trans (W2_d1 m c p f d))

set_option maxHeartbeats 2000000 in
/-- The result array is the reference's term of the arguments. -/
theorem final (c : Dev nD) : (dats m 0 c).arrAt 5 (cfgs 0).N
    = REF (m ((c : Thread nD τ).loc main_arg0)) (m ((c : Thread nD τ).loc main_arg1)) (m ((c : Thread nD τ).loc main_arg2))
        (Wg m c) (Wu m c) (Wd m c) := by
  refine (dats m 0 c).arrAt_eq_of_covers 5 _ (by decide +kernel) fun t _ y => ?_
  blk_simp
  rw [after0_5]; unfold Gen.outsAt0; frame_out
  simp only [pay4_eq, pay9_eq, pay11_eq, pay12_eq, pay14_eq, pay16_eq, pay17_eq, pay19_eq, pay21_eq, pay22_eq, pay23_eq,
    pay27_eq, pay29_eq, pay30_eq, pay1_eq]
  obtain ⟨r, d, rfl⟩ : ∃ (r : Fin 128) (d : Fin 1024), y = ix2 r d := ⟨y 0, y 1, eq_ix2 y⟩
  have hy : ((cfg0.win 5).blk t).view.emb (ix2 r d) = (ix2 (row t r) d : S128x1024.Idx) := by
    unfold row; blk_ext [idx t]
  rw [show (((View.whole main_v14).slice (win0_5.rect t)).emb (ix2 r d)) = (ix2 (row t r) d : S128x1024.Idx) from hy]
  rw [ref_at, pairs, ← chain]
  simp only [step_at]
  have e0 : ∀ (r : Fin 128) (k : Fin 1024), (show FVec Ideal S128x1024 .f32 from iblk m c 0 t) (ix2 r k)
      = (show FVec Ideal S128x1024 .f32 from m ((c : Thread nD τ).loc main_arg0)) (ix2 (row t r) k) := by
    intro r k; unfold row; blk_ext [iblk, V, idx t]
  have e1 : ∀ (r : Fin 128) (k : Fin 1024), (show FVec Ideal S128x1024 .bf16 from iblk m c 1 t) (ix2 r k)
      = (show FVec Ideal S128x1024 .bf16 from m ((c : Thread nD τ).loc main_arg1)) (ix2 (row t r) k) := by
    intro r k; unfold row; blk_ext [iblk, V, idx t]
  have e2 : ∀ (r : Fin 128) (k : Fin 128), (show FVec Ideal S128x128 .f32 from iblk m c 2 t) (ix2 r k)
      = (show FVec Ideal S128x128 .f32 from m ((c : Thread nD τ).loc main_arg2)) (ix2 (row t r) k) := by
    intro r k; unfold row; blk_ext [iblk, V, idx t]
  have e3 : iblk m c 3 t = joined (Wg m c) (Wu m c) := by
    rw [← W1_eq]; blk_ext! [iblk, idx t]
  have e4 : iblk m c 4 t = W2 m c := by
    blk_ext! [iblk, idx t]
  rw [e3, e4]
  iterate 16 refine Ideal.add_congr ?_ ?_
  · exact (pay3_at _ r d).trans (e0 r d)
  · exact pair_at m c _ _ r d _ _ (row t r) 0 (e1 r) (e2 r) _ _ _ _
  · exact pair_at m c _ _ r d _ _ (row t r) 1 (e1 r) (e2 r) _ _ _ _
  · exact pair_at m c _ _ r d _ _ (row t r) 2 (e1 r) (e2 r) _ _ _ _
  · exact pair_at m c _ _ r d _ _ (row t r) 3 (e1 r) (e2 r) _ _ _ _
  · exact pair_at m c _ _ r d _ _ (row t r) 4 (e1 r) (e2 r) _ _ _ _
  · exact pair_at m c _ _ r d _ _ (row t r) 5 (e1 r) (e2 r) _ _ _ _
  · exact pair_at m c _ _ r d _ _ (row t r) 6 (e1 r) (e2 r) _ _ _ _
  · exact pair_at m c _ _ r d _ _ (row t r) 7 (e1 r) (e2 r) _ _ _ _
  · exact pair_at m c _ _ r d _ _ (row t r) 8 (e1 r) (e2 r) _ _ _ _
  · exact pair_at m c _ _ r d _ _ (row t r) 9 (e1 r) (e2 r) _ _ _ _
  · exact pair_at m c _ _ r d _ _ (row t r) 10 (e1 r) (e2 r) _ _ _ _
  · exact pair_at m c _ _ r d _ _ (row t r) 11 (e1 r) (e2 r) _ _ _ _
  · exact pair_at m c _ _ r d _ _ (row t r) 12 (e1 r) (e2 r) _ _ _ _
  · exact pair_at m c _ _ r d _ _ (row t r) 13 (e1 r) (e2 r) _ _ _ _
  · exact pair_at m c _ _ r d _ _ (row t r) 14 (e1 r) (e2 r) _ _ _ _
  · exact pair_at m c _ _ r d _ _ (row t r) 15 (e1 r) (e2 r) _ _ _ _

end Cert.MoeSampleIdeal.Ffn

end
-- ==== Proof.MoeSampleClaim.lean ====
module

public import proofs.«01_k».proof.Defs
public import proofs.«01_k».proof.Proof.MoeSampleValue
public import proofs.«01_k».proof.Proof.Gen.MoeSampleRefIdeal
public import proofs.«01_k».proof.Proof.Gen.MoeSampleRefIdeal.Run
public import Idealize.ShloMosaic.Lib.Claim

@[expose] public section

set_option maxRecDepth 16384

noncomputable section

open Idealize.ShloMosaic Idealize.ShloMosaic.TcCoe Idealize.SL.Sem

namespace Cert.SampleExperts

/-- The expert mixture's kernel and the plain mathematics of the mixture, run on the same six arrays, end with
equal results over the extended reals. -/
theorem algebraic : Cert.algebraic_MoeSampleIdeal_MoeSampleRefIdeal := by
  pair_intro
  · run_from Cert.MoeSampleIdeal.Gen.run_main m g
  · run_from Cert.MoeSampleRefIdeal.Value.run m' g'
    exact (Cert.MoeSampleIdeal.Ffn.final m c).symm

end Cert.SampleExperts

end
-- ==== Proof.lean ====
/- The proof of the certificate's claim: every conjunct is put together here from the runs of the programs and the
value theorems of the modules beside this one. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.AttnSample
public import proofs.«01_k».proof.Proof.Gen.AttnSample.Frame
public import proofs.«01_k».proof.Proof.Gen.AttnSampleIdeal
public import proofs.«01_k».proof.Proof.Gen.AttnSampleIdeal.Frame
public import proofs.«01_k».proof.Proof.Gen.SsdSample
public import proofs.«01_k».proof.Proof.Gen.SsdSample.Frame
public import proofs.«01_k».proof.Proof.Gen.SsdSampleIdeal
public import proofs.«01_k».proof.Proof.Gen.SsdSampleIdeal.Frame
public import proofs.«01_k».proof.Proof.Gen.MoeSample
public import proofs.«01_k».proof.Proof.Gen.MoeSample.Frame
public import proofs.«01_k».proof.Proof.Gen.MoeSampleIdeal
public import proofs.«01_k».proof.Proof.Gen.MoeSampleIdeal.Frame
public import proofs.«01_k».proof.Proof.Gen.ReferenceIdeal
public import proofs.«01_k».proof.Proof.Gen.ReferenceIdeal.Run
public import proofs.«01_k».proof.Proof.Gen.MoeRefIdeal
public import proofs.«01_k».proof.Proof.Gen.MoeRefIdeal.Run
public import proofs.«01_k».proof.Proof.Gen.InprojRefIdeal
public import proofs.«01_k».proof.Proof.Gen.InprojRefIdeal.Run
public import proofs.«01_k».proof.Proof.Gen.OutprojRefIdeal
public import proofs.«01_k».proof.Proof.Gen.OutprojRefIdeal.Run
public import proofs.«01_k».proof.Proof.Gen.AttnSampleRefIdeal
public import proofs.«01_k».proof.Proof.Gen.AttnSampleRefIdeal.Run
public import proofs.«01_k».proof.Proof.Gen.SsdSampleRefIdeal
public import proofs.«01_k».proof.Proof.Gen.SsdSampleRefIdeal.Run
public import proofs.«01_k».proof.Proof.Gen.MoeSampleRefIdeal
public import proofs.«01_k».proof.Proof.Gen.MoeSampleRefIdeal.Run
public import proofs.«01_k».proof.Proof.Gen.Pre_scores_finite
public import proofs.«01_k».proof.Proof.Gen.Pre_inputs_finite
public import proofs.«01_k».proof.Proof.MoeClaim
public import proofs.«01_k».proof.Proof.AttnClaim
public import proofs.«01_k».proof.Proof.InprojClaim
public import proofs.«01_k».proof.Proof.OutprojClaim
public import proofs.«01_k».proof.Proof.AttnSampleClaim
public import proofs.«01_k».proof.Proof.SsdSampleClaim
public import proofs.«01_k».proof.Proof.MoeSampleClaim
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference program `ReferenceIdeal` runs and leaves its arguments as they were. -/
theorem frame_ReferenceIdeal : Cert.quiescent_ReferenceIdeal := by
  intro m g _
  exact (θ_run Cert.ReferenceIdeal.defs _ _).mono (fun s h => ⟨fun c => (h c).2, sem_eq_zero_of_no_sems (by decide) s.2⟩)
    (Cert.ReferenceIdeal.Value.run m g)

/-- The reference program `MoeRefIdeal` runs and leaves its arguments as they were. -/
theorem frame_MoeRefIdeal : Cert.quiescent_MoeRefIdeal := by
  intro m g _
  exact (θ_run Cert.MoeRefIdeal.defs _ _).mono (fun s h => ⟨fun c => (h c).2, sem_eq_zero_of_no_sems (by decide) s.2⟩)
    (Cert.MoeRefIdeal.Value.run m g)

/-- The reference program `InprojRefIdeal` runs and leaves its arguments as they were. -/
theorem frame_InprojRefIdeal : Cert.quiescent_InprojRefIdeal := by
  intro m g _
  exact (θ_run Cert.InprojRefIdeal.defs _ _).mono (fun s h => ⟨fun c => (h c).2.2.2.2.2.2.2.2.2, sem_eq_zero_of_no_sems (by decide) s.2⟩)
    (Cert.InprojRefIdeal.Value.run m g)

/-- The reference program `OutprojRefIdeal` runs and leaves its arguments as they were. -/
theorem frame_OutprojRefIdeal : Cert.quiescent_OutprojRefIdeal := by
  intro m g _
  exact (θ_run Cert.OutprojRefIdeal.defs _ _).mono (fun s h => ⟨fun c => (h c).2.2, sem_eq_zero_of_no_sems (by decide) s.2⟩)
    (Cert.OutprojRefIdeal.Value.run m g)

/-- The reference program `AttnSampleRefIdeal` runs and leaves its arguments as they were. -/
theorem frame_AttnSampleRefIdeal : Cert.quiescent_AttnSampleRefIdeal := by
  intro m g _
  exact (θ_run Cert.AttnSampleRefIdeal.defs _ _).mono (fun s h => ⟨fun c => (h c).2.2, sem_eq_zero_of_no_sems (by decide) s.2⟩)
    (Cert.AttnSampleRefIdeal.Value.run m g)

/-- The reference program `SsdSampleRefIdeal` runs and leaves its arguments as they were. -/
theorem frame_SsdSampleRefIdeal : Cert.quiescent_SsdSampleRefIdeal := by
  intro m g _
  exact (θ_run Cert.SsdSampleRefIdeal.defs _ _).mono (fun s h => ⟨fun c => (h c).2, sem_eq_zero_of_no_sems (by decide) s.2⟩)
    (Cert.SsdSampleRefIdeal.Value.run m g)

/-- The reference program `MoeSampleRefIdeal` runs and leaves its arguments as they were. -/
theorem frame_MoeSampleRefIdeal : Cert.quiescent_MoeSampleRefIdeal := by
  intro m g _
  exact (θ_run Cert.MoeSampleRefIdeal.defs _ _).mono (fun s h => ⟨fun c => (h c).2, sem_eq_zero_of_no_sems (by decide) s.2⟩)
    (Cert.MoeSampleRefIdeal.Value.run m g)

/-- Everything claimed of the programs. -/
theorem claim : Cert.Claim :=
  ⟨Cert.Kernel.Gen.facts, Cert.KernelIdeal.Gen.facts, Cert.ReferenceIdeal.Gen.facts, Cert.Moe.Gen.facts, Cert.MoeIdeal.Gen.facts, Cert.MoeRefIdeal.Gen.facts, Cert.Inproj.Gen.facts, Cert.InprojIdeal.Gen.facts, Cert.InprojRefIdeal.Gen.facts, Cert.Outproj.Gen.facts, Cert.OutprojIdeal.Gen.facts, Cert.OutprojRefIdeal.Gen.facts, Cert.AttnSample.Gen.facts, Cert.AttnSampleIdeal.Gen.facts, Cert.AttnSampleRefIdeal.Gen.facts, Cert.SsdSample.Gen.facts, Cert.SsdSampleIdeal.Gen.facts, Cert.SsdSampleRefIdeal.Gen.facts, Cert.MoeSample.Gen.facts, Cert.MoeSampleIdeal.Gen.facts, Cert.MoeSampleRefIdeal.Gen.facts, Cert.Pre_scores_finite.Gen.facts, Cert.Pre_inputs_finite.Gen.facts,
    fun m g _ => Cert.Kernel.Gen.frame m g,
    fun m g _ => Cert.KernelIdeal.Gen.frame m g,
    fun m g _ => Cert.KernelIdeal.Gen.frame m g,
    frame_ReferenceIdeal,
    fun m g _ => frame_ReferenceIdeal m g trivial,
    fun m g _ => Cert.Moe.Gen.frame m g,
    fun m g _ => Cert.MoeIdeal.Gen.frame m g,
    frame_MoeRefIdeal,
    fun m g _ => Cert.Inproj.Gen.frame m g,
    fun m g _ => Cert.InprojIdeal.Gen.frame m g,
    fun m g _ => Cert.InprojIdeal.Gen.frame m g,
    frame_InprojRefIdeal,
    fun m g _ => frame_InprojRefIdeal m g trivial,
    fun m g _ => Cert.Outproj.Gen.frame m g,
    fun m g _ => Cert.OutprojIdeal.Gen.frame m g,
    frame_OutprojRefIdeal,
    fun m g _ => Cert.AttnSample.Gen.frame m g,
    fun m g _ => Cert.AttnSampleIdeal.Gen.frame m g,
    frame_AttnSampleRefIdeal,
    fun m g _ => Cert.SsdSample.Gen.frame m g,
    fun m g _ => Cert.SsdSampleIdeal.Gen.frame m g,
    frame_SsdSampleRefIdeal,
    fun m g _ => Cert.MoeSample.Gen.frame m g,
    fun m g _ => Cert.MoeSampleIdeal.Gen.frame m g,
    frame_MoeSampleRefIdeal,
    trivial,
    Cert.Attn.Claims.algebraic,
    trivial,
    Cert.Moe.Claims.algebraic,
    trivial,
    Cert.Projection.algebraic,
    trivial,
    Cert.OutputProjection.algebraic,
    trivial,
    Cert.SampleWindows.algebraic,
    trivial,
    Cert.SampleRecurrence.algebraic,
    trivial,
    Cert.SampleExperts.algebraic⟩

end Cert.Proof

end
